-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v27)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v52)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v52) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v142) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S8192x1280 : Shape := ⟨2, ![8192, 1280]⟩
abbrev S8192x3072 : Shape := ⟨2, ![8192, 3072]⟩
abbrev S2x11x4096x64 : Shape := ⟨4, ![2, 11, 4096, 64]⟩
abbrev S2x1024x4096 : Shape := ⟨3, ![2, 1024, 4096]⟩
abbrev S8192x20x64 : Shape := ⟨3, ![8192, 20, 64]⟩
abbrev S20x8192x64 : Shape := ⟨3, ![20, 8192, 64]⟩
abbrev S8192x512 : Shape := ⟨2, ![8192, 512]⟩
abbrev S8x256x64 : Shape := ⟨3, ![8, 256, 64]⟩
abbrev S4x256x64 : Shape := ⟨3, ![4, 256, 64]⟩
abbrev S256x128 : Shape := ⟨2, ![256, 128]⟩
abbrev S1x1x4096x64 : Shape := ⟨4, ![1, 1, 4096, 64]⟩
abbrev S1x8x4096x64 : Shape := ⟨4, ![1, 8, 4096, 64]⟩
abbrev S1x512x4096 : Shape := ⟨3, ![1, 512, 4096]⟩
abbrev S256x512 : Shape := ⟨2, ![256, 512]⟩
abbrev S8x512x256 : Shape := ⟨3, ![8, 512, 256]⟩
abbrev S8x64x256 : Shape := ⟨3, ![8, 64, 256]⟩
abbrev S8x256 : Shape := ⟨2, ![8, 256]⟩
abbrev S1x256 : Shape := ⟨2, ![1, 256]⟩
abbrev S512x256 : Shape := ⟨2, ![512, 256]⟩
abbrev S128x256 : Shape := ⟨2, ![128, 256]⟩
abbrev S1x1x512x64 : Shape := ⟨4, ![1, 1, 512, 64]⟩
abbrev S512x64 : Shape := ⟨2, ![512, 64]⟩
abbrev S1x256x64 : Shape := ⟨3, ![1, 256, 64]⟩
abbrev S256x64 : Shape := ⟨2, ![256, 64]⟩
abbrev S1x512x256 : Shape := ⟨3, ![1, 512, 256]⟩
abbrev S8x8x8x256 : Shape := ⟨4, ![8, 8, 8, 256]⟩
abbrev S8x8x256 : Shape := ⟨3, ![8, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S64x256 : Shape := ⟨2, ![64, 256]⟩
abbrev S1x64x256 : Shape := ⟨3, ![1, 64, 256]⟩
abbrev S1x64x512 : Shape := ⟨3, ![1, 64, 512]⟩
abbrev S64x512 : Shape := ⟨2, ![64, 512]⟩

abbrev nBuf : Space → Nat
  | .hbm => 7
  | .vmem => 21
  | .smem => 0
  | _ => 0

abbrev bufTy : (tb : Table) → Fin (tcTables nBuf tb) → BufTy
  | .hbm, ⟨0, _⟩ => ⟨S8192x1280, .bf16⟩
  | .hbm, ⟨1, _⟩ => ⟨S8192x3072, .f32⟩
  | .hbm, ⟨2, _⟩ => ⟨S2x11x4096x64, .bf16⟩
  | .hbm, ⟨3, _⟩ => ⟨S2x1024x4096, .bf16⟩
  | .hbm, ⟨4, _⟩ => ⟨S8192x20x64, .bf16⟩
  | .hbm, ⟨5, _⟩ => ⟨S20x8192x64, .bf16⟩
  | .hbm, ⟨6, _⟩ => ⟨S8192x512, .bf16⟩
  | .local _ .vmem, ⟨0, _⟩ => ⟨S8x256x64, .bf16⟩
  | .local _ .vmem, ⟨1, _⟩ => ⟨S8x256x64, .bf16⟩
  | .local _ .vmem, ⟨2, _⟩ => ⟨S4x256x64, .bf16⟩
  | .local _ .vmem, ⟨3, _⟩ => ⟨S4x256x64, .bf16⟩
  | .local _ .vmem, ⟨4, _⟩ => ⟨S256x128, .f32⟩
  | .local _ .vmem, ⟨5, _⟩ => ⟨S256x128, .f32⟩
  | .local _ .vmem, ⟨6, _⟩ => ⟨S1x1x4096x64, .bf16⟩
  | .local _ .vmem, ⟨7, _⟩ => ⟨S1x1x4096x64, .bf16⟩
  | .local _ .vmem, ⟨8, _⟩ => ⟨S1x8x4096x64, .bf16⟩
  | .local _ .vmem, ⟨9, _⟩ => ⟨S1x8x4096x64, .bf16⟩
  | .local _ .vmem, ⟨10, _⟩ => ⟨S1x512x4096, .bf16⟩
  | .local _ .vmem, ⟨11, _⟩ => ⟨S1x512x4096, .bf16⟩
  | .local _ .vmem, ⟨12, _⟩ => ⟨S256x512, .bf16⟩
  | .local _ .vmem, ⟨13, _⟩ => ⟨S256x512, .bf16⟩
  | .local _ .vmem, ⟨14, _⟩ => ⟨S8x512x256, .i32⟩
  | .local _ .vmem, ⟨15, _⟩ => ⟨S8x512x256, .f32⟩
  | .local _ .vmem, ⟨16, _⟩ => ⟨S8x64x256, .f32⟩
  | .local _ .vmem, ⟨17, _⟩ => ⟨S8x256, .f32⟩
  | .local _ .vmem, ⟨18, _⟩ => ⟨S8x256, .f32⟩
  | .local _ .vmem, ⟨19, _⟩ => ⟨S8x512x256, .f32⟩
  | .local _ .vmem, ⟨20, _⟩ => ⟨S8x512x256, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 16], ![false, false]⟩

@[reducible] def k0_t1_loop (i : grid0.Coords) : Scf.Loop 32 :=
  let c0_i32_10 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v32 : BitVec 32 := Scalar.subi v20 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let c1_i32_12 : BitVec 32 := 1#32
  ⟨c0_i32_10, v36, c1_i32_12⟩
def k0_mult1 (i : grid0.Coords) (k0_t1 : Fin (k0_t1_loop i).trips) : BitVec 32 :=
  let c0_i32_10 : BitVec 32 := 0#32
  let c1_i32_12 : BitVec 32 := 1#32
  let arg16 : BitVec 32 := Scf.iv c0_i32_10 c1_i32_12 k0_t1
  let c512_i32_192 : BitVec 32 := 512#32
  let v260 : BitVec 32 := Scalar.muli arg16 c512_i32_192
  v260
def k0_off1 (i : grid0.Coords) (k0_t1 : Fin (k0_t1_loop i).trips) : Fin 4 → Nat :=
  let c0_193 : Index := 0#32
  let c0_194 : Index := 0#32
  let c0_i32_10 : BitVec 32 := 0#32
  let c1_i32_12 : BitVec 32 := 1#32
  let arg16 : BitVec 32 := Scf.iv c0_i32_10 c1_i32_12 k0_t1
  let c512_i32_192 : BitVec 32 := 512#32
  let v260 : BitVec 32 := Scalar.muli arg16 c512_i32_192
  let v261 : BitVec 32 := v260
  let v262 : Index := Scalar.indexCast v261
  let c0_195 : Index := 0#32
  ![0, 0, v262.toNat, 0]
def k0_off2 (i : grid0.Coords) (k0_t1 : Fin (k0_t1_loop i).trips) : Fin 3 → Nat :=
  let c0_i32_10 : BitVec 32 := 0#32
  let c1_i32_12 : BitVec 32 := 1#32
  let arg16 : BitVec 32 := Scf.iv c0_i32_10 c1_i32_12 k0_t1
  let v313 : Index := Scalar.indexCast arg16
  let c0_221 : Index := 0#32
  let c0_222 : Index := 0#32
  ![v313.toNat, 0, 0]
@[reducible] def k0_t2_loop (i : grid0.Coords) : Scf.Loop 32 :=
  let c0_i32_10 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v32 : BitVec 32 := Scalar.subi v20 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let v33 : BitVec 32 := Scalar.addi c0_i32_10 v32
  let c1_i32_13 : BitVec 32 := 1#32
  ⟨v36, v33, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v32 : BitVec 32 := Scalar.subi v20 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let c1_i32_13 : BitVec 32 := 1#32
  let arg16 : BitVec 32 := Scf.iv v36 c1_i32_13 k0_t2
  let c512_i32_192 : BitVec 32 := 512#32
  let v260 : BitVec 32 := Scalar.muli arg16 c512_i32_192
  v260
def k0_off3 (i : grid0.Coords) (k0_t2 : Fin (k0_t2_loop i).trips) : Fin 4 → Nat :=
  let c0_193 : Index := 0#32
  let c0_194 : Index := 0#32
  let c0_i32_10 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v32 : BitVec 32 := Scalar.subi v20 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let c1_i32_13 : BitVec 32 := 1#32
  let arg16 : BitVec 32 := Scf.iv v36 c1_i32_13 k0_t2
  let c512_i32_192 : BitVec 32 := 512#32
  let v260 : BitVec 32 := Scalar.muli arg16 c512_i32_192
  let v261 : BitVec 32 := v260
  let v262 : Index := Scalar.indexCast v261
  let c0_195 : Index := 0#32
  ![0, 0, v262.toNat, 0]
def k0_off4 (i : grid0.Coords) (k0_t2 : Fin (k0_t2_loop i).trips) : Fin 3 → Nat :=
  let c0_i32_10 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v32 : BitVec 32 := Scalar.subi v20 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let c1_i32_13 : BitVec 32 := 1#32
  let arg16 : BitVec 32 := Scf.iv v36 c1_i32_13 k0_t2
  let v313 : Index := Scalar.indexCast arg16
  let c0_221 : Index := 0#32
  let c0_222 : Index := 0#32
  ![v313.toNat, 0, 0]
@[reducible] def k0_t3_loop (i : grid0.Coords) : Scf.Loop 32 :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v38 : BitVec 32 := Scalar.subi v20 c0_i32_14
  let c1_i32_15 : BitVec 32 := 1#32
  let v40 : BitVec 32 := Scalar.divsi v38 c1_i32_15
  let v41 : BitVec 32 := Scalar.muli v40 c1_i32_15
  let v42 : BitVec 32 := Scalar.addi c0_i32_14 v41
  let c1_i32_16 : BitVec 32 := 1#32
  ⟨c0_i32_14, v42, c1_i32_16⟩
def k0_off5 (i : grid0.Coords) (k0_t3 : Fin (k0_t3_loop i).trips) : Fin 3 → Nat :=
  let c0_i32_14 : BitVec 32 := 0#32
  let c1_i32_16 : BitVec 32 := 1#32
  let arg16 : BitVec 32 := Scf.iv c0_i32_14 c1_i32_16 k0_t3
  let v260 : Index := Scalar.indexCast arg16
  let c0_192 : Index := 0#32
  let c0_193 : Index := 0#32
  ![v260.toNat, 0, 0]
@[reducible] def k0_t4_loop (i : grid0.Coords) : Scf.Loop 32 :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v38 : BitVec 32 := Scalar.subi v20 c0_i32_14
  let c1_i32_15 : BitVec 32 := 1#32
  let v40 : BitVec 32 := Scalar.divsi v38 c1_i32_15
  let v41 : BitVec 32 := Scalar.muli v40 c1_i32_15
  let v42 : BitVec 32 := Scalar.addi c0_i32_14 v41
  let v39 : BitVec 32 := Scalar.addi c0_i32_14 v38
  let c1_i32_17 : BitVec 32 := 1#32
  ⟨v42, v39, c1_i32_17⟩
def k0_off6 (i : grid0.Coords) (k0_t4 : Fin (k0_t4_loop i).trips) : Fin 3 → Nat :=
  let c0_i32_14 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v38 : BitVec 32 := Scalar.subi v20 c0_i32_14
  let c1_i32_15 : BitVec 32 := 1#32
  let v40 : BitVec 32 := Scalar.divsi v38 c1_i32_15
  let v41 : BitVec 32 := Scalar.muli v40 c1_i32_15
  let v42 : BitVec 32 := Scalar.addi c0_i32_14 v41
  let c1_i32_17 : BitVec 32 := 1#32
  let arg16 : BitVec 32 := Scf.iv v42 c1_i32_17 k0_t4
  let v260 : Index := Scalar.indexCast arg16
  let c0_192 : Index := 0#32
  let c0_193 : Index := 0#32
  ![v260.toNat, 0, 0]
@[reducible] def k0_t5_loop : Scf.Loop 32 :=
  let c0_i32_21 : BitVec 32 := 0#32
  let c31_i32 : BitVec 32 := 31#32
  let v52 : BitVec 32 := Scalar.addi c0_i32_21 c31_i32
  let c1_i32_22 : BitVec 32 := 1#32
  ⟨c0_i32_21, v52, c1_i32_22⟩
@[reducible] def k0_t6_loop (i : grid0.Coords) : Scf.Loop 32 :=
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v265 : BitVec 32 := Scalar.subi v20 c0_i32_194
  let c1_i32_195 : BitVec 32 := 1#32
  let v267 : BitVec 32 := Scalar.divsi v265 c1_i32_195
  let v268 : BitVec 32 := Scalar.muli v267 c1_i32_195
  let v269 : BitVec 32 := Scalar.addi c0_i32_194 v268
  let c1_i32_196 : BitVec 32 := 1#32
  ⟨c0_i32_194, v269, c1_i32_196⟩
def k0_off7 (i : grid0.Coords) (k0_t6 : Fin (k0_t6_loop i).trips) : Fin 3 → Nat :=
  let c0_i32_194 : BitVec 32 := 0#32
  let c1_i32_196 : BitVec 32 := 1#32
  let arg18 : BitVec 32 := Scf.iv c0_i32_194 c1_i32_196 k0_t6
  let v277 : Index := Scalar.indexCast arg18
  let c0_200 : Index := 0#32
  let c0_201 : Index := 0#32
  ![v277.toNat, 0, 0]
@[reducible] def k0_t7_loop (i : grid0.Coords) : Scf.Loop 32 :=
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v265 : BitVec 32 := Scalar.subi v20 c0_i32_194
  let c1_i32_195 : BitVec 32 := 1#32
  let v267 : BitVec 32 := Scalar.divsi v265 c1_i32_195
  let v268 : BitVec 32 := Scalar.muli v267 c1_i32_195
  let v269 : BitVec 32 := Scalar.addi c0_i32_194 v268
  let v266 : BitVec 32 := Scalar.addi c0_i32_194 v265
  let c1_i32_197 : BitVec 32 := 1#32
  ⟨v269, v266, c1_i32_197⟩
def k0_off8 (i : grid0.Coords) (k0_t7 : Fin (k0_t7_loop i).trips) : Fin 3 → Nat :=
  let c0_i32_194 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v265 : BitVec 32 := Scalar.subi v20 c0_i32_194
  let c1_i32_195 : BitVec 32 := 1#32
  let v267 : BitVec 32 := Scalar.divsi v265 c1_i32_195
  let v268 : BitVec 32 := Scalar.muli v267 c1_i32_195
  let v269 : BitVec 32 := Scalar.addi c0_i32_194 v268
  let c1_i32_197 : BitVec 32 := 1#32
  let arg18 : BitVec 32 := Scf.iv v269 c1_i32_197 k0_t7
  let v277 : Index := Scalar.indexCast arg18
  let c0_200 : Index := 0#32
  let c0_201 : Index := 0#32
  ![v277.toNat, 0, 0]
@[reducible] def k0_t8_loop (i : grid0.Coords) : Scf.Loop 32 :=
  let c0_i32_25 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v55 : BitVec 32 := Scalar.subi v20 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_27 : BitVec 32 := 1#32
  ⟨c0_i32_25, v59, c1_i32_27⟩
def k0_off9 (i : grid0.Coords) (k0_t8 : Fin (k0_t8_loop i).trips) : Fin 3 → Nat :=
  let c0_i32_25 : BitVec 32 := 0#32
  let c1_i32_27 : BitVec 32 := 1#32
  let arg16 : BitVec 32 := Scf.iv c0_i32_25 c1_i32_27 k0_t8
  let v260 : Index := Scalar.indexCast arg16
  let c0_192 : Index := 0#32
  let c0_193 : Index := 0#32
  ![v260.toNat, 0, 0]
@[reducible] def k0_t9_loop (i : grid0.Coords) : Scf.Loop 32 :=
  let c0_i32_25 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v55 : BitVec 32 := Scalar.subi v20 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let v56 : BitVec 32 := Scalar.addi c0_i32_25 v55
  let c1_i32_28 : BitVec 32 := 1#32
  ⟨v59, v56, c1_i32_28⟩
def k0_off10 (i : grid0.Coords) (k0_t9 : Fin (k0_t9_loop i).trips) : Fin 3 → Nat :=
  let c0_i32_25 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v55 : BitVec 32 := Scalar.subi v20 c0_i32_25
  let c1_i32_26 : BitVec 32 := 1#32
  let v57 : BitVec 32 := Scalar.divsi v55 c1_i32_26
  let v58 : BitVec 32 := Scalar.muli v57 c1_i32_26
  let v59 : BitVec 32 := Scalar.addi c0_i32_25 v58
  let c1_i32_28 : BitVec 32 := 1#32
  let arg16 : BitVec 32 := Scf.iv v59 c1_i32_28 k0_t9
  let v260 : Index := Scalar.indexCast arg16
  let c0_192 : Index := 0#32
  let c0_193 : Index := 0#32
  ![v260.toNat, 0, 0]
@[reducible] def k0_t10_loop (i : grid0.Coords) : Scf.Loop 32 :=
  let c0_i32_32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v67 : BitVec 32 := Scalar.subi v20 c0_i32_32
  let c1_i32_33 : BitVec 32 := 1#32
  let v69 : BitVec 32 := Scalar.divsi v67 c1_i32_33
  let v70 : BitVec 32 := Scalar.muli v69 c1_i32_33
  let v71 : BitVec 32 := Scalar.addi c0_i32_32 v70
  let c1_i32_34 : BitVec 32 := 1#32
  ⟨c0_i32_32, v71, c1_i32_34⟩
def k0_off11 (i : grid0.Coords) (k0_t10 : Fin (k0_t10_loop i).trips) : Fin 3 → Nat :=
  let c0_i32_32 : BitVec 32 := 0#32
  let c1_i32_34 : BitVec 32 := 1#32
  let arg16 : BitVec 32 := Scf.iv c0_i32_32 c1_i32_34 k0_t10
  let v260 : Index := Scalar.indexCast arg16
  let c0_192 : Index := 0#32
  let c0_193 : Index := 0#32
  ![v260.toNat, 0, 0]
@[reducible] def k0_t11_loop (i : grid0.Coords) : Scf.Loop 32 :=
  let c0_i32_32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v67 : BitVec 32 := Scalar.subi v20 c0_i32_32
  let c1_i32_33 : BitVec 32 := 1#32
  let v69 : BitVec 32 := Scalar.divsi v67 c1_i32_33
  let v70 : BitVec 32 := Scalar.muli v69 c1_i32_33
  let v71 : BitVec 32 := Scalar.addi c0_i32_32 v70
  let v68 : BitVec 32 := Scalar.addi c0_i32_32 v67
  let c1_i32_35 : BitVec 32 := 1#32
  ⟨v71, v68, c1_i32_35⟩
def k0_off12 (i : grid0.Coords) (k0_t11 : Fin (k0_t11_loop i).trips) : Fin 3 → Nat :=
  let c0_i32_32 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v67 : BitVec 32 := Scalar.subi v20 c0_i32_32
  let c1_i32_33 : BitVec 32 := 1#32
  let v69 : BitVec 32 := Scalar.divsi v67 c1_i32_33
  let v70 : BitVec 32 := Scalar.muli v69 c1_i32_33
  let v71 : BitVec 32 := Scalar.addi c0_i32_32 v70
  let c1_i32_35 : BitVec 32 := 1#32
  let arg16 : BitVec 32 := Scf.iv v71 c1_i32_35 k0_t11
  let v260 : Index := Scalar.indexCast arg16
  let c0_192 : Index := 0#32
  let c0_193 : Index := 0#32
  ![v260.toNat, 0, 0]
@[reducible] def k0_t12_loop : Scf.Loop 32 :=
  let c0_i32_193 : BitVec 32 := 0#32
  let c12_i32 : BitVec 32 := 12#32
  let v261 : BitVec 32 := Scalar.addi c0_i32_193 c12_i32
  let c1_i32_194 : BitVec 32 := 1#32
  ⟨c0_i32_193, v261, c1_i32_194⟩
@[reducible] def k0_t13_loop (i : grid0.Coords) : Scf.Loop 32 :=
  let c0_i32_198 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v268 : BitVec 32 := Scalar.subi v20 c0_i32_198
  let c1_i32_199 : BitVec 32 := 1#32
  let v270 : BitVec 32 := Scalar.divsi v268 c1_i32_199
  let v271 : BitVec 32 := Scalar.muli v270 c1_i32_199
  let v272 : BitVec 32 := Scalar.addi c0_i32_198 v271
  let c1_i32_200 : BitVec 32 := 1#32
  ⟨c0_i32_198, v272, c1_i32_200⟩
def k0_off13 (i : grid0.Coords) (k0_t13 : Fin (k0_t13_loop i).trips) : Fin 3 → Nat :=
  let c0_i32_198 : BitVec 32 := 0#32
  let c1_i32_200 : BitVec 32 := 1#32
  let arg18 : BitVec 32 := Scf.iv c0_i32_198 c1_i32_200 k0_t13
  let v279 : Index := Scalar.indexCast arg18
  let c0_203 : Index := 0#32
  let c0_204 : Index := 0#32
  ![v279.toNat, 0, 0]
@[reducible] def k0_t14_loop (i : grid0.Coords) : Scf.Loop 32 :=
  let c0_i32_198 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v268 : BitVec 32 := Scalar.subi v20 c0_i32_198
  let c1_i32_199 : BitVec 32 := 1#32
  let v270 : BitVec 32 := Scalar.divsi v268 c1_i32_199
  let v271 : BitVec 32 := Scalar.muli v270 c1_i32_199
  let v272 : BitVec 32 := Scalar.addi c0_i32_198 v271
  let v269 : BitVec 32 := Scalar.addi c0_i32_198 v268
  let c1_i32_201 : BitVec 32 := 1#32
  ⟨v272, v269, c1_i32_201⟩
def k0_off14 (i : grid0.Coords) (k0_t14 : Fin (k0_t14_loop i).trips) : Fin 3 → Nat :=
  let c0_i32_198 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v268 : BitVec 32 := Scalar.subi v20 c0_i32_198
  let c1_i32_199 : BitVec 32 := 1#32
  let v270 : BitVec 32 := Scalar.divsi v268 c1_i32_199
  let v271 : BitVec 32 := Scalar.muli v270 c1_i32_199
  let v272 : BitVec 32 := Scalar.addi c0_i32_198 v271
  let c1_i32_201 : BitVec 32 := 1#32
  let arg18 : BitVec 32 := Scf.iv v272 c1_i32_201 k0_t14
  let v279 : Index := Scalar.indexCast arg18
  let c0_203 : Index := 0#32
  let c0_204 : Index := 0#32
  ![v279.toNat, 0, 0]
@[reducible] def k0_t15_loop (i : grid0.Coords) : Scf.Loop 32 :=
  let c0_i32_41 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v85 : BitVec 32 := Scalar.subi v20 c0_i32_41
  let c1_i32_42 : BitVec 32 := 1#32
  let v87 : BitVec 32 := Scalar.divsi v85 c1_i32_42
  let v88 : BitVec 32 := Scalar.muli v87 c1_i32_42
  let v89 : BitVec 32 := Scalar.addi c0_i32_41 v88
  let c1_i32_43 : BitVec 32 := 1#32
  ⟨c0_i32_41, v89, c1_i32_43⟩
def k0_off15 (i : grid0.Coords) (k0_t15 : Fin (k0_t15_loop i).trips) : Fin 3 → Nat :=
  let c0_i32_41 : BitVec 32 := 0#32
  let c1_i32_43 : BitVec 32 := 1#32
  let arg16 : BitVec 32 := Scf.iv c0_i32_41 c1_i32_43 k0_t15
  let v260 : Index := Scalar.indexCast arg16
  let c0_192 : Index := 0#32
  let c0_193 : Index := 0#32
  ![v260.toNat, 0, 0]
@[reducible] def k0_t16_loop (i : grid0.Coords) : Scf.Loop 32 :=
  let c0_i32_41 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v85 : BitVec 32 := Scalar.subi v20 c0_i32_41
  let c1_i32_42 : BitVec 32 := 1#32
  let v87 : BitVec 32 := Scalar.divsi v85 c1_i32_42
  let v88 : BitVec 32 := Scalar.muli v87 c1_i32_42
  let v89 : BitVec 32 := Scalar.addi c0_i32_41 v88
  let v86 : BitVec 32 := Scalar.addi c0_i32_41 v85
  let c1_i32_44 : BitVec 32 := 1#32
  ⟨v89, v86, c1_i32_44⟩
def k0_off16 (i : grid0.Coords) (k0_t16 : Fin (k0_t16_loop i).trips) : Fin 3 → Nat :=
  let c0_i32_41 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v85 : BitVec 32 := Scalar.subi v20 c0_i32_41
  let c1_i32_42 : BitVec 32 := 1#32
  let v87 : BitVec 32 := Scalar.divsi v85 c1_i32_42
  let v88 : BitVec 32 := Scalar.muli v87 c1_i32_42
  let v89 : BitVec 32 := Scalar.addi c0_i32_41 v88
  let c1_i32_44 : BitVec 32 := 1#32
  let arg16 : BitVec 32 := Scf.iv v89 c1_i32_44 k0_t16
  let v260 : Index := Scalar.indexCast arg16
  let c0_192 : Index := 0#32
  let c0_193 : Index := 0#32
  ![v260.toNat, 0, 0]
@[reducible] def k0_t17_loop (i : grid0.Coords) : Scf.Loop 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_121 : BitVec 32 := 1#32
  ⟨c0_i32_119, v190, c1_i32_121⟩
def k0_mult3 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  v260
def k0_off17 (i : grid0.Coords) (k0_t17 : Fin (k0_t17_loop i).trips) : Fin 3 → Nat :=
  let c0_i32_119 : BitVec 32 := 0#32
  let c1_i32_121 : BitVec 32 := 1#32
  let arg16 : BitVec 32 := Scf.iv c0_i32_119 c1_i32_121 k0_t17
  let v262 : Index := Scalar.indexCast arg16
  let c0_193 : Index := 0#32
  let c0_194 : Index := 0#32
  ![v262.toNat, 0, 0]
def k0_off18 (i : grid0.Coords) (k0_t17 : Fin (k0_t17_loop i).trips) : Fin 4 → Nat :=
  let c0_195 : Index := 0#32
  let c0_196 : Index := 0#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v265 : Index := Scalar.indexCast v261
  let c0_197 : Index := 0#32
  ![0, 0, v265.toNat, 0]
def k0_off19 (i : grid0.Coords) (k0_t17 : Fin (k0_t17_loop i).trips) : Fin 4 → Nat :=
  let c0_206 : Index := 0#32
  let c1_207 : Index := 1#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v277 : Index := Scalar.indexCast v261
  let c0_208 : Index := 0#32
  ![0, 1, v277.toNat, 0]
def k0_off20 (i : grid0.Coords) (k0_t17 : Fin (k0_t17_loop i).trips) : Fin 4 → Nat :=
  let c0_217 : Index := 0#32
  let c2_218 : Index := 2#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v289 : Index := Scalar.indexCast v261
  let c0_219 : Index := 0#32
  ![0, 2, v289.toNat, 0]
def k0_off21 (i : grid0.Coords) (k0_t17 : Fin (k0_t17_loop i).trips) : Fin 4 → Nat :=
  let c0_228 : Index := 0#32
  let c3_229 : Index := 3#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v301 : Index := Scalar.indexCast v261
  let c0_230 : Index := 0#32
  ![0, 3, v301.toNat, 0]
def k0_off22 (i : grid0.Coords) (k0_t17 : Fin (k0_t17_loop i).trips) : Fin 4 → Nat :=
  let c0_239 : Index := 0#32
  let c4_240 : Index := 4#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v313 : Index := Scalar.indexCast v261
  let c0_241 : Index := 0#32
  ![0, 4, v313.toNat, 0]
def k0_off23 (i : grid0.Coords) (k0_t17 : Fin (k0_t17_loop i).trips) : Fin 4 → Nat :=
  let c0_250 : Index := 0#32
  let c5_251 : Index := 5#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v325 : Index := Scalar.indexCast v261
  let c0_252 : Index := 0#32
  ![0, 5, v325.toNat, 0]
def k0_off24 (i : grid0.Coords) (k0_t17 : Fin (k0_t17_loop i).trips) : Fin 4 → Nat :=
  let c0_261 : Index := 0#32
  let c6_262 : Index := 6#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v337 : Index := Scalar.indexCast v261
  let c0_263 : Index := 0#32
  ![0, 6, v337.toNat, 0]
def k0_off25 (i : grid0.Coords) (k0_t17 : Fin (k0_t17_loop i).trips) : Fin 4 → Nat :=
  let c0_272 : Index := 0#32
  let c7_273 : Index := 7#32
  let c0_i32_119 : BitVec 32 := 0#32
  let c1_i32_121 : BitVec 32 := 1#32
  let arg16 : BitVec 32 := Scf.iv c0_i32_119 c1_i32_121 k0_t17
  let c512_i32_192 : BitVec 32 := 512#32
  let v260 : BitVec 32 := Scalar.muli arg16 c512_i32_192
  let v261 : BitVec 32 := v260
  let v349 : Index := Scalar.indexCast v261
  let c0_274 : Index := 0#32
  ![0, 7, v349.toNat, 0]
def k0_mult4 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_486 : BitVec 32 := 512#32
  let v645 : BitVec 32 := Scalar.muli arg16 c512_i32_486
  v645
def k0_off26 (i : grid0.Coords) (k0_t17 : Fin (k0_t17_loop i).trips) : Fin 3 → Nat :=
  let c0_487 : Index := 0#32
  let c0_488 : Index := 0#32
  let c0_i32_119 : BitVec 32 := 0#32
  let c1_i32_121 : BitVec 32 := 1#32
  let arg16 : BitVec 32 := Scf.iv c0_i32_119 c1_i32_121 k0_t17
  let c512_i32_486 : BitVec 32 := 512#32
  let v645 : BitVec 32 := Scalar.muli arg16 c512_i32_486
  let v646 : BitVec 32 := v645
  let v647 : Index := Scalar.indexCast v646
  ![0, 0, v647.toNat]
def k0_mult5 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_499 : BitVec 32 := 512#32
  let v661 : BitVec 32 := Scalar.muli arg16 c512_i32_499
  v661
def k0_off27 (i : grid0.Coords) (k0_t17 : Fin (k0_t17_loop i).trips) : Fin 3 → Nat :=
  let c0_500 : Index := 0#32
  let c64 : Index := 64#32
  let c0_i32_119 : BitVec 32 := 0#32
  let c1_i32_121 : BitVec 32 := 1#32
  let arg16 : BitVec 32 := Scf.iv c0_i32_119 c1_i32_121 k0_t17
  let c512_i32_499 : BitVec 32 := 512#32
  let v661 : BitVec 32 := Scalar.muli arg16 c512_i32_499
  let v662 : BitVec 32 := v661
  let v663 : Index := Scalar.indexCast v662
  ![0, 64, v663.toNat]
def k0_mult6 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_511 : BitVec 32 := 512#32
  let v677 : BitVec 32 := Scalar.muli arg16 c512_i32_511
  v677
def k0_off28 (i : grid0.Coords) (k0_t17 : Fin (k0_t17_loop i).trips) : Fin 3 → Nat :=
  let c0_512 : Index := 0#32
  let c128 : Index := 128#32
  let c0_i32_119 : BitVec 32 := 0#32
  let c1_i32_121 : BitVec 32 := 1#32
  let arg16 : BitVec 32 := Scf.iv c0_i32_119 c1_i32_121 k0_t17
  let c512_i32_511 : BitVec 32 := 512#32
  let v677 : BitVec 32 := Scalar.muli arg16 c512_i32_511
  let v678 : BitVec 32 := v677
  let v679 : Index := Scalar.indexCast v678
  ![0, 128, v679.toNat]
def k0_mult7 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_523 : BitVec 32 := 512#32
  let v693 : BitVec 32 := Scalar.muli arg16 c512_i32_523
  v693
def k0_off29 (i : grid0.Coords) (k0_t17 : Fin (k0_t17_loop i).trips) : Fin 3 → Nat :=
  let c0_524 : Index := 0#32
  let c192 : Index := 192#32
  let c0_i32_119 : BitVec 32 := 0#32
  let c1_i32_121 : BitVec 32 := 1#32
  let arg16 : BitVec 32 := Scf.iv c0_i32_119 c1_i32_121 k0_t17
  let c512_i32_523 : BitVec 32 := 512#32
  let v693 : BitVec 32 := Scalar.muli arg16 c512_i32_523
  let v694 : BitVec 32 := v693
  let v695 : Index := Scalar.indexCast v694
  ![0, 192, v695.toNat]
def k0_mult8 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_535 : BitVec 32 := 512#32
  let v709 : BitVec 32 := Scalar.muli arg16 c512_i32_535
  v709
def k0_off30 (i : grid0.Coords) (k0_t17 : Fin (k0_t17_loop i).trips) : Fin 3 → Nat :=
  let c0_536 : Index := 0#32
  let c256 : Index := 256#32
  let c0_i32_119 : BitVec 32 := 0#32
  let c1_i32_121 : BitVec 32 := 1#32
  let arg16 : BitVec 32 := Scf.iv c0_i32_119 c1_i32_121 k0_t17
  let c512_i32_535 : BitVec 32 := 512#32
  let v709 : BitVec 32 := Scalar.muli arg16 c512_i32_535
  let v710 : BitVec 32 := v709
  let v711 : Index := Scalar.indexCast v710
  ![0, 256, v711.toNat]
def k0_mult9 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_547 : BitVec 32 := 512#32
  let v725 : BitVec 32 := Scalar.muli arg16 c512_i32_547
  v725
def k0_off31 (i : grid0.Coords) (k0_t17 : Fin (k0_t17_loop i).trips) : Fin 3 → Nat :=
  let c0_548 : Index := 0#32
  let c320 : Index := 320#32
  let c0_i32_119 : BitVec 32 := 0#32
  let c1_i32_121 : BitVec 32 := 1#32
  let arg16 : BitVec 32 := Scf.iv c0_i32_119 c1_i32_121 k0_t17
  let c512_i32_547 : BitVec 32 := 512#32
  let v725 : BitVec 32 := Scalar.muli arg16 c512_i32_547
  let v726 : BitVec 32 := v725
  let v727 : Index := Scalar.indexCast v726
  ![0, 320, v727.toNat]
def k0_mult10 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_559 : BitVec 32 := 512#32
  let v741 : BitVec 32 := Scalar.muli arg16 c512_i32_559
  v741
def k0_off32 (i : grid0.Coords) (k0_t17 : Fin (k0_t17_loop i).trips) : Fin 3 → Nat :=
  let c0_560 : Index := 0#32
  let c384 : Index := 384#32
  let c0_i32_119 : BitVec 32 := 0#32
  let c1_i32_121 : BitVec 32 := 1#32
  let arg16 : BitVec 32 := Scf.iv c0_i32_119 c1_i32_121 k0_t17
  let c512_i32_559 : BitVec 32 := 512#32
  let v741 : BitVec 32 := Scalar.muli arg16 c512_i32_559
  let v742 : BitVec 32 := v741
  let v743 : Index := Scalar.indexCast v742
  ![0, 384, v743.toNat]
def k0_mult11 (i : grid0.Coords) (k0_t17 : Fin (k0_t17_loop i).trips) : BitVec 32 :=
  let c0_i32_119 : BitVec 32 := 0#32
  let c1_i32_121 : BitVec 32 := 1#32
  let arg16 : BitVec 32 := Scf.iv c0_i32_119 c1_i32_121 k0_t17
  let c512_i32_571 : BitVec 32 := 512#32
  let v757 : BitVec 32 := Scalar.muli arg16 c512_i32_571
  v757
def k0_off33 (i : grid0.Coords) (k0_t17 : Fin (k0_t17_loop i).trips) : Fin 3 → Nat :=
  let c0_572 : Index := 0#32
  let c448 : Index := 448#32
  let c0_i32_119 : BitVec 32 := 0#32
  let c1_i32_121 : BitVec 32 := 1#32
  let arg16 : BitVec 32 := Scf.iv c0_i32_119 c1_i32_121 k0_t17
  let c512_i32_571 : BitVec 32 := 512#32
  let v757 : BitVec 32 := Scalar.muli arg16 c512_i32_571
  let v758 : BitVec 32 := v757
  let v759 : Index := Scalar.indexCast v758
  ![0, 448, v759.toNat]
@[reducible] def k0_t18_loop (i : grid0.Coords) : Scf.Loop 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let v187 : BitVec 32 := Scalar.addi c0_i32_119 v186
  let c1_i32_122 : BitVec 32 := 1#32
  ⟨v190, v187, c1_i32_122⟩
def k0_mult12 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  v260
def k0_off34 (i : grid0.Coords) (k0_t18 : Fin (k0_t18_loop i).trips) : Fin 3 → Nat :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let v262 : Index := Scalar.indexCast arg16
  let c0_193 : Index := 0#32
  let c0_194 : Index := 0#32
  ![v262.toNat, 0, 0]
def k0_off35 (i : grid0.Coords) (k0_t18 : Fin (k0_t18_loop i).trips) : Fin 4 → Nat :=
  let c0_195 : Index := 0#32
  let c0_196 : Index := 0#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v265 : Index := Scalar.indexCast v261
  let c0_197 : Index := 0#32
  ![0, 0, v265.toNat, 0]
def k0_off36 (i : grid0.Coords) (k0_t18 : Fin (k0_t18_loop i).trips) : Fin 4 → Nat :=
  let c0_206 : Index := 0#32
  let c1_207 : Index := 1#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v277 : Index := Scalar.indexCast v261
  let c0_208 : Index := 0#32
  ![0, 1, v277.toNat, 0]
def k0_off37 (i : grid0.Coords) (k0_t18 : Fin (k0_t18_loop i).trips) : Fin 4 → Nat :=
  let c0_217 : Index := 0#32
  let c2_218 : Index := 2#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v289 : Index := Scalar.indexCast v261
  let c0_219 : Index := 0#32
  ![0, 2, v289.toNat, 0]
def k0_off38 (i : grid0.Coords) (k0_t18 : Fin (k0_t18_loop i).trips) : Fin 4 → Nat :=
  let c0_228 : Index := 0#32
  let c3_229 : Index := 3#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v301 : Index := Scalar.indexCast v261
  let c0_230 : Index := 0#32
  ![0, 3, v301.toNat, 0]
def k0_off39 (i : grid0.Coords) (k0_t18 : Fin (k0_t18_loop i).trips) : Fin 4 → Nat :=
  let c0_239 : Index := 0#32
  let c4_240 : Index := 4#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v313 : Index := Scalar.indexCast v261
  let c0_241 : Index := 0#32
  ![0, 4, v313.toNat, 0]
def k0_off40 (i : grid0.Coords) (k0_t18 : Fin (k0_t18_loop i).trips) : Fin 4 → Nat :=
  let c0_250 : Index := 0#32
  let c5_251 : Index := 5#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v325 : Index := Scalar.indexCast v261
  let c0_252 : Index := 0#32
  ![0, 5, v325.toNat, 0]
def k0_off41 (i : grid0.Coords) (k0_t18 : Fin (k0_t18_loop i).trips) : Fin 4 → Nat :=
  let c0_261 : Index := 0#32
  let c6_262 : Index := 6#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v337 : Index := Scalar.indexCast v261
  let c0_263 : Index := 0#32
  ![0, 6, v337.toNat, 0]
def k0_off42 (i : grid0.Coords) (k0_t18 : Fin (k0_t18_loop i).trips) : Fin 4 → Nat :=
  let c0_272 : Index := 0#32
  let c7_273 : Index := 7#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_192 : BitVec 32 := 512#32
  let v260 : BitVec 32 := Scalar.muli arg16 c512_i32_192
  let v261 : BitVec 32 := v260
  let v349 : Index := Scalar.indexCast v261
  let c0_274 : Index := 0#32
  ![0, 7, v349.toNat, 0]
def k0_mult13 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_486 : BitVec 32 := 512#32
  let v645 : BitVec 32 := Scalar.muli arg16 c512_i32_486
  v645
def k0_off43 (i : grid0.Coords) (k0_t18 : Fin (k0_t18_loop i).trips) : Fin 3 → Nat :=
  let c0_487 : Index := 0#32
  let c0_488 : Index := 0#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_486 : BitVec 32 := 512#32
  let v645 : BitVec 32 := Scalar.muli arg16 c512_i32_486
  let v646 : BitVec 32 := v645
  let v647 : Index := Scalar.indexCast v646
  ![0, 0, v647.toNat]
def k0_mult14 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_499 : BitVec 32 := 512#32
  let v661 : BitVec 32 := Scalar.muli arg16 c512_i32_499
  v661
def k0_off44 (i : grid0.Coords) (k0_t18 : Fin (k0_t18_loop i).trips) : Fin 3 → Nat :=
  let c0_500 : Index := 0#32
  let c64 : Index := 64#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_499 : BitVec 32 := 512#32
  let v661 : BitVec 32 := Scalar.muli arg16 c512_i32_499
  let v662 : BitVec 32 := v661
  let v663 : Index := Scalar.indexCast v662
  ![0, 64, v663.toNat]
def k0_mult15 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_511 : BitVec 32 := 512#32
  let v677 : BitVec 32 := Scalar.muli arg16 c512_i32_511
  v677
def k0_off45 (i : grid0.Coords) (k0_t18 : Fin (k0_t18_loop i).trips) : Fin 3 → Nat :=
  let c0_512 : Index := 0#32
  let c128 : Index := 128#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_511 : BitVec 32 := 512#32
  let v677 : BitVec 32 := Scalar.muli arg16 c512_i32_511
  let v678 : BitVec 32 := v677
  let v679 : Index := Scalar.indexCast v678
  ![0, 128, v679.toNat]
def k0_mult16 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_523 : BitVec 32 := 512#32
  let v693 : BitVec 32 := Scalar.muli arg16 c512_i32_523
  v693
def k0_off46 (i : grid0.Coords) (k0_t18 : Fin (k0_t18_loop i).trips) : Fin 3 → Nat :=
  let c0_524 : Index := 0#32
  let c192 : Index := 192#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_523 : BitVec 32 := 512#32
  let v693 : BitVec 32 := Scalar.muli arg16 c512_i32_523
  let v694 : BitVec 32 := v693
  let v695 : Index := Scalar.indexCast v694
  ![0, 192, v695.toNat]
def k0_mult17 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_535 : BitVec 32 := 512#32
  let v709 : BitVec 32 := Scalar.muli arg16 c512_i32_535
  v709
def k0_off47 (i : grid0.Coords) (k0_t18 : Fin (k0_t18_loop i).trips) : Fin 3 → Nat :=
  let c0_536 : Index := 0#32
  let c256 : Index := 256#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_535 : BitVec 32 := 512#32
  let v709 : BitVec 32 := Scalar.muli arg16 c512_i32_535
  let v710 : BitVec 32 := v709
  let v711 : Index := Scalar.indexCast v710
  ![0, 256, v711.toNat]
def k0_mult18 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_547 : BitVec 32 := 512#32
  let v725 : BitVec 32 := Scalar.muli arg16 c512_i32_547
  v725
def k0_off48 (i : grid0.Coords) (k0_t18 : Fin (k0_t18_loop i).trips) : Fin 3 → Nat :=
  let c0_548 : Index := 0#32
  let c320 : Index := 320#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_547 : BitVec 32 := 512#32
  let v725 : BitVec 32 := Scalar.muli arg16 c512_i32_547
  let v726 : BitVec 32 := v725
  let v727 : Index := Scalar.indexCast v726
  ![0, 320, v727.toNat]
def k0_mult19 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_559 : BitVec 32 := 512#32
  let v741 : BitVec 32 := Scalar.muli arg16 c512_i32_559
  v741
def k0_off49 (i : grid0.Coords) (k0_t18 : Fin (k0_t18_loop i).trips) : Fin 3 → Nat :=
  let c0_560 : Index := 0#32
  let c384 : Index := 384#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_559 : BitVec 32 := 512#32
  let v741 : BitVec 32 := Scalar.muli arg16 c512_i32_559
  let v742 : BitVec 32 := v741
  let v743 : Index := Scalar.indexCast v742
  ![0, 384, v743.toNat]
def k0_mult20 (i : grid0.Coords) (k0_t18 : Fin (k0_t18_loop i).trips) : BitVec 32 :=
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_571 : BitVec 32 := 512#32
  let v757 : BitVec 32 := Scalar.muli arg16 c512_i32_571
  v757
def k0_off50 (i : grid0.Coords) (k0_t18 : Fin (k0_t18_loop i).trips) : Fin 3 → Nat :=
  let c0_572 : Index := 0#32
  let c448 : Index := 448#32
  let c0_i32_119 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v186 : BitVec 32 := Scalar.subi v20 c0_i32_119
  let c1_i32_120 : BitVec 32 := 1#32
  let v188 : BitVec 32 := Scalar.divsi v186 c1_i32_120
  let v189 : BitVec 32 := Scalar.muli v188 c1_i32_120
  let v190 : BitVec 32 := Scalar.addi c0_i32_119 v189
  let c1_i32_122 : BitVec 32 := 1#32
  let arg16 : BitVec 32 := Scf.iv v190 c1_i32_122 k0_t18
  let c512_i32_571 : BitVec 32 := 512#32
  let v757 : BitVec 32 := Scalar.muli arg16 c512_i32_571
  let v758 : BitVec 32 := v757
  let v759 : Index := Scalar.indexCast v758
  ![0, 448, v759.toNat]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c20_i32 : BitVec 32 := 20#32
  let c0_i32 : BitVec 32 := 0#32
  ![v1.toNat, c20_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![arg0.toNat, c8_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference.lean ====
abbrev S8192x1280 : Shape := ⟨2, ![8192, 1280]⟩
abbrev S8192x3072 : Shape := ⟨2, ![8192, 3072]⟩
abbrev S2x11x4096x64 : Shape := ⟨4, ![2, 11, 4096, 64]⟩
abbrev S2x1024x4096 : Shape := ⟨3, ![2, 1024, 4096]⟩
abbrev S8192x20x64 : Shape := ⟨3, ![8192, 20, 64]⟩
abbrev S20x8192x64 : Shape := ⟨3, ![20, 8192, 64]⟩
abbrev S8192x512 : Shape := ⟨2, ![8192, 512]⟩
abbrev S8x256x64 : Shape := ⟨3, ![8, 256, 64]⟩
abbrev S4x256x64 : Shape := ⟨3, ![4, 256, 64]⟩
abbrev S256x128 : Shape := ⟨2, ![256, 128]⟩
abbrev S1x1x4096x64 : Shape := ⟨4, ![1, 1, 4096, 64]⟩
abbrev S1x8x4096x64 : Shape := ⟨4, ![1, 8, 4096, 64]⟩
abbrev S1x512x4096 : Shape := ⟨3, ![1, 512, 4096]⟩
abbrev S256x512 : Shape := ⟨2, ![256, 512]⟩
abbrev S4096x256 : Shape := ⟨2, ![4096, 256]⟩
abbrev S8x64x256 : Shape := ⟨3, ![8, 64, 256]⟩
abbrev S1x256 : Shape := ⟨2, ![1, 256]⟩
abbrev S512x256 : Shape := ⟨2, ![512, 256]⟩
abbrev S128x256 : Shape := ⟨2, ![128, 256]⟩
abbrev S1x1x512x64 : Shape := ⟨4, ![1, 1, 512, 64]⟩
abbrev S512x64 : Shape := ⟨2, ![512, 64]⟩
abbrev S1x256x64 : Shape := ⟨3, ![1, 256, 64]⟩
abbrev S256x64 : Shape := ⟨2, ![256, 64]⟩
abbrev S64x256 : Shape := ⟨2, ![64, 256]⟩
abbrev S8x8x8x256 : Shape := ⟨4, ![8, 8, 8, 256]⟩
abbrev S8x8x256 : Shape := ⟨3, ![8, 8, 256]⟩
abbrev S8x256 : Shape := ⟨2, ![8, 256]⟩
abbrev S256 : Shape := ⟨1, ![256]⟩
abbrev S1x64x512 : Shape := ⟨3, ![1, 64, 512]⟩
abbrev S64x512 : Shape := ⟨2, ![64, 512]⟩
abbrev S1x64x256 : Shape := ⟨3, ![1, 64, 256]⟩

abbrev nBuf : Space → Nat
  | .hbm => 7
  | .vmem => 17
  | .smem => 0
  | _ => 0

abbrev bufTy : (tb : Table) → Fin (tcTables nBuf tb) → BufTy
  | .hbm, ⟨0, _⟩ => ⟨S8192x1280, .bf16⟩
  | .hbm, ⟨1, _⟩ => ⟨S8192x3072, .f32⟩
  | .hbm, ⟨2, _⟩ => ⟨S2x11x4096x64, .bf16⟩
  | .hbm, ⟨3, _⟩ => ⟨S2x1024x4096, .bf16⟩
  | .hbm, ⟨4, _⟩ => ⟨S8192x20x64, .bf16⟩
  | .hbm, ⟨5, _⟩ => ⟨S20x8192x64, .bf16⟩
  | .hbm, ⟨6, _⟩ => ⟨S8192x512, .bf16⟩
  | .local _ .vmem, ⟨0, _⟩ => ⟨S8x256x64, .bf16⟩
  | .local _ .vmem, ⟨1, _⟩ => ⟨S8x256x64, .bf16⟩
  | .local _ .vmem, ⟨2, _⟩ => ⟨S4x256x64, .bf16⟩
  | .local _ .vmem, ⟨3, _⟩ => ⟨S4x256x64, .bf16⟩
  | .local _ .vmem, ⟨4, _⟩ => ⟨S256x128, .f32⟩
  | .local _ .vmem, ⟨5, _⟩ => ⟨S256x128, .f32⟩
  | .local _ .vmem, ⟨6, _⟩ => ⟨S1x1x4096x64, .bf16⟩
  | .local _ .vmem, ⟨7, _⟩ => ⟨S1x1x4096x64, .bf16⟩
  | .local _ .vmem, ⟨8, _⟩ => ⟨S1x8x4096x64, .bf16⟩
  | .local _ .vmem, ⟨9, _⟩ => ⟨S1x8x4096x64, .bf16⟩
  | .local _ .vmem, ⟨10, _⟩ => ⟨S1x512x4096, .bf16⟩
  | .local _ .vmem, ⟨11, _⟩ => ⟨S1x512x4096, .bf16⟩
  | .local _ .vmem, ⟨12, _⟩ => ⟨S256x512, .bf16⟩
  | .local _ .vmem, ⟨13, _⟩ => ⟨S256x512, .bf16⟩
  | .local _ .vmem, ⟨14, _⟩ => ⟨S4096x256, .i32⟩
  | .local _ .vmem, ⟨15, _⟩ => ⟨S4096x256, .f32⟩
  | .local _ .vmem, ⟨16, _⟩ => ⟨S8x64x256, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 16], ![false, false]⟩

@[reducible] def k0_t1_loop (i : grid0.Coords) : Scf.Loop 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_10 : BitVec 32 := 1#32
  ⟨c0_i32_8, v31, c1_i32_10⟩
def k0_mult1 (i : grid0.Coords) (k0_t1 : Fin (k0_t1_loop i).trips) : BitVec 32 :=
  let c0_i32_8 : BitVec 32 := 0#32
  let c1_i32_10 : BitVec 32 := 1#32
  let arg12 : BitVec 32 := Scf.iv c0_i32_8 c1_i32_10 k0_t1
  let c512_i32_25 : BitVec 32 := 512#32
  let v43 : BitVec 32 := Scalar.muli arg12 c512_i32_25
  v43
def k0_off1 (i : grid0.Coords) (k0_t1 : Fin (k0_t1_loop i).trips) : Fin 4 → Nat :=
  let c0_26 : Index := 0#32
  let c0_27 : Index := 0#32
  let c0_i32_8 : BitVec 32 := 0#32
  let c1_i32_10 : BitVec 32 := 1#32
  let arg12 : BitVec 32 := Scf.iv c0_i32_8 c1_i32_10 k0_t1
  let c512_i32_25 : BitVec 32 := 512#32
  let v43 : BitVec 32 := Scalar.muli arg12 c512_i32_25
  let v44 : BitVec 32 := v43
  let v45 : Index := Scalar.indexCast v44
  let c0_28 : Index := 0#32
  ![0, 0, v45.toNat, 0]
def k0_mult2 (i : grid0.Coords) (k0_t1 : Fin (k0_t1_loop i).trips) : BitVec 32 :=
  let c0_i32_8 : BitVec 32 := 0#32
  let c1_i32_10 : BitVec 32 := 1#32
  let arg12 : BitVec 32 := Scf.iv c0_i32_8 c1_i32_10 k0_t1
  let c512_i32_33 : BitVec 32 := 512#32
  let v56 : BitVec 32 := Scalar.muli arg12 c512_i32_33
  v56
def k0_mult3 (i : grid0.Coords) (k0_t1 : Fin (k0_t1_loop i).trips) : BitVec 32 :=
  let c0_i32_8 : BitVec 32 := 0#32
  let c1_i32_10 : BitVec 32 := 1#32
  let arg12 : BitVec 32 := Scf.iv c0_i32_8 c1_i32_10 k0_t1
  let c512_i32_41 : BitVec 32 := 512#32
  let v70 : BitVec 32 := Scalar.muli arg12 c512_i32_41
  v70
def k0_mult4 (i : grid0.Coords) (k0_t1 : Fin (k0_t1_loop i).trips) : BitVec 32 :=
  let c0_i32_8 : BitVec 32 := 0#32
  let c1_i32_10 : BitVec 32 := 1#32
  let arg12 : BitVec 32 := Scf.iv c0_i32_8 c1_i32_10 k0_t1
  let c512_i32_49 : BitVec 32 := 512#32
  let v84 : BitVec 32 := Scalar.muli arg12 c512_i32_49
  v84
def k0_mult5 (i : grid0.Coords) (k0_t1 : Fin (k0_t1_loop i).trips) : BitVec 32 :=
  let c0_i32_8 : BitVec 32 := 0#32
  let c1_i32_10 : BitVec 32 := 1#32
  let arg12 : BitVec 32 := Scf.iv c0_i32_8 c1_i32_10 k0_t1
  let c512_i32_62 : BitVec 32 := 512#32
  let v115 : BitVec 32 := Scalar.muli arg12 c512_i32_62
  v115
def k0_off2 (i : grid0.Coords) (k0_t1 : Fin (k0_t1_loop i).trips) : Fin 2 → Nat :=
  let c0_i32_8 : BitVec 32 := 0#32
  let c1_i32_10 : BitVec 32 := 1#32
  let arg12 : BitVec 32 := Scf.iv c0_i32_8 c1_i32_10 k0_t1
  let c512_i32_62 : BitVec 32 := 512#32
  let v115 : BitVec 32 := Scalar.muli arg12 c512_i32_62
  let v116 : BitVec 32 := v115
  let v117 : Index := Scalar.indexCast v116
  let c0_63 : Index := 0#32
  ![v117.toNat, 0]
@[reducible] def k0_t2_loop (i : grid0.Coords) : Scf.Loop 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let v28 : BitVec 32 := Scalar.addi c0_i32_8 v27
  let c1_i32_11 : BitVec 32 := 1#32
  ⟨v31, v28, c1_i32_11⟩
def k0_mult6 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_25 : BitVec 32 := 512#32
  let v43 : BitVec 32 := Scalar.muli arg12 c512_i32_25
  v43
def k0_off3 (i : grid0.Coords) (k0_t2 : Fin (k0_t2_loop i).trips) : Fin 4 → Nat :=
  let c0_26 : Index := 0#32
  let c0_27 : Index := 0#32
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_25 : BitVec 32 := 512#32
  let v43 : BitVec 32 := Scalar.muli arg12 c512_i32_25
  let v44 : BitVec 32 := v43
  let v45 : Index := Scalar.indexCast v44
  let c0_28 : Index := 0#32
  ![0, 0, v45.toNat, 0]
def k0_mult7 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_33 : BitVec 32 := 512#32
  let v56 : BitVec 32 := Scalar.muli arg12 c512_i32_33
  v56
def k0_mult8 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_41 : BitVec 32 := 512#32
  let v70 : BitVec 32 := Scalar.muli arg12 c512_i32_41
  v70
def k0_mult9 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_49 : BitVec 32 := 512#32
  let v84 : BitVec 32 := Scalar.muli arg12 c512_i32_49
  v84
def k0_mult10 (i : grid0.Coords) (k0_t2 : Fin (k0_t2_loop i).trips) : BitVec 32 :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_62 : BitVec 32 := 512#32
  let v115 : BitVec 32 := Scalar.muli arg12 c512_i32_62
  v115
def k0_off4 (i : grid0.Coords) (k0_t2 : Fin (k0_t2_loop i).trips) : Fin 2 → Nat :=
  let c0_i32_8 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v27 : BitVec 32 := Scalar.subi v19 c0_i32_8
  let c1_i32_9 : BitVec 32 := 1#32
  let v29 : BitVec 32 := Scalar.divsi v27 c1_i32_9
  let v30 : BitVec 32 := Scalar.muli v29 c1_i32_9
  let v31 : BitVec 32 := Scalar.addi c0_i32_8 v30
  let c1_i32_11 : BitVec 32 := 1#32
  let arg12 : BitVec 32 := Scf.iv v31 c1_i32_11 k0_t2
  let c512_i32_62 : BitVec 32 := 512#32
  let v115 : BitVec 32 := Scalar.muli arg12 c512_i32_62
  let v116 : BitVec 32 := v115
  let v117 : Index := Scalar.indexCast v116
  let c0_63 : Index := 0#32
  ![v117.toNat, 0]
@[reducible] def k0_t3_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v32 : BitVec 32 := Scalar.subi v19 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_15 : BitVec 32 := 1#32
  ⟨c0_i32_13, v36, c1_i32_15⟩
def k0_mult11 (i : grid0.Coords) (k0_t3 : Fin (k0_t3_loop i).trips) : BitVec 32 :=
  let c0_i32_13 : BitVec 32 := 0#32
  let c1_i32_15 : BitVec 32 := 1#32
  let arg12 : BitVec 32 := Scf.iv c0_i32_13 c1_i32_15 k0_t3
  let c512_i32_25 : BitVec 32 := 512#32
  let v43 : BitVec 32 := Scalar.muli arg12 c512_i32_25
  v43
def k0_off5 (i : grid0.Coords) (k0_t3 : Fin (k0_t3_loop i).trips) : Fin 2 → Nat :=
  let c0_i32_13 : BitVec 32 := 0#32
  let c1_i32_15 : BitVec 32 := 1#32
  let arg12 : BitVec 32 := Scf.iv c0_i32_13 c1_i32_15 k0_t3
  let c512_i32_25 : BitVec 32 := 512#32
  let v43 : BitVec 32 := Scalar.muli arg12 c512_i32_25
  let v44 : BitVec 32 := v43
  let v45 : Index := Scalar.indexCast v44
  let c0_26 : Index := 0#32
  ![v45.toNat, 0]
@[reducible] def k0_t4_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let c1_i32_32 : BitVec 32 := 1#32
  ⟨c0_i32_30, v56, c1_i32_32⟩
def k0_off6 (i : grid0.Coords) (k0_t4 : Fin (k0_t4_loop i).trips) : Fin 2 → Nat :=
  let c0_i32_30 : BitVec 32 := 0#32
  let c1_i32_32 : BitVec 32 := 1#32
  let arg13 : BitVec 32 := Scf.iv c0_i32_30 c1_i32_32 k0_t4
  let v73 : Index := Scalar.indexCast arg13
  let c0_38 : Index := 0#32
  ![v73.toNat, 0]
@[reducible] def k0_t5_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let v53 : BitVec 32 := Scalar.addi c0_i32_30 v52
  let c1_i32_33 : BitVec 32 := 1#32
  ⟨v56, v53, c1_i32_33⟩
def k0_off7 (i : grid0.Coords) (k0_t5 : Fin (k0_t5_loop i).trips) : Fin 2 → Nat :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let c1_i32_33 : BitVec 32 := 1#32
  let arg13 : BitVec 32 := Scf.iv v56 c1_i32_33 k0_t5
  let v73 : Index := Scalar.indexCast arg13
  let c0_38 : Index := 0#32
  ![v73.toNat, 0]
def k0_mult12 (i : grid0.Coords) (k0_t3 : Fin (k0_t3_loop i).trips) : BitVec 32 :=
  let c0_i32_13 : BitVec 32 := 0#32
  let c1_i32_15 : BitVec 32 := 1#32
  let arg12 : BitVec 32 := Scf.iv c0_i32_13 c1_i32_15 k0_t3
  let c512_i32_36 : BitVec 32 := 512#32
  let v67 : BitVec 32 := Scalar.muli arg12 c512_i32_36
  v67
@[reducible] def k0_t6_loop (i : grid0.Coords) : Scf.Loop 32 :=
  let c0_i32_13 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v32 : BitVec 32 := Scalar.subi v19 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let v33 : BitVec 32 := Scalar.addi c0_i32_13 v32
  let c1_i32_16 : BitVec 32 := 1#32
  ⟨v36, v33, c1_i32_16⟩
def k0_mult13 (i : grid0.Coords) (k0_t6 : Fin (k0_t6_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v32 : BitVec 32 := Scalar.subi v19 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg12 : BitVec 32 := Scf.iv v36 c1_i32_16 k0_t6
  let c512_i32_25 : BitVec 32 := 512#32
  let v43 : BitVec 32 := Scalar.muli arg12 c512_i32_25
  v43
def k0_off8 (i : grid0.Coords) (k0_t6 : Fin (k0_t6_loop i).trips) : Fin 2 → Nat :=
  let c0_i32_13 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v32 : BitVec 32 := Scalar.subi v19 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg12 : BitVec 32 := Scf.iv v36 c1_i32_16 k0_t6
  let c512_i32_25 : BitVec 32 := 512#32
  let v43 : BitVec 32 := Scalar.muli arg12 c512_i32_25
  let v44 : BitVec 32 := v43
  let v45 : Index := Scalar.indexCast v44
  let c0_26 : Index := 0#32
  ![v45.toNat, 0]
@[reducible] def k0_t7_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let c1_i32_32 : BitVec 32 := 1#32
  ⟨c0_i32_30, v56, c1_i32_32⟩
def k0_off9 (i : grid0.Coords) (k0_t7 : Fin (k0_t7_loop i).trips) : Fin 2 → Nat :=
  let c0_i32_30 : BitVec 32 := 0#32
  let c1_i32_32 : BitVec 32 := 1#32
  let arg13 : BitVec 32 := Scf.iv c0_i32_30 c1_i32_32 k0_t7
  let v73 : Index := Scalar.indexCast arg13
  let c0_38 : Index := 0#32
  ![v73.toNat, 0]
@[reducible] def k0_t8_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let v53 : BitVec 32 := Scalar.addi c0_i32_30 v52
  let c1_i32_33 : BitVec 32 := 1#32
  ⟨v56, v53, c1_i32_33⟩
def k0_off10 (i : grid0.Coords) (k0_t8 : Fin (k0_t8_loop i).trips) : Fin 2 → Nat :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c512_i32_28 : BitVec 32 := 512#32
  let v50 : BitVec 32 := Scalar.muli v19 c512_i32_28
  let v52 : BitVec 32 := Scalar.subi v50 c0_i32_30
  let c1_i32_31 : BitVec 32 := 1#32
  let v54 : BitVec 32 := Scalar.divsi v52 c1_i32_31
  let v55 : BitVec 32 := Scalar.muli v54 c1_i32_31
  let v56 : BitVec 32 := Scalar.addi c0_i32_30 v55
  let c1_i32_33 : BitVec 32 := 1#32
  let arg13 : BitVec 32 := Scf.iv v56 c1_i32_33 k0_t8
  let v73 : Index := Scalar.indexCast arg13
  let c0_38 : Index := 0#32
  ![v73.toNat, 0]
def k0_mult14 (i : grid0.Coords) (k0_t6 : Fin (k0_t6_loop i).trips) : BitVec 32 :=
  let c0_i32_13 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v32 : BitVec 32 := Scalar.subi v19 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg12 : BitVec 32 := Scf.iv v36 c1_i32_16 k0_t6
  let c512_i32_36 : BitVec 32 := 512#32
  let v67 : BitVec 32 := Scalar.muli arg12 c512_i32_36
  v67
@[reducible] def k0_t9_loop : Scf.Loop 32 :=
  let c0_i32_17 : BitVec 32 := 0#32
  let c8_i32 : BitVec 32 := 8#32
  let v37 : BitVec 32 := Scalar.addi c0_i32_17 c8_i32
  let c1_i32_18 : BitVec 32 := 1#32
  ⟨c0_i32_17, v37, c1_i32_18⟩
def k0_off11 (k0_t9 : Fin k0_t9_loop.trips) : Fin 3 → Nat :=
  let c0_i32_17 : BitVec 32 := 0#32
  let c1_i32_18 : BitVec 32 := 1#32
  let arg12 : BitVec 32 := Scf.iv c0_i32_17 c1_i32_18 k0_t9
  let v43 : Index := Scalar.indexCast arg12
  let c0_25 : Index := 0#32
  let c0_26 : Index := 0#32
  ![v43.toNat, 0, 0]
@[reducible] def k0_t10_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_32 : BitVec 32 := 1#32
  ⟨c0_i32_30, v55, c1_i32_32⟩
def k0_mult15 (i : grid0.Coords) (k0_t10 : Fin (k0_t10_loop i).trips) : BitVec 32 :=
  let c0_i32_30 : BitVec 32 := 0#32
  let c1_i32_32 : BitVec 32 := 1#32
  let arg13 : BitVec 32 := Scf.iv c0_i32_30 c1_i32_32 k0_t10
  let c512_i32_36 : BitVec 32 := 512#32
  let v64 : BitVec 32 := Scalar.muli arg13 c512_i32_36
  v64
def k0_off12 (i : grid0.Coords) (k0_t9 : Fin k0_t9_loop.trips) (k0_t10 : Fin (k0_t10_loop i).trips) : Fin 4 → Nat :=
  let c0_37 : Index := 0#32
  let c0_i32_17 : BitVec 32 := 0#32
  let c1_i32_18 : BitVec 32 := 1#32
  let arg12 : BitVec 32 := Scf.iv c0_i32_17 c1_i32_18 k0_t9
  let v66 : Index := Scalar.indexCast arg12
  let c0_i32_30 : BitVec 32 := 0#32
  let c1_i32_32 : BitVec 32 := 1#32
  let arg13 : BitVec 32 := Scf.iv c0_i32_30 c1_i32_32 k0_t10
  let c512_i32_36 : BitVec 32 := 512#32
  let v64 : BitVec 32 := Scalar.muli arg13 c512_i32_36
  let v65 : BitVec 32 := v64
  let v67 : Index := Scalar.indexCast v65
  let c0_38 : Index := 0#32
  ![0, v66.toNat, v67.toNat, 0]
def k0_mult16 (i : grid0.Coords) (k0_t10 : Fin (k0_t10_loop i).trips) : BitVec 32 :=
  let c0_i32_30 : BitVec 32 := 0#32
  let c1_i32_32 : BitVec 32 := 1#32
  let arg13 : BitVec 32 := Scf.iv c0_i32_30 c1_i32_32 k0_t10
  let c512_i32_40 : BitVec 32 := 512#32
  let v71 : BitVec 32 := Scalar.muli arg13 c512_i32_40
  v71
def k0_off13 (i : grid0.Coords) (k0_t10 : Fin (k0_t10_loop i).trips) : Fin 2 → Nat :=
  let c0_i32_30 : BitVec 32 := 0#32
  let c1_i32_32 : BitVec 32 := 1#32
  let arg13 : BitVec 32 := Scf.iv c0_i32_30 c1_i32_32 k0_t10
  let c512_i32_40 : BitVec 32 := 512#32
  let v71 : BitVec 32 := Scalar.muli arg13 c512_i32_40
  let v72 : BitVec 32 := v71
  let v73 : Index := Scalar.indexCast v72
  let c0_41 : Index := 0#32
  ![v73.toNat, 0]
def k0_mult17 (k0_t9 : Fin k0_t9_loop.trips) : BitVec 32 :=
  let c0_i32_17 : BitVec 32 := 0#32
  let c1_i32_18 : BitVec 32 := 1#32
  let arg12 : BitVec 32 := Scf.iv c0_i32_17 c1_i32_18 k0_t9
  let c64_i32 : BitVec 32 := 64#32
  let v87 : BitVec 32 := Scalar.muli arg12 c64_i32
  v87
def k0_mult18 (i : grid0.Coords) (k0_t10 : Fin (k0_t10_loop i).trips) : BitVec 32 :=
  let c0_i32_30 : BitVec 32 := 0#32
  let c1_i32_32 : BitVec 32 := 1#32
  let arg13 : BitVec 32 := Scf.iv c0_i32_30 c1_i32_32 k0_t10
  let c512_i32_45 : BitVec 32 := 512#32
  let v89 : BitVec 32 := Scalar.muli arg13 c512_i32_45
  v89
def k0_off14 (i : grid0.Coords) (k0_t9 : Fin k0_t9_loop.trips) (k0_t10 : Fin (k0_t10_loop i).trips) : Fin 3 → Nat :=
  let c0_46 : Index := 0#32
  let c0_i32_17 : BitVec 32 := 0#32
  let c1_i32_18 : BitVec 32 := 1#32
  let arg12 : BitVec 32 := Scf.iv c0_i32_17 c1_i32_18 k0_t9
  let c64_i32 : BitVec 32 := 64#32
  let v87 : BitVec 32 := Scalar.muli arg12 c64_i32
  let v88 : BitVec 32 := v87
  let v91 : Index := Scalar.indexCast v88
  let c0_i32_30 : BitVec 32 := 0#32
  let c1_i32_32 : BitVec 32 := 1#32
  let arg13 : BitVec 32 := Scf.iv c0_i32_30 c1_i32_32 k0_t10
  let c512_i32_45 : BitVec 32 := 512#32
  let v89 : BitVec 32 := Scalar.muli arg13 c512_i32_45
  let v90 : BitVec 32 := v89
  let v92 : Index := Scalar.indexCast v90
  ![0, v91.toNat, v92.toNat]
@[reducible] def k0_t11_loop (i : grid0.Coords) : Scf.Loop 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let v52 : BitVec 32 := Scalar.addi c0_i32_30 v51
  let c1_i32_33 : BitVec 32 := 1#32
  ⟨v55, v52, c1_i32_33⟩
def k0_mult19 (i : grid0.Coords) (k0_t11 : Fin (k0_t11_loop i).trips) : BitVec 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_36 : BitVec 32 := 512#32
  let v64 : BitVec 32 := Scalar.muli arg13 c512_i32_36
  v64
def k0_off15 (i : grid0.Coords) (k0_t9 : Fin k0_t9_loop.trips) (k0_t11 : Fin (k0_t11_loop i).trips) : Fin 4 → Nat :=
  let c0_37 : Index := 0#32
  let c0_i32_17 : BitVec 32 := 0#32
  let c1_i32_18 : BitVec 32 := 1#32
  let arg12 : BitVec 32 := Scf.iv c0_i32_17 c1_i32_18 k0_t9
  let v66 : Index := Scalar.indexCast arg12
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_36 : BitVec 32 := 512#32
  let v64 : BitVec 32 := Scalar.muli arg13 c512_i32_36
  let v65 : BitVec 32 := v64
  let v67 : Index := Scalar.indexCast v65
  let c0_38 : Index := 0#32
  ![0, v66.toNat, v67.toNat, 0]
def k0_mult20 (i : grid0.Coords) (k0_t11 : Fin (k0_t11_loop i).trips) : BitVec 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_40 : BitVec 32 := 512#32
  let v71 : BitVec 32 := Scalar.muli arg13 c512_i32_40
  v71
def k0_off16 (i : grid0.Coords) (k0_t11 : Fin (k0_t11_loop i).trips) : Fin 2 → Nat :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_40 : BitVec 32 := 512#32
  let v71 : BitVec 32 := Scalar.muli arg13 c512_i32_40
  let v72 : BitVec 32 := v71
  let v73 : Index := Scalar.indexCast v72
  let c0_41 : Index := 0#32
  ![v73.toNat, 0]
def k0_mult21 (k0_t9 : Fin k0_t9_loop.trips) : BitVec 32 :=
  let c0_i32_17 : BitVec 32 := 0#32
  let c1_i32_18 : BitVec 32 := 1#32
  let arg12 : BitVec 32 := Scf.iv c0_i32_17 c1_i32_18 k0_t9
  let c64_i32 : BitVec 32 := 64#32
  let v87 : BitVec 32 := Scalar.muli arg12 c64_i32
  v87
def k0_mult22 (i : grid0.Coords) (k0_t11 : Fin (k0_t11_loop i).trips) : BitVec 32 :=
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_45 : BitVec 32 := 512#32
  let v89 : BitVec 32 := Scalar.muli arg13 c512_i32_45
  v89
def k0_off17 (i : grid0.Coords) (k0_t9 : Fin k0_t9_loop.trips) (k0_t11 : Fin (k0_t11_loop i).trips) : Fin 3 → Nat :=
  let c0_46 : Index := 0#32
  let c0_i32_17 : BitVec 32 := 0#32
  let c1_i32_18 : BitVec 32 := 1#32
  let arg12 : BitVec 32 := Scf.iv c0_i32_17 c1_i32_18 k0_t9
  let c64_i32 : BitVec 32 := 64#32
  let v87 : BitVec 32 := Scalar.muli arg12 c64_i32
  let v88 : BitVec 32 := v87
  let v91 : Index := Scalar.indexCast v88
  let c0_i32_30 : BitVec 32 := 0#32
  let arg1 : BitVec 32 := BitVec.ofNat 32 (i 1).val
  let c256_i32 : BitVec 32 := 256#32
  let v0 : BitVec 32 := Scalar.muli arg1 c256_i32
  let c255_i32 : BitVec 32 := 255#32
  let v1 : BitVec 32 := Scalar.addi v0 c255_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let v51 : BitVec 32 := Scalar.subi v19 c0_i32_30
  let c1_i32_31 : BitVec 32 := 1#32
  let v53 : BitVec 32 := Scalar.divsi v51 c1_i32_31
  let v54 : BitVec 32 := Scalar.muli v53 c1_i32_31
  let v55 : BitVec 32 := Scalar.addi c0_i32_30 v54
  let c1_i32_33 : BitVec 32 := 1#32
  let arg13 : BitVec 32 := Scf.iv v55 c1_i32_33 k0_t11
  let c512_i32_45 : BitVec 32 := 512#32
  let v89 : BitVec 32 := Scalar.muli arg13 c512_i32_45
  let v90 : BitVec 32 := v89
  let v92 : Index := Scalar.indexCast v90
  ![0, v91.toNat, v92.toNat]
def k0_off18 (k0_t9 : Fin k0_t9_loop.trips) : Fin 3 → Nat :=
  let c0_i32_17 : BitVec 32 := 0#32
  let c1_i32_18 : BitVec 32 := 1#32
  let arg12 : BitVec 32 := Scf.iv c0_i32_17 c1_i32_18 k0_t9
  let v60 : Index := Scalar.indexCast arg12
  let c0_34 : Index := 0#32
  let c0_35 : Index := 0#32
  ![v60.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c20_i32 : BitVec 32 := 20#32
  let c0_i32 : BitVec 32 := 0#32
  ![v1.toNat, c20_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![arg0.toNat, c8_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8192x2048 : Shape := ⟨2, ![8192, 2048]⟩
abbrev S8192x512 : Shape := ⟨2, ![8192, 512]⟩
abbrev S4x512x2048 : Shape := ⟨3, ![4, 512, 2048]⟩
abbrev S2048x13924 : Shape := ⟨2, ![2048, 13924]⟩
abbrev S13924x2048 : Shape := ⟨2, ![13924, 2048]⟩
abbrev S1024x2048 : Shape := ⟨2, ![1024, 2048]⟩
abbrev S1024x512 : Shape := ⟨2, ![1024, 512]⟩
abbrev S4x512x512 : Shape := ⟨3, ![4, 512, 512]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 12
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x512x2048, .f32⟩
  | .hbm, ⟨6, _⟩ => ⟨S2048x13924, .f32⟩
  | .hbm, ⟨7, _⟩ => ⟨S13924x2048, .f32⟩
  | .hbm, ⟨8, _⟩ => ⟨S8192x2048, .f32⟩
  | .hbm, ⟨9, _⟩ => ⟨S8192x2048, .bf16⟩
  | .hbm, ⟨10, _⟩ => ⟨S4x512x2048, .bf16⟩
  | .hbm, ⟨11, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x512x512, .bf16⟩
  | .local _ .vmem, ⟨11, _⟩ => ⟨S4x512x512, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1024x512, .bf16⟩
  | .local _ .vmem, ⟨21, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8192x2048 : Shape := ⟨2, ![8192, 2048]⟩
abbrev S8192x512 : Shape := ⟨2, ![8192, 512]⟩
abbrev S4x512x2048 : Shape := ⟨3, ![4, 512, 2048]⟩
abbrev S2048x13924 : Shape := ⟨2, ![2048, 13924]⟩
abbrev S8192x1x512 : Shape := ⟨3, ![8192, 1, 512]⟩
abbrev S8192x4x512 : Shape := ⟨3, ![8192, 4, 512]⟩
abbrev S4x2048x8192 : Shape := ⟨3, ![4, 2048, 8192]⟩
abbrev S8192x4x2048 : Shape := ⟨3, ![8192, 4, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x512x2048, .f32⟩
  | .hbm, ⟨6, _⟩ => ⟨S2048x13924, .f32⟩
  | .hbm, ⟨7, _⟩ => ⟨S8192x1x512, .bf16⟩
  | .hbm, ⟨8, _⟩ => ⟨S8192x1x512, .bf16⟩
  | .hbm, ⟨9, _⟩ => ⟨S8192x1x512, .bf16⟩
  | .hbm, ⟨10, _⟩ => ⟨S8192x1x512, .bf16⟩
  | .hbm, ⟨11, _⟩ => ⟨S8192x4x512, .bf16⟩
  | .hbm, ⟨12, _⟩ => ⟨S8192x4x512, .f32⟩
  | .hbm, ⟨13, _⟩ => ⟨S4x2048x8192, .f32⟩
  | .hbm, ⟨14, _⟩ => ⟨S8192x4x2048, .f32⟩
  | .hbm, ⟨15, _⟩ => ⟨S8192x2048, .f32⟩
  | .hbm, ⟨16, _⟩ => ⟨S2048x8192, .f32⟩
  | .hbm, ⟨17, _⟩ => ⟨S8192x8192, .f32⟩
  | .hbm, ⟨18, _⟩ => ⟨S8192x4x2048, .f32⟩
  | .hbm, ⟨19, _⟩ => ⟨S8192x4x2048, .f32⟩
  | .hbm, ⟨20, _⟩ => ⟨S8192x4x2048, .f32⟩
  | .hbm, ⟨21, _⟩ => ⟨S_, .f32⟩
  | .hbm, ⟨22, _⟩ => ⟨S8192x4x2048, .f32⟩
  | .hbm, ⟨23, _⟩ => ⟨S8192x4x2048, .f32⟩
  | .hbm, ⟨24, _⟩ => ⟨S_, .f32⟩
  | .hbm, ⟨25, _⟩ => ⟨S8192x4x2048, .f32⟩
  | .hbm, ⟨26, _⟩ => ⟨S8192x4x2048, .f32⟩
  | .hbm, ⟨27, _⟩ => ⟨S8192x4x2048, .f32⟩
  | .hbm, ⟨28, _⟩ => ⟨S_, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S8192x4096 : Shape := ⟨2, ![8192, 4096]⟩
abbrev S4096x2048 : Shape := ⟨2, ![4096, 2048]⟩
abbrev S8192x2048 : Shape := ⟨2, ![8192, 2048]⟩
abbrev S2x9x2048 : Shape := ⟨3, ![2, 9, 2048]⟩
abbrev S512x4096 : Shape := ⟨2, ![512, 4096]⟩
abbrev S512x2048 : Shape := ⟨2, ![512, 2048]⟩
abbrev S1x9x2048 : Shape := ⟨3, ![1, 9, 2048]⟩
abbrev S1x1x2048 : Shape := ⟨3, ![1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2x9x2048, .f32⟩
  | .hbm, ⟨4, _⟩ => ⟨S4096x2048, .bf16⟩
  | .hbm, ⟨5, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x9x2048, .f32⟩
  | .local _ .vmem, ⟨6, _⟩ => ⟨S1x9x2048, .f32⟩
  | .local _ .vmem, ⟨7, _⟩ => ⟨S512x2048, .f32⟩
  | .local _ .vmem, ⟨8, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x4096 : Shape := ⟨2, ![8192, 4096]⟩
abbrev S4096x2048 : Shape := ⟨2, ![4096, 2048]⟩
abbrev S8192x2048 : Shape := ⟨2, ![8192, 2048]⟩
abbrev S2x9x2048 : Shape := ⟨3, ![2, 9, 2048]⟩
abbrev S2x4096x2048 : Shape := ⟨3, ![2, 4096, 2048]⟩
abbrev S2x1x2048 : Shape := ⟨3, ![2, 1, 2048]⟩
abbrev S2x2048 : Shape := ⟨2, ![2, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2x9x2048, .f32⟩
  | .hbm, ⟨4, _⟩ => ⟨S8192x4096, .f32⟩
  | .hbm, ⟨5, _⟩ => ⟨S8192x2048, .f32⟩
  | .hbm, ⟨6, _⟩ => ⟨S2x4096x2048, .f32⟩
  | .hbm, ⟨7, _⟩ => ⟨S2x4096x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S_, .f32⟩
  | .hbm, ⟨12, _⟩ => ⟨S2x1x2048, .f32⟩
  | .hbm, ⟨13, _⟩ => ⟨S2x1x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2x9x2048 : Shape := ⟨3, ![2, 9, 2048]⟩
abbrev S2048x8192 : Shape := ⟨2, ![2048, 8192]⟩
abbrev S1x2048 : Shape := ⟨2, ![1, 2048]⟩
abbrev S8192x4096 : Shape := ⟨2, ![8192, 4096]⟩
abbrev S1024x2048 : Shape := ⟨2, ![1024, 2048]⟩
abbrev S1x9x2048 : Shape := ⟨3, ![1, 9, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x9x2048, .f32⟩
  | .hbm, ⟨3, _⟩ => ⟨S2048x8192, .f32⟩
  | .hbm, ⟨4, _⟩ => ⟨S1x2048, .f32⟩
  | .hbm, ⟨5, _⟩ => ⟨S2048x8192, .bf16⟩
  | .hbm, ⟨6, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x9x2048, .f32⟩
  | .local _ .vmem, ⟨4, _⟩ => ⟨S1x9x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S2048 : Shape := ⟨1, ![2048]⟩
abbrev S2x9x2048 : Shape := ⟨3, ![2, 9, 2048]⟩
abbrev S2048x8192 : Shape := ⟨2, ![2048, 8192]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x2048 : Shape := ⟨2, ![2, 2048]⟩
abbrev S8192x8192 : Shape := ⟨2, ![8192, 8192]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x9x2048, .f32⟩
  | .hbm, ⟨3, _⟩ => ⟨S2048x8192, .f32⟩
  | .hbm, ⟨4, _⟩ => ⟨S2x4096x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x1x2048, .f32⟩
  | .hbm, ⟨30, _⟩ => ⟨S2x2048, .f32⟩
  | .hbm, ⟨31, _⟩ => ⟨S2x1x2048, .f32⟩
  | .hbm, ⟨32, _⟩ => ⟨S2x4096x2048, .f32⟩
  | .hbm, ⟨33, _⟩ => ⟨S2x4096x2048, .f32⟩
  | .hbm, ⟨34, _⟩ => ⟨S8192x2048, .f32⟩
  | .hbm, ⟨35, _⟩ => ⟨S8192x8192, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel5.lean ====
abbrev S8192x2048 : Shape := ⟨2, ![8192, 2048]⟩
abbrev S2048x13924 : Shape := ⟨2, ![2048, 13924]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S13924x2048 : Shape := ⟨2, ![13924, 2048]⟩
abbrev S1024x2048 : Shape := ⟨2, ![1024, 2048]⟩
abbrev S64x2048 : Shape := ⟨2, ![64, 2048]⟩
abbrev S768x2048 : Shape := ⟨2, ![768, 2048]⟩
abbrev S1856x2048 : Shape := ⟨2, ![1856, 2048]⟩
abbrev S32x4096 : Shape := ⟨2, ![32, 4096]⟩
abbrev S2x1024x4096 : Shape := ⟨3, ![2, 1024, 4096]⟩
abbrev S2x64x4096 : Shape := ⟨3, ![2, 64, 4096]⟩
abbrev S2x512x4096 : Shape := ⟨3, ![2, 512, 4096]⟩
abbrev S2x256x4096 : Shape := ⟨3, ![2, 256, 4096]⟩
abbrev S2x11x4096x64 : Shape := ⟨4, ![2, 11, 4096, 64]⟩
abbrev S512x2048 : Shape := ⟨2, ![512, 2048]⟩
abbrev S32x512 : Shape := ⟨2, ![32, 512]⟩
abbrev S1x1024x512 : Shape := ⟨3, ![1, 1024, 512]⟩
abbrev S1x64x512 : Shape := ⟨3, ![1, 64, 512]⟩
abbrev S1x512x512 : Shape := ⟨3, ![1, 512, 512]⟩
abbrev S1x256x512 : Shape := ⟨3, ![1, 256, 512]⟩
abbrev S1x11x512x64 : Shape := ⟨4, ![1, 11, 512, 64]⟩
abbrev S1856x512 : Shape := ⟨2, ![1856, 512]⟩
abbrev S1024x512 : Shape := ⟨2, ![1024, 512]⟩
abbrev S64x512 : Shape := ⟨2, ![64, 512]⟩
abbrev S512x512 : Shape := ⟨2, ![512, 512]⟩
abbrev S256x512 : Shape := ⟨2, ![256, 512]⟩
abbrev S512x64 : Shape := ⟨2, ![512, 64]⟩
abbrev S1x1x512x64 : Shape := ⟨4, ![1, 1, 512, 64]⟩

abbrev nBuf : Space → Nat
  | .hbm => 36
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S2048x13924, .f32⟩
  | .hbm, ⟨2, _⟩ => ⟨S4096, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S4096, .f32⟩
  | .hbm, ⟨12, _⟩ => ⟨S4096x1, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S13924x2048, .f32⟩
  | .hbm, ⟨20, _⟩ => ⟨S1024x2048, .f32⟩
  | .hbm, ⟨21, _⟩ => ⟨S64x2048, .f32⟩
  | .hbm, ⟨22, _⟩ => ⟨S768x2048, .f32⟩
  | .hbm, ⟨23, _⟩ => ⟨S1856x2048, .f32⟩
  | .hbm, ⟨24, _⟩ => ⟨S1856x2048, .bf16⟩
  | .hbm, ⟨25, _⟩ => ⟨S32x4096, .f32⟩
  | .hbm, ⟨26, _⟩ => ⟨S32x4096, .f32⟩
  | .hbm, ⟨27, _⟩ => ⟨S2x1024x4096, .f32⟩
  | .hbm, ⟨28, _⟩ => ⟨S2x64x4096, .f32⟩
  | .hbm, ⟨29, _⟩ => ⟨S2x512x4096, .f32⟩
  | .hbm, ⟨30, _⟩ => ⟨S2x256x4096, .f32⟩
  | .hbm, ⟨31, _⟩ => ⟨S2x1024x4096, .bf16⟩
  | .hbm, ⟨32, _⟩ => ⟨S2x64x4096, .bf16⟩
  | .hbm, ⟨33, _⟩ => ⟨S2x512x4096, .bf16⟩
  | .hbm, ⟨34, _⟩ => ⟨S2x256x4096, .bf16⟩
  | .hbm, ⟨35, _⟩ => ⟨S2x11x4096x64, .bf16⟩
  | .local _ .vmem, ⟨0, _⟩ => ⟨S512x2048, .bf16⟩
  | .local _ .vmem, ⟨1, _⟩ => ⟨S512x2048, .bf16⟩
  | .local _ .vmem, ⟨2, _⟩ => ⟨S1856x2048, .bf16⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S1x1024x512, .f32⟩
  | .local _ .vmem, ⟨8, _⟩ => ⟨S1x1024x512, .f32⟩
  | .local _ .vmem, ⟨9, _⟩ => ⟨S1x64x512, .f32⟩
  | .local _ .vmem, ⟨10, _⟩ => ⟨S1x64x512, .f32⟩
  | .local _ .vmem, ⟨11, _⟩ => ⟨S1x512x512, .f32⟩
  | .local _ .vmem, ⟨12, _⟩ => ⟨S1x512x512, .f32⟩
  | .local _ .vmem, ⟨13, _⟩ => ⟨S1x256x512, .f32⟩
  | .local _ .vmem, ⟨14, _⟩ => ⟨S1x256x512, .f32⟩
  | .local _ .vmem, ⟨15, _⟩ => ⟨S1x1024x512, .bf16⟩
  | .local _ .vmem, ⟨16, _⟩ => ⟨S1x1024x512, .bf16⟩
  | .local _ .vmem, ⟨17, _⟩ => ⟨S1x64x512, .bf16⟩
  | .local _ .vmem, ⟨18, _⟩ => ⟨S1x64x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x11x512x64, .bf16⟩
  | .local _ .vmem, ⟨24, _⟩ => ⟨S1x11x512x64, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23_0 : Ref sig .tc := ⟨.hbm, 27, rfl⟩
abbrev main_v23_1 : Ref sig .tc := ⟨.hbm, 28, rfl⟩
abbrev main_v23_2 : Ref sig .tc := ⟨.hbm, 29, rfl⟩
abbrev main_v23_3 : Ref sig .tc := ⟨.hbm, 30, rfl⟩
abbrev main_v23_4 : Ref sig .tc := ⟨.hbm, 31, rfl⟩
abbrev main_v23_5 : Ref sig .tc := ⟨.hbm, 32, rfl⟩
abbrev main_v23_6 : Ref sig .tc := ⟨.hbm, 33, rfl⟩
abbrev main_v23_7 : Ref sig .tc := ⟨.hbm, 34, rfl⟩
abbrev main_v23_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1856x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x11x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel6.lean ====
abbrev S8192x2048 : Shape := ⟨2, ![8192, 2048]⟩
abbrev S2048x13924 : Shape := ⟨2, ![2048, 13924]⟩
abbrev S13924x2048 : Shape := ⟨2, ![13924, 2048]⟩
abbrev S512x2048 : Shape := ⟨2, ![512, 2048]⟩
abbrev S256x2048 : Shape := ⟨2, ![256, 2048]⟩
abbrev S1280x2048 : Shape := ⟨2, ![1280, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8192x1280 : Shape := ⟨2, ![8192, 1280]⟩
abbrev S512x128 : Shape := ⟨2, ![512, 128]⟩
abbrev S512x1280 : Shape := ⟨2, ![512, 1280]⟩

abbrev nBuf : Space → Nat
  | .hbm => 34
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x13924, .f32⟩
  | .hbm, ⟨2, _⟩ => ⟨S13924x2048, .f32⟩
  | .hbm, ⟨3, _⟩ => ⟨S512x2048, .f32⟩
  | .hbm, ⟨4, _⟩ => ⟨S512x2048, .f32⟩
  | .hbm, ⟨5, _⟩ => ⟨S256x2048, .f32⟩
  | .hbm, ⟨6, _⟩ => ⟨S1280x2048, .f32⟩
  | .hbm, ⟨7, _⟩ => ⟨S1280x2048, .bf16⟩
  | .hbm, ⟨8, _⟩ => ⟨S4096, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S_, .f32⟩
  | .hbm, ⟨26, _⟩ => ⟨S4096x32, .f32⟩
  | .hbm, ⟨27, _⟩ => ⟨S_, .f32⟩
  | .hbm, ⟨28, _⟩ => ⟨S4096x32, .f32⟩
  | .hbm, ⟨29, _⟩ => ⟨S4096x128, .f32⟩
  | .hbm, ⟨30, _⟩ => ⟨S4096x32, .f32⟩
  | .hbm, ⟨31, _⟩ => ⟨S4096x32, .f32⟩
  | .hbm, ⟨32, _⟩ => ⟨S4096x128, .f32⟩
  | .hbm, ⟨33, _⟩ => ⟨S8192x1280, .bf16⟩
  | .local _ .vmem, ⟨0, _⟩ => ⟨S512x2048, .bf16⟩
  | .local _ .vmem, ⟨1, _⟩ => ⟨S512x2048, .bf16⟩
  | .local _ .vmem, ⟨2, _⟩ => ⟨S1280x2048, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1280, .bf16⟩
  | .local _ .vmem, ⟨8, _⟩ => ⟨S512x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x2048 : Shape := ⟨2, ![8192, 2048]⟩
abbrev S2048x13924 : Shape := ⟨2, ![2048, 13924]⟩
abbrev S8192x13924 : Shape := ⟨2, ![8192, 13924]⟩
abbrev S2x4096x13924 : Shape := ⟨3, ![2, 4096, 13924]⟩
abbrev S2x4096x512 : Shape := ⟨3, ![2, 4096, 512]⟩
abbrev S2x4096x256 : Shape := ⟨3, ![2, 4096, 256]⟩
abbrev S2x4096x1280 : Shape := ⟨3, ![2, 4096, 1280]⟩
abbrev S2x4096x20x64 : Shape := ⟨4, ![2, 4096, 20, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x20x32 : Shape := ⟨4, ![2, 4096, 20, 32]⟩
abbrev S1x4096x1x32 : Shape := ⟨4, ![1, 4096, 1, 32]⟩
abbrev S8192x1280 : Shape := ⟨2, ![8192, 1280]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13924, .f32⟩
  | .hbm, ⟨2, _⟩ => ⟨S8192x2048, .f32⟩
  | .hbm, ⟨3, _⟩ => ⟨S8192x13924, .f32⟩
  | .hbm, ⟨4, _⟩ => ⟨S2x4096x13924, .f32⟩
  | .hbm, ⟨5, _⟩ => ⟨S2x4096x512, .f32⟩
  | .hbm, ⟨6, _⟩ => ⟨S2x4096x512, .f32⟩
  | .hbm, ⟨7, _⟩ => ⟨S2x4096x256, .f32⟩
  | .hbm, ⟨8, _⟩ => ⟨S2x4096x1280, .f32⟩
  | .hbm, ⟨9, _⟩ => ⟨S2x4096x20x64, .f32⟩
  | .hbm, ⟨10, _⟩ => ⟨S4096, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x1x32, .f32⟩
  | .hbm, ⟨27, _⟩ => ⟨S4096x32, .f32⟩
  | .hbm, ⟨28, _⟩ => ⟨S4096x1x32, .f32⟩
  | .hbm, ⟨29, _⟩ => ⟨S2x4096x20x32, .f32⟩
  | .hbm, ⟨30, _⟩ => ⟨S2x4096x20x32, .f32⟩
  | .hbm, ⟨31, _⟩ => ⟨S1x4096x1x32, .f32⟩
  | .hbm, ⟨32, _⟩ => ⟨S2x4096x20x32, .f32⟩
  | .hbm, ⟨33, _⟩ => ⟨S2x4096x20x32, .f32⟩
  | .hbm, ⟨34, _⟩ => ⟨S1x4096x1x32, .f32⟩
  | .hbm, ⟨35, _⟩ => ⟨S2x4096x20x32, .f32⟩
  | .hbm, ⟨36, _⟩ => ⟨S2x4096x20x32, .f32⟩
  | .hbm, ⟨37, _⟩ => ⟨S2x4096x20x32, .f32⟩
  | .hbm, ⟨38, _⟩ => ⟨S1x4096x1x32, .f32⟩
  | .hbm, ⟨39, _⟩ => ⟨S2x4096x20x32, .f32⟩
  | .hbm, ⟨40, _⟩ => ⟨S2x4096x20x32, .f32⟩
  | .hbm, ⟨41, _⟩ => ⟨S1x4096x1x32, .f32⟩
  | .hbm, ⟨42, _⟩ => ⟨S2x4096x20x32, .f32⟩
  | .hbm, ⟨43, _⟩ => ⟨S2x4096x20x32, .f32⟩
  | .hbm, ⟨44, _⟩ => ⟨S2x4096x20x32, .f32⟩
  | .hbm, ⟨45, _⟩ => ⟨S2x4096x20x64, .f32⟩
  | .hbm, ⟨46, _⟩ => ⟨S8192x1280, .f32⟩
  | .hbm, ⟨47, _⟩ => ⟨S8192x1280, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩

abbrev nD : Nat := 1
abbrev τ : Topo := Topo.v7x

variable {F : FTy → Type} [FloatOps F]
-- ==== Kernel7.lean ====
abbrev S64x2048 : Shape := ⟨2, ![64, 2048]⟩
abbrev S2048x13924 : Shape := ⟨2, ![2048, 13924]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x512 : Shape := ⟨2, ![8, 512]⟩
abbrev S8x384 : Shape := ⟨2, ![8, 384]⟩
abbrev S8x1920 : Shape := ⟨2, ![8, 1920]⟩
abbrev S13924x2048 : Shape := ⟨2, ![13924, 2048]⟩
abbrev S1024x2048 : Shape := ⟨2, ![1024, 2048]⟩
abbrev S768x2048 : Shape := ⟨2, ![768, 2048]⟩
abbrev S1856x2048 : Shape := ⟨2, ![1856, 2048]⟩
abbrev S1920x2048 : Shape := ⟨2, ![1920, 2048]⟩
abbrev S64x1920 : Shape := ⟨2, ![64, 1920]⟩
abbrev S8x2048 : Shape := ⟨2, ![8, 2048]⟩

abbrev nBuf : Space → Nat
  | .hbm => 61
  | .vmem => 7
  | .smem => 0
  | _ => 0

abbrev bufTy : (tb : Table) → Fin (tcTables nBuf tb) → BufTy
  | .hbm, ⟨0, _⟩ => ⟨S64x2048, .bf16⟩
  | .hbm, ⟨1, _⟩ => ⟨S2048x13924, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8, .f32⟩
  | .hbm, ⟨15, _⟩ => ⟨S8x1, .f32⟩
  | .hbm, ⟨16, _⟩ => ⟨S1x32, .f32⟩
  | .hbm, ⟨17, _⟩ => ⟨S8x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S_, .f32⟩
  | .hbm, ⟨23, _⟩ => ⟨S8x32, .f32⟩
  | .hbm, ⟨24, _⟩ => ⟨S_, .f32⟩
  | .hbm, ⟨25, _⟩ => ⟨S8x32, .f32⟩
  | .hbm, ⟨26, _⟩ => ⟨S8x512, .f32⟩
  | .hbm, ⟨27, _⟩ => ⟨S8x512, .f32⟩
  | .hbm, ⟨28, _⟩ => ⟨S8x512, .f32⟩
  | .hbm, ⟨29, _⟩ => ⟨S8x384, .f32⟩
  | .hbm, ⟨30, _⟩ => ⟨S8x1920, .f32⟩
  | .hbm, ⟨31, _⟩ => ⟨S8x32, .f32⟩
  | .hbm, ⟨32, _⟩ => ⟨S8x32, .f32⟩
  | .hbm, ⟨33, _⟩ => ⟨S8x32, .f32⟩
  | .hbm, ⟨34, _⟩ => ⟨S8x32, .f32⟩
  | .hbm, ⟨35, _⟩ => ⟨S8x32, .f32⟩
  | .hbm, ⟨36, _⟩ => ⟨S8x32, .f32⟩
  | .hbm, ⟨37, _⟩ => ⟨S8x32, .f32⟩
  | .hbm, ⟨38, _⟩ => ⟨S8x32, .f32⟩
  | .hbm, ⟨39, _⟩ => ⟨S8x32, .f32⟩
  | .hbm, ⟨40, _⟩ => ⟨S8x32, .f32⟩
  | .hbm, ⟨41, _⟩ => ⟨S8x32, .f32⟩
  | .hbm, ⟨42, _⟩ => ⟨S8x32, .f32⟩
  | .hbm, ⟨43, _⟩ => ⟨S8x32, .f32⟩
  | .hbm, ⟨44, _⟩ => ⟨S8x32, .f32⟩
  | .hbm, ⟨45, _⟩ => ⟨S8x32, .f32⟩
  | .hbm, ⟨46, _⟩ => ⟨S8x512, .f32⟩
  | .hbm, ⟨47, _⟩ => ⟨S8x512, .f32⟩
  | .hbm, ⟨48, _⟩ => ⟨S8x512, .f32⟩
  | .hbm, ⟨49, _⟩ => ⟨S8x384, .f32⟩
  | .hbm, ⟨50, _⟩ => ⟨S8x1920, .f32⟩
  | .hbm, ⟨51, _⟩ => ⟨S13924x2048, .f32⟩
  | .hbm, ⟨52, _⟩ => ⟨S1024x2048, .f32⟩
  | .hbm, ⟨53, _⟩ => ⟨S64x2048, .f32⟩
  | .hbm, ⟨54, _⟩ => ⟨S768x2048, .f32⟩
  | .hbm, ⟨55, _⟩ => ⟨S1856x2048, .f32⟩
  | .hbm, ⟨56, _⟩ => ⟨S1856x2048, .bf16⟩
  | .hbm, ⟨57, _⟩ => ⟨S_, .bf16⟩
  | .hbm, ⟨58, _⟩ => ⟨S64x2048, .bf16⟩
  | .hbm, ⟨59, _⟩ => ⟨S1920x2048, .bf16⟩
  | .hbm, ⟨60, _⟩ => ⟨S64x1920, .f32⟩
  | .local _ .vmem, ⟨0, _⟩ => ⟨S8x2048, .bf16⟩
  | .local _ .vmem, ⟨1, _⟩ => ⟨S8x2048, .bf16⟩
  | .local _ .vmem, ⟨2, _⟩ => ⟨S1920x2048, .bf16⟩
  | .local _ .vmem, ⟨3, _⟩ => ⟨S8x1920, .f32⟩
  | .local _ .vmem, ⟨4, _⟩ => ⟨S8x1920, .f32⟩
  | .local _ .vmem, ⟨5, _⟩ => ⟨S8x1920, .f32⟩
  | .local _ .vmem, ⟨6, _⟩ => ⟨S8x1920, .f32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S64x2048 : Shape := ⟨2, ![64, 2048]⟩
abbrev S2048x13924 : Shape := ⟨2, ![2048, 13924]⟩
abbrev S8 : Shape := ⟨1, ![8]⟩
abbrev S_ : Shape := ⟨0, ![]⟩
abbrev S64x13924 : Shape := ⟨2, ![64, 13924]⟩
abbrev S8x8x13924 : Shape := ⟨3, ![8, 8, 13924]⟩
abbrev S8x8x1536 : Shape := ⟨3, ![8, 8, 1536]⟩
abbrev S8x8x3x8x64 : Shape := ⟨5, ![8, 8, 3, 8, 64]⟩
abbrev S8x8x1x8x64 : Shape := ⟨5, ![8, 8, 1, 8, 64]⟩
abbrev S8x8x8x64 : Shape := ⟨4, ![8, 8, 8, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S8x8x8x32 : Shape := ⟨4, ![8, 8, 8, 32]⟩
abbrev S1x8x1x32 : Shape := ⟨4, ![1, 8, 1, 32]⟩
abbrev S8x8x2x8x64 : Shape := ⟨5, ![8, 8, 2, 8, 64]⟩
abbrev S8x8x64 : Shape := ⟨3, ![8, 8, 64]⟩
abbrev S8x8x32 : Shape := ⟨3, ![8, 8, 32]⟩
abbrev S1x8x32 : Shape := ⟨3, ![1, 8, 32]⟩
abbrev S8x8x768 : Shape := ⟨3, ![8, 8, 768]⟩
abbrev S8x8x6x2x64 : Shape := ⟨5, ![8, 8, 6, 2, 64]⟩
abbrev S8x8x3x2x64 : Shape := ⟨5, ![8, 8, 3, 2, 64]⟩
abbrev S8x1x1x32 : Shape := ⟨4, ![8, 1, 1, 32]⟩
abbrev S8x8x3x2x32 : Shape := ⟨5, ![8, 8, 3, 2, 32]⟩
abbrev S1x8x1x1x32 : Shape := ⟨5, ![1, 8, 1, 1, 32]⟩
abbrev S8x8x1x2x64 : Shape := ⟨5, ![8, 8, 1, 2, 64]⟩
abbrev S8x8x2x64 : Shape := ⟨4, ![8, 8, 2, 64]⟩
abbrev S8x8x4x2x64 : Shape := ⟨5, ![8, 8, 4, 2, 64]⟩
abbrev S8x8x2x2x64 : Shape := ⟨5, ![8, 8, 2, 2, 64]⟩
abbrev S64x1024 : Shape := ⟨2, ![64, 1024]⟩
abbrev S64x64 : Shape := ⟨2, ![64, 64]⟩
abbrev S64x512 : Shape := ⟨2, ![64, 512]⟩
abbrev S64x256 : Shape := ⟨2, ![64, 256]⟩
abbrev S64x1920 : Shape := ⟨2, ![64, 1920]⟩

abbrev nBuf : Space → Nat
  | .hbm => 153
  | .vmem => 0
  | .smem => 0
  | _ => 0

abbrev hbmTy0_0 (i : Nat) : BufTy := match i % 128 with
  | 0 => ⟨S64x2048, .bf16⟩
  | 1 => ⟨S2048x13924, .f32⟩
  | 2 => ⟨S8, .i32⟩
  | 3 => ⟨S_, .i32⟩
  | 4 => ⟨S8, .i32⟩
  | 5 => ⟨S8, .i32⟩
  | 6 => ⟨S64x2048, .f32⟩
  | 7 => ⟨S64x13924, .f32⟩
  | 8 => ⟨S8x8x13924, .f32⟩
  | 9 => ⟨S8x8x1536, .f32⟩
  | 10 => ⟨S8x8x3x8x64, .f32⟩
  | 11 => ⟨S8x8x1x8x64, .f32⟩
  | 12 => ⟨S8x8x8x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8, .f32⟩
  | 22 => ⟨S8x1, .f32⟩
  | 23 => ⟨S1x32, .f32⟩
  | 24 => ⟨S8x32, .f32⟩
  | 25 => ⟨S8x32, .f32⟩
  | 26 => ⟨S8x32, .f32⟩
  | 27 => ⟨S8x32, .f32⟩
  | 28 => ⟨S8x1x32, .f32⟩
  | 29 => ⟨S8x32, .f32⟩
  | 30 => ⟨S8x1x32, .f32⟩
  | 31 => ⟨S8x8x8x32, .f32⟩
  | 32 => ⟨S8x8x8x32, .f32⟩
  | 33 => ⟨S1x8x1x32, .f32⟩
  | 34 => ⟨S8x8x8x32, .f32⟩
  | 35 => ⟨S8x8x8x32, .f32⟩
  | 36 => ⟨S1x8x1x32, .f32⟩
  | 37 => ⟨S8x8x8x32, .f32⟩
  | 38 => ⟨S8x8x8x32, .f32⟩
  | 39 => ⟨S8x8x8x32, .f32⟩
  | 40 => ⟨S1x8x1x32, .f32⟩
  | 41 => ⟨S8x8x8x32, .f32⟩
  | 42 => ⟨S8x8x8x32, .f32⟩
  | 43 => ⟨S1x8x1x32, .f32⟩
  | 44 => ⟨S8x8x8x32, .f32⟩
  | 45 => ⟨S8x8x8x32, .f32⟩
  | 46 => ⟨S8x8x8x32, .f32⟩
  | 47 => ⟨S8x8x8x64, .f32⟩
  | 48 => ⟨S8x8x1x8x64, .f32⟩
  | 49 => ⟨S8x8x8x64, .f32⟩
  | 50 => ⟨S8x8x1x8x64, .f32⟩
  | 51 => ⟨S8x8x1x8x64, .f32⟩
  | 52 => ⟨S8x8x2x8x64, .f32⟩
  | 53 => ⟨S8x8x64, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S8, .f32⟩
  | 63 => ⟨S8x1, .f32⟩
  | 64 => ⟨S1x32, .f32⟩
  | 65 => ⟨S8x32, .f32⟩
  | 66 => ⟨S8x32, .f32⟩
  | 67 => ⟨S8x32, .f32⟩
  | 68 => ⟨S8x32, .f32⟩
  | 69 => ⟨S8x32, .f32⟩
  | 70 => ⟨S8x8x32, .f32⟩
  | 71 => ⟨S8x8x32, .f32⟩
  | 72 => ⟨S1x8x32, .f32⟩
  | 73 => ⟨S8x8x32, .f32⟩
  | 74 => ⟨S8x8x32, .f32⟩
  | 75 => ⟨S1x8x32, .f32⟩
  | 76 => ⟨S8x8x32, .f32⟩
  | 77 => ⟨S8x8x32, .f32⟩
  | 78 => ⟨S8x8x32, .f32⟩
  | 79 => ⟨S1x8x32, .f32⟩
  | 80 => ⟨S8x8x32, .f32⟩
  | 81 => ⟨S8x8x32, .f32⟩
  | 82 => ⟨S1x8x32, .f32⟩
  | 83 => ⟨S8x8x32, .f32⟩
  | 84 => ⟨S8x8x32, .f32⟩
  | 85 => ⟨S8x8x32, .f32⟩
  | 86 => ⟨S8x8x64, .f32⟩
  | 87 => ⟨S8x8x768, .f32⟩
  | 88 => ⟨S8x8x6x2x64, .f32⟩
  | 89 => ⟨S8x8x3x2x64, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S8, .f32⟩
  | 99 => ⟨S8x1, .f32⟩
  | 100 => ⟨S1x32, .f32⟩
  | 101 => ⟨S8x32, .f32⟩
  | 102 => ⟨S8x32, .f32⟩
  | 103 => ⟨S8x32, .f32⟩
  | 104 => ⟨S8x32, .f32⟩
  | 105 => ⟨S8x1x1x32, .f32⟩
  | 106 => ⟨S8x32, .f32⟩
  | 107 => ⟨S8x1x1x32, .f32⟩
  | 108 => ⟨S8x8x3x2x32, .f32⟩
  | 109 => ⟨S8x8x3x2x32, .f32⟩
  | 110 => ⟨S1x8x1x1x32, .f32⟩
  | 111 => ⟨S8x8x3x2x32, .f32⟩
  | 112 => ⟨S8x8x3x2x32, .f32⟩
  | 113 => ⟨S1x8x1x1x32, .f32⟩
  | 114 => ⟨S8x8x3x2x32, .f32⟩
  | 115 => ⟨S8x8x3x2x32, .f32⟩
  | 116 => ⟨S8x8x3x2x32, .f32⟩
  | 117 => ⟨S1x8x1x1x32, .f32⟩
  | 118 => ⟨S8x8x3x2x32, .f32⟩
  | 119 => ⟨S8x8x3x2x32, .f32⟩
  | 120 => ⟨S1x8x1x1x32, .f32⟩
  | 121 => ⟨S8x8x3x2x32, .f32⟩
  | 122 => ⟨S8x8x3x2x32, .f32⟩
  | 123 => ⟨S8x8x3x2x32, .f32⟩
  | 124 => ⟨S8x8x3x2x64, .f32⟩
  | 125 => ⟨S8x8x3x2x64, .f32⟩
  | 126 => ⟨S8x8x1x2x64, .f32⟩
  | 127 => ⟨S8x8x2x64, .f32⟩
  | _ => ⟨S64x2048, .bf16⟩

abbrev hbmTy0_1 (i : Nat) : BufTy := match i % 128 with
  | 0 => ⟨S8x8x1x2x64, .f32⟩
  | 1 => ⟨S8x8x2x64, .f32⟩
  | 2 => ⟨S8x8x1x2x64, .f32⟩
  | 3 => ⟨S8x8x2x64, .f32⟩
  | 4 => ⟨S8x8x1x2x64, .f32⟩
  | 5 => ⟨S8x8x2x64, .f32⟩
  | 6 => ⟨S8x8x1x2x64, .f32⟩
  | 7 => ⟨S8x8x1x2x64, .f32⟩
  | 8 => ⟨S8x8x1x2x64, .f32⟩
  | 9 => ⟨S8x8x1x2x64, .f32⟩
  | 10 => ⟨S8x8x4x2x64, .f32⟩
  | 11 => ⟨S8x8x1x2x64, .f32⟩
  | 12 => ⟨S8x8x2x64, .f32⟩
  | 13 => ⟨S8x8x1x2x64, .f32⟩
  | 14 => ⟨S8x8x2x64, .f32⟩
  | 15 => ⟨S8x8x1x2x64, .f32⟩
  | 16 => ⟨S8x8x1x2x64, .f32⟩
  | 17 => ⟨S8x8x2x2x64, .f32⟩
  | 18 => ⟨S64x1024, .f32⟩
  | 19 => ⟨S64x64, .f32⟩
  | 20 => ⟨S64x512, .f32⟩
  | 21 => ⟨S64x256, .f32⟩
  | 22 => ⟨S_, .f32⟩
  | 23 => ⟨S64x64, .f32⟩
  | 24 => ⟨S64x1920, .f32⟩
  | _ => ⟨S64x2048, .bf16⟩

abbrev hbmTy (i : Nat) : BufTy := match i / 128 with
  | 0 => hbmTy0_0 i
  | 1 => hbmTy0_1 i
  | _ => ⟨S64x2048, .bf16⟩

abbrev bufTy : (tb : Table) → Fin (tcTables nBuf tb) → BufTy
  | .hbm, ⟨i, _⟩ => hbmTy i
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_1 : Ref sig .tc := ⟨.hbm, 56, rfl⟩
abbrev main_v51 : Ref sig .tc := ⟨.hbm, 57, rfl⟩
abbrev main_v52 : Ref sig .tc := ⟨.hbm, 58, rfl⟩
abbrev main_cst_2 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_3 : Ref sig .tc := ⟨.hbm, 92, rfl⟩
abbrev main_v85 : Ref sig .tc := ⟨.hbm, 93, rfl⟩
abbrev main_v86 : Ref sig .tc := ⟨.hbm, 94, rfl⟩
abbrev main_cst_4 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_cst_5 : Ref sig .tc := ⟨.hbm, 150, rfl⟩
abbrev main_v141 : Ref sig .tc := ⟨.hbm, 151, rfl⟩
abbrev main_v142 : Ref sig .tc := ⟨.hbm, 152, rfl⟩

abbrev nD : Nat := 1
abbrev τ : Topo := Topo.v7x

variable {F : FTy → Type} [FloatOps F]
-- ==== Kernel8.lean ====
abbrev S8192x2048 : Shape := ⟨2, ![8192, 2048]⟩
abbrev S2048x13924 : Shape := ⟨2, ![2048, 13924]⟩
abbrev S13924x2048 : Shape := ⟨2, ![13924, 2048]⟩
abbrev S4x2048 : Shape := ⟨2, ![4, 2048]⟩
abbrev S24x2048 : Shape := ⟨2, ![24, 2048]⟩
abbrev S8x2048 : Shape := ⟨2, ![8, 2048]⟩
abbrev S36x2048 : Shape := ⟨2, ![36, 2048]⟩
abbrev S_ : Shape := ⟨0, ![]⟩
abbrev S476x2048 : Shape := ⟨2, ![476, 2048]⟩
abbrev S512x2048 : Shape := ⟨2, ![512, 2048]⟩
abbrev S1536x2048 : Shape := ⟨2, ![1536, 2048]⟩
abbrev S3072x2048 : Shape := ⟨2, ![3072, 2048]⟩
abbrev S8192x3072 : Shape := ⟨2, ![8192, 3072]⟩
abbrev S1024x2048 : Shape := ⟨2, ![1024, 2048]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x13924, .f32⟩
  | .hbm, ⟨2, _⟩ => ⟨S13924x2048, .f32⟩
  | .hbm, ⟨3, _⟩ => ⟨S4x2048, .f32⟩
  | .hbm, ⟨4, _⟩ => ⟨S24x2048, .f32⟩
  | .hbm, ⟨5, _⟩ => ⟨S8x2048, .f32⟩
  | .hbm, ⟨6, _⟩ => ⟨S36x2048, .f32⟩
  | .hbm, ⟨7, _⟩ => ⟨S_, .f32⟩
  | .hbm, ⟨8, _⟩ => ⟨S476x2048, .f32⟩
  | .hbm, ⟨9, _⟩ => ⟨S512x2048, .f32⟩
  | .hbm, ⟨10, _⟩ => ⟨S512x2048, .f32⟩
  | .hbm, ⟨11, _⟩ => ⟨S1536x2048, .f32⟩
  | .hbm, ⟨12, _⟩ => ⟨S3072x2048, .f32⟩
  | .hbm, ⟨13, _⟩ => ⟨S3072x2048, .bf16⟩
  | .hbm, ⟨14, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S2048x13924 : Shape := ⟨2, ![2048, 13924]⟩
abbrev S8192x13924 : Shape := ⟨2, ![8192, 13924]⟩
abbrev S8192x512 : Shape := ⟨2, ![8192, 512]⟩
abbrev S8192x1536 : Shape := ⟨2, ![8192, 1536]⟩
abbrev S8192x4 : Shape := ⟨2, ![8192, 4]⟩
abbrev S8192x24 : Shape := ⟨2, ![8192, 24]⟩
abbrev S8192x8 : Shape := ⟨2, ![8192, 8]⟩
abbrev S_ : Shape := ⟨0, ![]⟩
abbrev S8192x476 : Shape := ⟨2, ![8192, 476]⟩
abbrev S8192x3072 : Shape := ⟨2, ![8192, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13924, .f32⟩
  | .hbm, ⟨2, _⟩ => ⟨S8192x2048, .f32⟩
  | .hbm, ⟨3, _⟩ => ⟨S8192x13924, .f32⟩
  | .hbm, ⟨4, _⟩ => ⟨S8192x512, .f32⟩
  | .hbm, ⟨5, _⟩ => ⟨S8192x512, .f32⟩
  | .hbm, ⟨6, _⟩ => ⟨S8192x1536, .f32⟩
  | .hbm, ⟨7, _⟩ => ⟨S8192x4, .f32⟩
  | .hbm, ⟨8, _⟩ => ⟨S8192x24, .f32⟩
  | .hbm, ⟨9, _⟩ => ⟨S8192x8, .f32⟩
  | .hbm, ⟨10, _⟩ => ⟨S_, .f32⟩
  | .hbm, ⟨11, _⟩ => ⟨S8192x476, .f32⟩
  | .hbm, ⟨12, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2x9x2048 : Shape := ⟨3, ![2, 9, 2048]⟩
abbrev S512x2048 : Shape := ⟨2, ![512, 2048]⟩
abbrev S1x9x2048 : Shape := ⟨3, ![1, 9, 2048]⟩
abbrev S1x1x2048 : Shape := ⟨3, ![1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x9x2048, .f32⟩
  | .hbm, ⟨4, _⟩ => ⟨S2048x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x9x2048, .f32⟩
  | .local _ .vmem, ⟨6, _⟩ => ⟨S1x9x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x2048 : Shape := ⟨2, ![8192, 2048]⟩
abbrev S2048x2048 : Shape := ⟨2, ![2048, 2048]⟩
abbrev S2x9x2048 : Shape := ⟨3, ![2, 9, 2048]⟩
abbrev S2x4096x2048 : Shape := ⟨3, ![2, 4096, 2048]⟩
abbrev S2x1x2048 : Shape := ⟨3, ![2, 1, 2048]⟩
abbrev S2x2048 : Shape := ⟨2, ![2, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2x9x2048, .f32⟩
  | .hbm, ⟨4, _⟩ => ⟨S8192x2048, .f32⟩
  | .hbm, ⟨5, _⟩ => ⟨S8192x2048, .f32⟩
  | .hbm, ⟨6, _⟩ => ⟨S2x4096x2048, .f32⟩
  | .hbm, ⟨7, _⟩ => ⟨S2x4096x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S8192x2048 : Shape := ⟨2, ![8192, 2048]⟩
abbrev S2048 : Shape := ⟨1, ![2048]⟩
abbrev S2x9x2048 : Shape := ⟨3, ![2, 9, 2048]⟩
abbrev S1x2048 : Shape := ⟨2, ![1, 2048]⟩
abbrev S512x2048 : Shape := ⟨2, ![512, 2048]⟩
abbrev S1x9x2048 : Shape := ⟨3, ![1, 9, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x9x2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x9x2048, .f32⟩
  | .local _ .vmem, ⟨4, _⟩ => ⟨S1x9x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x2048 : Shape := ⟨2, ![8192, 2048]⟩
abbrev S2048 : Shape := ⟨1, ![2048]⟩
abbrev S2x9x2048 : Shape := ⟨3, ![2, 9, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x9x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S64x2048 : Shape := ⟨2, ![64, 2048]⟩
abbrev S2048 : Shape := ⟨1, ![2048]⟩
abbrev S8x9x2048 : Shape := ⟨3, ![8, 9, 2048]⟩
abbrev S1x2048 : Shape := ⟨2, ![1, 2048]⟩
abbrev S8x2048 : Shape := ⟨2, ![8, 2048]⟩
abbrev S1x9x2048 : Shape := ⟨3, ![1, 9, 2048]⟩
abbrev S8 : Shape := ⟨1, ![8]⟩
abbrev S8x1 : Shape := ⟨2, ![8, 1]⟩

abbrev nBuf : Space → Nat
  | .hbm => 5
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S8x9x2048, .f32⟩
  | .hbm, ⟨3, _⟩ => ⟨S1x2048, .f32⟩
  | .hbm, ⟨4, _⟩ => ⟨S64x2048, .f32⟩
  | .local _ .vmem, ⟨0, _⟩ => ⟨S8x2048, .f32⟩
  | .local _ .vmem, ⟨1, _⟩ => ⟨S8x2048, .f32⟩
  | .local _ .vmem, ⟨2, _⟩ => ⟨S1x2048, .f32⟩
  | .local _ .vmem, ⟨3, _⟩ => ⟨S1x9x2048, .f32⟩
  | .local _ .vmem, ⟨4, _⟩ => ⟨S1x9x2048, .f32⟩
  | .local _ .vmem, ⟨5, _⟩ => ⟨S8x2048, .f32⟩
  | .local _ .vmem, ⟨6, _⟩ => ⟨S8x2048, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S64x2048 : Shape := ⟨2, ![64, 2048]⟩
abbrev S2048 : Shape := ⟨1, ![2048]⟩
abbrev S8x9x2048 : Shape := ⟨3, ![8, 9, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S8x9x2048, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Util.lean ====
/- Reads of a buffer after stores, and a carried value as an iteration. -/
module

public import Idealize.ShloMosaic.Lib.WritesUnit
public import Idealize.ShloMosaic.Lib.Pipeline.Value

@[expose] public section

noncomputable section

namespace Cert.Proof

open Idealize.ShloMosaic

/-- The value carried by `n` trips, before trip `k`. -/
def upto {α : Type*} (n : ℕ) (f : Fin n → α → α) (a : α) : ℕ → α
  | 0 => a
  | k + 1 => if h : k < n then f ⟨k, h⟩ (upto n f a k) else upto n f a k

theorem upto_zero {α : Type*} (n : ℕ) (f : Fin n → α → α) (a : α) : upto n f a 0 = a := rfl

theorem upto_succ {α : Type*} (n : ℕ) (f : Fin n → α → α) (a : α) (k : Fin n) :
    upto n f a (k.val + 1) = f k (upto n f a k.val) := by
  rw [upto]; exact dif_pos k.isLt

theorem upto_succ' {α : Type*} (n : ℕ) (f : Fin n → α → α) (a : α) (k : ℕ) (h : k < n) :
    upto n f a (k + 1) = f ⟨k, h⟩ (upto n f a k) := upto_succ n f a ⟨k, h⟩

theorem upto_congr {α : Type*} {n : ℕ} {f g : Fin n → α → α} (h : ∀ k x, f k x = g k x) (a : α) (k : ℕ) :
    upto n f a k = upto n g a k := by
  have : f = g := funext fun k => funext fun x => h k x
  rw [this]

/-- Iterations related trip by trip end related. -/
theorem upto_rel {α β : Type*} {n m : ℕ} {f : Fin n → α → α} {g : Fin m → β → β} {a : α} {b : β} (R : ℕ → α → β → Prop)
    (hn : n = m) (h0 : R 0 a b)
    (hs : ∀ (k : ℕ) (h : k < n) (h' : k < m) (x : α) (y : β), R k x y → R (k + 1) (f ⟨k, h⟩ x) (g ⟨k, h'⟩ y)) :
    ∀ k, k ≤ n → R k (upto n f a k) (upto m g b k) := by
  intro k
  induction k with
  | zero => intro _; exact h0
  | succ k ih =>
    intro hk
    rw [upto_succ' _ _ _ _ hk, upto_succ' _ _ _ _ (hn ▸ hk)]
    exact hs k hk (hn ▸ hk) _ _ (ih (Nat.le_of_succ_le hk))

variable {sig : RefSig} {κ : Kind} {sp : Space} {s : Shape} {e : EltTy} {Val : EltTy → Type}

/-- A load of the rectangle stored last reads what was stored. -/
theorem read_hit (v : View sig κ sp s e) (f : v.ty.Contents Val) {off off' size : Fin s.rank → ℕ}
    (inb : ∀ a, off a + size a ≤ s.size a) (inb' : ∀ a, off' a + size a ≤ s.size a)
    (w : (Rect.unit off' size inb').shape.Idx → Val e) (L : List (View.Piece Val s e)) (h : off = off') :
    v.readAt Val (Rect.unit off size inb).toLoadRect (v.writes Val f (⟨Rect.unit off' size inb', w⟩ :: L)) = w := by
  subst h
  funext j
  exact View.read_writes_cons_unit_of_mem (v := v) (f := f) inb w L _ j rfl (fun a => by
    simp [Rect.toLoadRect, LoadRect.idx, Rect.unit])

/-- A load apart from the rectangle stored last reads what was there before. -/
theorem read_miss (v : View sig κ sp s e) (f : v.ty.Contents Val) {off off' size size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext j
  refine View.read_writes_cons_unit_of_not_mem (v := v) (f := f) inb' w L _ rfl a ?_
  have hj : ((Rect.unit off size inb).toLoadRect.idx j a).val = off a + (j a).val := by
    simp [Rect.toLoadRect, LoadRect.idx, Rect.unit]
  have := (j a).isLt
  have h2 : (j a).val < size a := this
  rw [hj]; omega

/-- `read_hit` of one rectangle. -/
theorem read_top (v : View sig κ sp s e) (f : v.ty.Contents Val) {off size : Fin s.rank → ℕ}
    (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w :=
  read_hit v f inb inb' w L rfl

/-- `read_miss` decided by the first axis. -/
theorem read_skip {n : ℕ} {d : Fin (n + 1) → ℕ} (v : View sig κ sp ⟨n + 1, d⟩ e) (f : v.ty.Contents Val) {off off' size size' : Fin (n + 1) → ℕ}
    (inb : ∀ a, off a + size a ≤ d a) (inb' : ∀ a, off' a + size' a ≤ d a)
    (w : (Rect.unit (s := ⟨n + 1, d⟩) off' size' inb').shape.Idx → Val e) (L : List (View.Piece Val (⟨n + 1, d⟩ : Shape) e))
    (h : off 0 + size 0 ≤ off' 0 ∨ off' 0 + size' 0 ≤ off 0) :
    v.readAt Val (Rect.unit (s := ⟨n + 1, d⟩) off size inb).toLoadRect (v.writes Val f (⟨Rect.unit (s := ⟨n + 1, d⟩) off' size' inb', w⟩ :: L))
      = v.readAt Val (Rect.unit (s := ⟨n + 1, d⟩) off size inb).toLoadRect (v.writes Val f L) :=
  read_miss v f inb inb' w L 0 h

end Cert.Proof

end
-- ==== Proof.KLoops.lean ====
/- The read-only loops of `cc0_dsa_prompt`'s body: what they carry, as iterations over the sort keys. -/
module

public import proofs.«01_k».proof.Proof.Gen.Kernel.Loops
public import proofs.«01_k».proof.Proof.Util
public import Idealize.ShloMosaic.Lib.LoopRemainder

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The load of a unit-stride rectangle. -/
abbrev rd (c : Dev nD) {sp : Space} {S : Shape} {e : EltTy} (M : Memref sig .tc sp S e) (off size : Fin S.rank → ℕ)
    (inb : ∀ a, off a + size a ≤ S.size a) (f : Bf (F := F) c M) : (⟨S.rank, size⟩ : Shape).Idx → Elt F e :=
  M.view.readAt (Elt F) (Rect.unit off size inb).toLoadRect f

variable (𝒱 : Variants) (c : Dev nD) (bd : Option 𝒱.V) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S8x512x256 .f32) (harg10 : arg10.IsWhole)
  (arg11 : Memref sig .tc .vmem S8x64x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S8x512x256 .f32) (harg14 : arg14.IsWhole)
  (arg15 : Memref sig .tc .vmem S8x512x256 .bf16) (harg15 : arg15.IsWhole)

/-! ## What the loops carry -/

/-- The count of keys at least zero. -/
def c3 (X : Bf (F := F) c arg9) (a : FVec F S8x256 .f32) : ℕ → FVec F S8x256 .f32 :=
  upto (k0_t3_loop i).trips (fun k a => k0_pay194 a (rd c arg9 (k0_off5 i k) S1x512x256.size (k0_off5_inb i k) X)) a

theorem c3_succ (X : Bf (F := F) c arg9) (a : FVec F S8x256 .f32) (k : Fin (k0_t3_loop i).trips) :
    c3 c i arg9 X a (k.val + 1) = k0_pay194 (c3 c i arg9 X a k) (rd c arg9 (k0_off5 i k) S1x512x256.size (k0_off5_inb i k) X) := upto_succ _ _ _ k

/-- The count of keys at least the candidate threshold. -/
def c6 (X : Bf (F := F) c arg9) (t : Fin k0_t5_loop.trips) (p : IVec S1x256 32) (a : FVec F S8x256 .f32) : ℕ → FVec F S8x256 .f32 :=
  upto (k0_t6_loop i).trips (fun k a => k0_pay199 t p a (rd c arg9 (k0_off7 i k) S1x512x256.size (k0_off7_inb i k) X)) a

theorem c6_succ (X : Bf (F := F) c arg9) (t : Fin k0_t5_loop.trips) (p : IVec S1x256 32) (a : FVec F S8x256 .f32) (k : Fin (k0_t6_loop i).trips) :
    c6 c i arg9 X t p a (k.val + 1) = k0_pay199 t p (c6 c i arg9 X t p a k) (rd c arg9 (k0_off7 i k) S1x512x256.size (k0_off7_inb i k) X) := upto_succ _ _ _ k

/-- The threshold's bits. -/
def c5 (X : Bf (F := F) c arg9) (p : IVec S1x256 32) : ℕ → IVec S1x256 32 :=
  upto k0_t5_loop.trips (fun t p => k0_pay201 t p (c6 c i arg9 X t p k0_pay198 (k0_t6_loop i).trips)) p

theorem c5_succ (X : Bf (F := F) c arg9) (p : IVec S1x256 32) (k : Fin k0_t5_loop.trips) :
    c5 c i arg9 X p (k.val + 1) = k0_pay201 k (c5 c i arg9 X p k) (c6 c i arg9 X k (c5 c i arg9 X p k) k0_pay198 (k0_t6_loop i).trips) := upto_succ _ _ _ k

/-- The count of keys above the threshold. -/
def c8 (X : Bf (F := F) c arg9) (v53 : IVec S1x256 32) (a : FVec F S8x256 .f32) : ℕ → FVec F S8x256 .f32 :=
  upto (k0_t8_loop i).trips (fun k a => k0_pay203 v53 a (rd c arg9 (k0_off9 i k) S1x512x256.size (k0_off9_inb i k) X)) a

theorem c8_succ (X : Bf (F := F) c arg9) (v53 : IVec S1x256 32) (a : FVec F S8x256 .f32) (k : Fin (k0_t8_loop i).trips) :
    c8 c i arg9 X v53 a (k.val + 1) = k0_pay203 v53 (c8 c i arg9 X v53 a k) (rd c arg9 (k0_off9 i k) S1x512x256.size (k0_off9_inb i k) X) := upto_succ _ _ _ k

/-- The count of keys at the threshold. -/
def c10 (X : Bf (F := F) c arg9) (v53 : IVec S1x256 32) (a : FVec F S8x256 .f32) : ℕ → FVec F S8x256 .f32 :=
  upto (k0_t10_loop i).trips (fun k a => k0_pay207 v53 a (rd c arg9 (k0_off11 i k) S1x512x256.size (k0_off11_inb i k) X)) a

theorem c10_succ (X : Bf (F := F) c arg9) (v53 : IVec S1x256 32) (a : FVec F S8x256 .f32) (k : Fin (k0_t10_loop i).trips) :
    c10 c i arg9 X v53 a (k.val + 1) = k0_pay207 v53 (c10 c i arg9 X v53 a k) (rd c arg9 (k0_off11 i k) S1x512x256.size (k0_off11_inb i k) X) := upto_succ _ _ _ k

/-- The count of keys at the threshold before the candidate index. -/
def c13 (X : Bf (F := F) c arg9) (v25 : IVec S512x256 32) (v53 : IVec S1x256 32) (t : Fin k0_t12_loop.trips) (p : IVec S1x256 32)
    (a : FVec F S8x256 .f32) : ℕ → FVec F S8x256 .f32 :=
  upto (k0_t13_loop i).trips (fun k a => k0_pay213 i v25 v53 t p k a (rd c arg9 (k0_off13 i k) S1x512x256.size (k0_off13_inb i k) X)) a

theorem c13_succ (X : Bf (F := F) c arg9) (v25 : IVec S512x256 32) (v53 : IVec S1x256 32) (t : Fin k0_t12_loop.trips) (p : IVec S1x256 32) (a : FVec F S8x256 .f32) (k : Fin (k0_t13_loop i).trips) :
    c13 c i arg9 X v25 v53 t p a (k.val + 1) = k0_pay213 i v25 v53 t p k (c13 c i arg9 X v25 v53 t p a k) (rd c arg9 (k0_off13 i k) S1x512x256.size (k0_off13_inb i k) X) := upto_succ _ _ _ k

/-- The cutoff index's bits. -/
def c12 (X : Bf (F := F) c arg9) (v25 : IVec S512x256 32) (v53 : IVec S1x256 32) (v65 : FVec F S1x256 .f32) (p : IVec S1x256 32) : ℕ → IVec S1x256 32 :=
  upto k0_t12_loop.trips (fun t p => k0_pay215 v65 t p (c13 c i arg9 X v25 v53 t p k0_pay212 (k0_t13_loop i).trips)) p

theorem c12_succ (X : Bf (F := F) c arg9) (v25 : IVec S512x256 32) (v53 : IVec S1x256 32) (v65 : FVec F S1x256 .f32) (p : IVec S1x256 32) (k : Fin k0_t12_loop.trips) :
    c12 c i arg9 X v25 v53 v65 p (k.val + 1) = k0_pay215 v65 k (c12 c i arg9 X v25 v53 v65 p k) (c13 c i arg9 X v25 v53 k (c12 c i arg9 X v25 v53 v65 p k) k0_pay212 (k0_t13_loop i).trips) := upto_succ _ _ _ k

section
variable (v20 : BitVec 32)

set_option warn.classDefReducibility false in
@[sl_loop] def loopInv3 (E : Set ℕ) (X : Bf (F := F) c arg9) (init : FVec F S8x256 .f32) :
    LoopInvTy_k0_t3 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15 v20 init where
  inv k acc := iprop(pt c arg9 X ∗ ⌜acc = c3 c i arg9 X init k⌝)
  step k acc := by
    iintro ⟨HX, %h⟩
    subst h
    unfold k0_t3_body
    sl_exec
    sl_step
    isplitl [HX]; · iexact HX
    ipureintro
    exact (c3_succ _ _ _ _ _ k).symm

set_option warn.classDefReducibility false in
@[sl_loop] def loopInv6 (E : Set ℕ) (X : Bf (F := F) c arg9) (t : Fin k0_t5_loop.trips) (p : IVec S1x256 32) (init : FVec F S8x256 .f32) :
    LoopInvTy_k0_t6 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 t p init where
  inv k acc := iprop(pt c arg9 X ∗ ⌜acc = c6 c i arg9 X t p init k⌝)
  step k acc := by
    iintro ⟨HX, %h⟩
    subst h
    unfold k0_t6_body
    sl_exec
    sl_step
    isplitl [HX]; · iexact HX
    ipureintro
    exact (c6_succ _ _ _ _ _ _ _ k).symm

set_option warn.classDefReducibility false in
@[sl_loop] def loopInv5 (E : Set ℕ) (X : Bf (F := F) c arg9) (init : IVec S1x256 32) :
    LoopInvTy_k0_t5 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 init where
  inv k acc := iprop(pt c arg9 X ∗ ⌜acc = c5 c i arg9 X init k⌝)
  step k acc := by
    iintro ⟨HX, %h⟩
    subst h
    unfold k0_t5_body
    sl_exec
    sl_step
    isplitl [HX]; · iexact HX
    ipureintro
    exact (c5_succ _ _ _ _ _ k).symm

set_option warn.classDefReducibility false in
@[sl_loop] def loopInv8 (E : Set ℕ) (X : Bf (F := F) c arg9) (v53 : IVec S1x256 32) (init : FVec F S8x256 .f32) :
    LoopInvTy_k0_t8 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 v53 init where
  inv k acc := iprop(pt c arg9 X ∗ ⌜acc = c8 c i arg9 X v53 init k⌝)
  step k acc := by
    iintro ⟨HX, %h⟩
    subst h
    unfold k0_t8_body
    sl_exec
    sl_step
    isplitl [HX]; · iexact HX
    ipureintro
    exact (c8_succ _ _ _ _ _ _ k).symm

set_option warn.classDefReducibility false in
@[sl_loop] def loopInv10 (E : Set ℕ) (X : Bf (F := F) c arg9) (v53 : IVec S1x256 32) (init : FVec F S8x256 .f32) :
    LoopInvTy_k0_t10 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 v53 init where
  inv k acc := iprop(pt c arg9 X ∗ ⌜acc = c10 c i arg9 X v53 init k⌝)
  step k acc := by
    iintro ⟨HX, %h⟩
    subst h
    unfold k0_t10_body
    sl_exec
    sl_step
    isplitl [HX]; · iexact HX
    ipureintro
    exact (c10_succ _ _ _ _ _ _ k).symm

set_option warn.classDefReducibility false in
@[sl_loop] def loopInv13 (E : Set ℕ) (X : Bf (F := F) c arg9) (v24 : IVec S1x256 32) (v25 : IVec S512x256 32) (v53 : IVec S1x256 32) (v65 : FVec F S1x256 .f32) (v71 : BitVec 32) (v72 : FVec F S8x256 .f32) (t : Fin k0_t12_loop.trips) (p : IVec S1x256 32) (init : FVec F S8x256 .f32) :
    LoopInvTy_k0_t13 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 v24 v25 v53 v65 v71 v72 t p init where
  inv k acc := iprop(pt c arg9 X ∗ ⌜acc = c13 c i arg9 X v25 v53 t p init k⌝)
  step k acc := by
    iintro ⟨HX, %h⟩
    subst h
    unfold k0_t13_body
    sl_exec
    sl_step
    isplitl [HX]; · iexact HX
    ipureintro
    exact (c13_succ _ _ _ _ _ _ _ _ _ k).symm

set_option warn.classDefReducibility false in
@[sl_loop] def loopInv12 (E : Set ℕ) (X : Bf (F := F) c arg9) (v24 : IVec S1x256 32) (v25 : IVec S512x256 32) (v53 : IVec S1x256 32) (v65 : FVec F S1x256 .f32) (v71 : BitVec 32) (v72 : FVec F S8x256 .f32) (init : IVec S1x256 32) :
    LoopInvTy_k0_t12 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15
      v20 v24 v25 v53 v65 v71 v72 init where
  inv k acc := iprop(pt c arg9 X ∗ ⌜acc = c12 c i arg9 X v25 v53 v65 init k⌝)
  step k acc := by
    iintro ⟨HX, %h⟩
    subst h
    unfold k0_t12_body
    sl_exec
    sl_step
    isplitl [HX]; · iexact HX
    ipureintro
    exact (c12_succ _ _ _ _ _ _ _ _ k).symm

/-! ## The sort keys' loop and the biases' loop -/

/-- The keys stored by trip `k`. -/
def keyPay (v26 : Vec F S256x128 .f32) (f3 : Bf (F := F) c arg3) (f5 : Bf (F := F) c arg5) (k : Fin (k0_t1_loop i).trips) :
    IVec S1x512x256 32 :=
  k0_pay191 i (Scf.iv 0#32 1#32 k)
    (k0_pay4 (k0_pay187 v26) (k0_pay188 v26) (k0_pay189 v26) (rd c arg5 (k0_off1 i k) S1x1x512x64.size (k0_off1_inb i k) f5)
      (rd c arg3 ![0, 0, 0] S1x256x64.size inb_S4x256x64_S1x256x64_0_0_0 f3)
      (rd c arg3 ![1, 0, 0] S1x256x64.size inb_S4x256x64_S1x256x64_1_0_0 f3)
      (rd c arg3 ![2, 0, 0] S1x256x64.size inb_S4x256x64_S1x256x64_2_0_0 f3))
    (k0_pay5 (k0_pay190 v26) (rd c arg5 (k0_off1 i k) S1x1x512x64.size (k0_off1_inb i k) f5)
      (rd c arg3 ![3, 0, 0] S1x256x64.size inb_S4x256x64_S1x256x64_3_0_0 f3))

theorem off2_apart (k k' : Fin (k0_t1_loop i).trips) (h : k'.val < k.val) :
    k0_off2 i k' 0 + S1x512x256.size 0 ≤ k0_off2 i k 0 ∨ k0_off2 i k 0 + S1x512x256.size 0 ≤ k0_off2 i k' 0 := by
  rw [k0_off2_eq, k0_off2_eq]; left; show k'.val + 1 ≤ k.val; omega

theorem off15_apart (k k' : Fin (k0_t15_loop i).trips) (h : k'.val < k.val) :
    k0_off15 i k' 0 + S1x512x256.size 0 ≤ k0_off15 i k 0 ∨ k0_off15 i k 0 + S1x512x256.size 0 ≤ k0_off15 i k' 0 := by
  rw [k0_off15_eq, k0_off15_eq]; left; show k'.val + 1 ≤ k.val; omega

set_option warn.classDefReducibility false in
@[sl_loop] def loopInv1 (E : Set ℕ) (v26 : Vec F S256x128 .f32) (f3 : Bf (F := F) c arg3) (f5 : Bf (F := F) c arg5) :
    LoopInvTy_k0_t1 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15 v26 where
  inv k acc := iprop(pt c arg3 f3 ∗ pt c arg5 f5 ∗ ∃ X : Bf (F := F) c arg9, pt c arg9 X
    ∗ ⌜∀ k' : Fin (k0_t1_loop i).trips, k'.val < k →
        rd c arg9 (k0_off2 i k') S1x512x256.size (k0_off2_inb i k') X = keyPay c i arg3 arg5 v26 f3 f5 k'⌝)
  step k acc := by
    iintro ⟨H3, H5, %X, HX, %h⟩
    unfold k0_t1_body
    sl_exec
    sl_step
    isplitl [H3]; · iexact H3
    isplitl [H5]; · iexact H5
    iexists _
    isplitl [HX]; · iexact HX
    ipureintro
    sl_unfold_run_names
    intro k' hk'
    rcases Nat.lt_or_ge k'.val k.val with hlt | hge
    · exact (read_miss _ _ _ _ _ _ 0 (off2_apart i k k' hlt)).trans (h k' hlt)
    · obtain rfl : k' = k := Fin.ext (by omega)
      exact read_hit _ _ _ _ _ _ rfl

variable (v24 : IVec S1x256 32) (v25 : IVec S512x256 32) (v53 : IVec S1x256 32) (v65 : FVec F S1x256 .f32) (v71 : BitVec 32) (v72 : FVec F S8x256 .f32)

set_option warn.classDefReducibility false in
@[sl_loop] def loopInv15 (E : Set ℕ) (X : Bf (F := F) c arg9) (v84 : IVec S1x256 32) :
    LoopInvTy_k0_t15 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15 v20 v24 v25 v53 v65 v71 v72 v84 where
  inv k acc := iprop(pt c arg9 X ∗ ∃ Y : Bf (F := F) c arg10, pt c arg10 Y
    ∗ ⌜∀ k' : Fin (k0_t15_loop i).trips, k'.val < k →
        rd c arg10 (k0_off15 i k') S1x512x256.size (k0_off15_inb i k') Y
          = k0_pay217 i v24 v25 v53 v84 k' (rd c arg9 (k0_off15 i k') S1x512x256.size (k0_off15_inb i k') X)⌝)
  step k acc := by
    iintro ⟨HX, %Y, HY, %h⟩
    unfold k0_t15_body
    sl_exec
    sl_step
    isplitl [HX]; · iexact HX
    iexists _
    isplitl [HY]; · iexact HY
    ipureintro
    sl_unfold_run_names
    intro k' hk'
    rcases Nat.lt_or_ge k'.val k.val with hlt | hge
    · exact (read_miss _ _ _ _ _ _ 0 (off15_apart i k k' hlt)).trans (h k' hlt)
    · obtain rfl : k' = k := Fin.ext (by omega)
      exact read_hit _ _ _ _ _ _ rfl

end

end Cert.Proof.Kernel

end
-- ==== Proof.Model.lean ====
/- One step of the streaming softmax attention of a head, on its carried maximum, sum and weighted values. -/
module

public import proofs.«01_k».proof.Proof.Gen.Kernel.Skeleton
public import proofs.«01_k».proof.Proof.Util

@[expose] public section

noncomputable section

namespace Cert.Proof.Kernel

open Cert.Kernel Cert.Kernel.Gen
open Idealize.ShloMosaic

variable {F : FTy → Type} [BitOps F]

/-- A head's running maximum, sum and weighted values. -/
@[ext] structure St (F : FTy → Type) where
  m : FVec F S1x256 .f32
  l : FVec F S1x256 .f32
  a : FVec F S64x256 .f32

/-- The state before the first chunk. -/
def St.init : St F where
  m := broadcast S1x256 (Scalar.ofBits .f32 0xF149F2CA#32)
  l := broadcast S1x256 (Scalar.ofBits .f32 0x00000000#32)
  a := broadcast S64x256 (Scalar.ofBits .f32 0x00000000#32)

/-- A chunk's scores: scaled queries against keys, plus the bias. -/
def scores (q : Vec F S1x256x64 .bf16) (k : Vec F S1x1x512x64 .bf16) (b : FVec F S512x256 .f32) : FVec F S512x256 .f32 :=
  addf (matmul dot_S512x64_S256x64_S512x256_1_1_0_0_n_n none (shapeCast S512x64 k shapeCasts_S1x1x512x64_S512x64)
      (mulf (shapeCast S256x64 q shapeCasts_S1x256x64_S256x64) (broadcast S256x64 (Scalar.ofBits .bf16 0x3E00#16)))
      (constant S512x256 .f32 0x00000000#32)) b

/-- The maximum of each column. -/
def colMax (s : FVec F S512x256 .f32) : FVec F S1x256 .f32 :=
  shapeCast S1x256 (multiReduction .maximumf [0] S256 (multiReduction .maximumf [0] S8x256
    (multiReduction .maximumf [1] S8x8x256 (shapeCast S8x8x8x256 s shapeCasts_S512x256_S8x8x8x256)
      0xFF800000#32 reduces_S8x8x8x256_S8x8x256 (.inl rfl) rfl) 0xFF800000#32 reduces_S8x8x256_S8x256 (.inl rfl) rfl)
    0xFF800000#32 reduces_S8x256_S256 (.inl rfl) rfl) shapeCasts_S256_S1x256

/-- The sum of each column. -/
def colSum (s : FVec F S512x256 .f32) : FVec F S1x256 .f32 :=
  shapeCast S1x256 (multiReduction .add [0] S256 (multiReduction .add [0] S8x256
    (multiReduction .add [1] S8x8x256 (shapeCast S8x8x8x256 s shapeCasts_S512x256_S8x8x8x256)
      0x00000000#32 reduces_S8x8x8x256_S8x8x256 (.inl rfl) rfl) 0x00000000#32 reduces_S8x8x256_S8x256 (.inl rfl) rfl)
    0x00000000#32 reduces_S8x256_S256 (.inl rfl) rfl) shapeCasts_S256_S1x256

/-- The weights of a chunk's scores under a maximum. -/
def weights (s : FVec F S512x256 .f32) (m : FVec F S1x256 .f32) : FVec F S512x256 .f32 :=
  exp (subf s (broadcastTo S512x256 m broadcasts_S1x256_S512x256))

/-- The state after a chunk. -/
def step (q : Vec F S1x256x64 .bf16) (k : Vec F S1x1x512x64 .bf16) (v : Vec F S1x64x512 .bf16) (b : FVec F S512x256 .f32)
    (s : St F) : St F where
  m := maximumf s.m (colMax (scores q k b))
  l := addf (mulf (exp (subf s.m (maximumf s.m (colMax (scores q k b))))) s.l)
    (colSum (weights (scores q k b) (maximumf s.m (colMax (scores q k b)))))
  a := addf (mulf (broadcastTo S64x256 (exp (subf s.m (maximumf s.m (colMax (scores q k b))))) broadcasts_S1x256_S64x256) s.a)
    (matmul dot_S64x512_S512x256_S64x256_1_0_0_1_n_n none (shapeCast S64x512 v shapeCasts_S1x64x512_S64x512)
      (truncf .bf16 (weights (scores q k b) (maximumf s.m (colMax (scores q k b)))) bitsLt_bf16_f32)
      (constant S64x256 .f32 0x00000000#32))

/-- The head's result. -/
def St.out (s : St F) : FVec F S64x256 .f32 := divf s.a (broadcastTo S64x256 s.l broadcasts_S1x256_S64x256)

theorem inbQ (h : ℕ) (hh : h < 8) : ∀ a, (![h, 0, 0] : Fin 3 → ℕ) a + S1x256x64.size a ≤ S8x256x64.size a := by
  simp [Fin.forall_fin_succ]; omega
theorem inbK (h k : ℕ) (hh : h < 8) (hk : k < 8) :
    ∀ a, (![0, h, 512 * k, 0] : Fin 4 → ℕ) a + S1x1x512x64.size a ≤ S1x8x4096x64.size a := by
  simp [Fin.forall_fin_succ]; omega
theorem inbV (h k : ℕ) (hh : h < 8) (hk : k < 8) :
    ∀ a, (![0, 64 * h, 512 * k] : Fin 3 → ℕ) a + S1x64x512.size a ≤ S1x512x4096.size a := by
  simp [Fin.forall_fin_succ]; omega
theorem inbB (k : ℕ) (hk : k < 8) : ∀ a, (![k, 0, 0] : Fin 3 → ℕ) a + S1x512x256.size a ≤ S8x512x256.size a := by
  simp [Fin.forall_fin_succ]; omega
theorem inbR (h : ℕ) (hh : h < 8) : ∀ a, (![h, 0] : Fin 2 → ℕ) a + S1x256.size a ≤ S8x256.size a := by
  simp [Fin.forall_fin_succ]; omega
theorem inbA (h : ℕ) (hh : h < 8) : ∀ a, (![h, 0, 0] : Fin 3 → ℕ) a + S1x64x256.size a ≤ S8x64x256.size a := by
  simp [Fin.forall_fin_succ]; omega

theorem forall8 {P : ∀ h, h < 8 → Prop} (h0 : P 0 (by decide)) (h1 : P 1 (by decide)) (h2 : P 2 (by decide)) (h3 : P 3 (by decide))
    (h4 : P 4 (by decide)) (h5 : P 5 (by decide)) (h6 : P 6 (by decide)) (h7 : P 7 (by decide)) : ∀ h hh, P h hh := by
  intro h hh
  match h, hh with
  | 0, _ => exact h0
  | 1, _ => exact h1
  | 2, _ => exact h2
  | 3, _ => exact h3
  | 4, _ => exact h4
  | 5, _ => exact h5
  | 6, _ => exact h6
  | 7, _ => exact h7

end Cert.Proof.Kernel

end
-- ==== Proof.KFlash.lean ====
/- A trip of the attention loop of `cc0_dsa_prompt`: a `step` of every head. -/
module

public import proofs.«01_k».proof.Proof.KLoops
public import proofs.«01_k».proof.Proof.Model
public import Idealize.ShloMosaic.Lib.Pipeline.ReadBack
public import Idealize.ShloMosaic.Lib.WholeRead

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S8x512x256 .f32) (harg10 : arg10.IsWhole)
  (arg11 : Memref sig .tc .vmem S8x64x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S8x512x256 .f32) (harg14 : arg14.IsWhole)
  (arg15 : Memref sig .tc .vmem S8x512x256 .bf16) (harg15 : arg15.IsWhole)

/-- Head `h`'s row of the three scratch arrays. -/
def rows (f11 : Bf (F := F) c arg11) (f12 : Bf (F := F) c arg12) (f13 : Bf (F := F) c arg13) (h : ℕ) (hh : h < 8) : St F where
  m := rd c arg12 ![h, 0] S1x256.size (inbR h hh) f12
  l := rd c arg13 ![h, 0] S1x256.size (inbR h hh) f13
  a := shapeCast S64x256 (rd c arg11 ![h, 0, 0] S1x64x256.size (inbA h hh) f11) shapeCasts_S1x64x256_S64x256

/-- Head `h`'s step at chunk `k`. -/
def stepAt (f2 : Bf (F := F) c arg2) (f6 : Bf (F := F) c arg6) (f7 : Bf (F := F) c arg7) (f10 : Bf (F := F) c arg10)
    (h : ℕ) (hh : h < 8) (k : ℕ) (hk : k < 8) (s : St F) : St F :=
  step (rd c arg2 ![h, 0, 0] S1x256x64.size (inbQ h hh) f2) (rd c arg6 ![0, h, 512 * k, 0] S1x1x512x64.size (inbK h k hh hk) f6)
    (rd c arg7 ![0, 64 * h, 512 * k] S1x64x512.size (inbV h k hh hk) f7)
    (shapeCast S512x256 (rd c arg10 ![k, 0, 0] S1x512x256.size (inbB k hk) f10) shapeCasts_S1x512x256_S512x256) s

theorem lt17 (k : Fin (k0_t17_loop i).trips) : k.val < 8 := Nat.lt_of_lt_of_le k.isLt (k0_t17_abs i).2.1

variable (v20 : BitVec 32) (cst_100 : F .f32)

theorem trip17 (k : Fin (k0_t17_loop i).trips) (E : Set ℕ) (f2 : Bf (F := F) c arg2) (f6 : Bf (F := F) c arg6) (f7 : Bf (F := F) c arg7) (f10 : Bf (F := F) c arg10)
   (f11 : Bf (F := F) c arg11) (f12 : Bf (F := F) c arg12) (f13 : Bf (F := F) c arg13) (f14 : Bf (F := F) c arg14) (f15 : Bf (F := F) c arg15) :
    iprop(pt c arg2 f2 ∗ pt c arg6 f6 ∗ pt c arg7 f7 ∗ pt c arg10 f10 ∗ pt c arg11 f11 ∗ pt c arg12 f12 ∗ pt c arg13 f13 ∗ pt c arg14 f14 ∗ pt c arg15 f15)
      ⊢ wp frame (wpE (defs₀ (F := F)) 𝒱 (c : Thread nD τ) bd) E (k0_t17_body (F := F) i arg2 harg2 arg3 harg3 arg4 harg4 arg5 harg5 arg6 harg6 arg7 harg7 arg8 harg8
      arg9 harg9 arg10 harg10 arg11 harg11 arg12 harg12 arg13 harg13 arg14 harg14 arg15 harg15 v20 cst_100 k PUnit.unit)
          (fun _ => iprop(pt c arg2 f2 ∗ pt c arg6 f6 ∗ pt c arg7 f7 ∗ pt c arg10 f10 ∗
             ∃ (g11 : Bf (F := F) c arg11) (g12 : Bf (F := F) c arg12) (g13 : Bf (F := F) c arg13), pt c arg11 g11 ∗ pt c arg12 g12 ∗ pt c arg13 g13
             ∗ (∃ g, pt (F := F) c arg14 g) ∗ (∃ g, pt (F := F) c arg15 g)
             ∗ ⌜∀ h hh, rows c arg11 arg12 arg13 g11 g12 g13 h hh
                  = stepAt c arg2 arg6 arg7 arg10 f2 f6 f7 f10 h hh k.val (lt17 i k) (rows c arg11 arg12 arg13 f11 f12 f13 h hh)⌝)) := by
  unfold k0_t17_body
  iintro ⟨H2, H6, H7, H10, H11, H12, H13, H14, H15⟩
  sl_exec
  sl_step
  isplitl [H2]; · iexact H2
  isplitl [H6]; · iexact H6
  isplitl [H7]; · iexact H7
  isplitl [H10]; · iexact H10
  iexists _; iexists _; iexists _
  isplitl [H11]; · iexact H11
  isplitl [H12]; · iexact H12
  isplitl [H13]; · iexact H13
  isplitl [H14]; · iexists _; iexact H14
  isplitl [H15]; · iexists _; iexact H15
  ipureintro
  sl_unfold_run_names
  apply forall8
  all_goals
    apply St.ext
  all_goals
    dsimp only [rows, stepAt, step]
    simp (disch := decide) only [↓read_top, ↓read_skip, ↓View.readCov_skip, ↓View.readCov_cons_toLoadRect]
  all_goals
    simp only [View.readAt_unit_congr_cast arg10.view (k0_off17_eq i k), View.readAt_unit_congr_cast arg6.view (k0_off18_eq i k), View.readAt_unit_congr_cast arg6.view (k0_off19_eq i k), View.readAt_unit_congr_cast arg6.view (k0_off20_eq i k), View.readAt_unit_congr_cast arg6.view (k0_off21_eq i k), View.readAt_unit_congr_cast arg6.view (k0_off22_eq i k), View.readAt_unit_congr_cast arg6.view (k0_off23_eq i k), View.readAt_unit_congr_cast arg6.view (k0_off24_eq i k), View.readAt_unit_congr_cast arg6.view (k0_off25_eq i k), View.readAt_unit_congr_cast arg7.view (k0_off26_eq i k), View.readAt_unit_congr_cast arg7.view (k0_off27_eq i k), View.readAt_unit_congr_cast arg7.view (k0_off28_eq i k), View.readAt_unit_congr_cast arg7.view (k0_off29_eq i k), View.readAt_unit_congr_cast arg7.view (k0_off30_eq i k), View.readAt_unit_congr_cast arg7.view (k0_off31_eq i k), View.readAt_unit_congr_cast arg7.view (k0_off32_eq i k), View.readAt_unit_congr_cast arg7.view (k0_off33_eq i k)]
    simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, shapeCast_shapeCast, shapeCast_self]
    rfl

/-- All the heads' rows. -/
def rowsF (f11 : Bf (F := F) c arg11) (f12 : Bf (F := F) c arg12) (f13 : Bf (F := F) c arg13) : (h : ℕ) → h < 8 → St F :=
  fun h hh => rows c arg11 arg12 arg13 f11 f12 f13 h hh

/-- All the heads' steps at chunk `k`. -/
def stepF (f2 : Bf (F := F) c arg2) (f6 : Bf (F := F) c arg6) (f7 : Bf (F := F) c arg7) (f10 : Bf (F := F) c arg10)
    (k : Fin (k0_t17_loop i).trips) (s : (h : ℕ) → h < 8 → St F) : (h : ℕ) → h < 8 → St F :=
  fun h hh => stepAt c arg2 arg6 arg7 arg10 f2 f6 f7 f10 h hh k.val (lt17 i k) (s h hh)

set_option warn.classDefReducibility false in
@[sl_loop] def loopInv17 (E : Set ℕ) (f2 : Bf (F := F) c arg2) (f6 : Bf (F := F) c arg6) (f7 : Bf (F := F) c arg7) (f10 : Bf (F := F) c arg10)
    (S0 : (h : ℕ) → h < 8 → St F) :
    LoopInvTy_k0_t17 (F := F) Unit ℕ (UR sig nD τ) ℕ 𝒱 c bd E i arg2 harg2 arg3 harg3 arg4 harg4 arg5 harg5 arg6 harg6 arg7 harg7 arg8 harg8
      arg9 harg9 arg10 harg10 arg11 harg11 arg12 harg12 arg13 harg13 arg14 harg14 arg15 harg15 v20 cst_100 where
  inv k _ := iprop(pt c arg2 f2 ∗ pt c arg6 f6 ∗ pt c arg7 f7 ∗ pt c arg10 f10 ∗
             ∃ (g11 : Bf (F := F) c arg11) (g12 : Bf (F := F) c arg12) (g13 : Bf (F := F) c arg13), pt c arg11 g11 ∗ pt c arg12 g12 ∗ pt c arg13 g13
             ∗ (∃ g, pt (F := F) c arg14 g) ∗ (∃ g, pt (F := F) c arg15 g)
             ∗ ⌜rowsF c arg11 arg12 arg13 g11 g12 g13
                  = upto (k0_t17_loop i).trips (stepF c i arg2 arg6 arg7 arg10 f2 f6 f7 f10) S0 k⌝)
  step k acc := by
    iintro ⟨H2, H6, H7, H10, ⟨%g11, ⟨%g12, ⟨%g13, ⟨H11, H12, H13, ⟨%g14, H14⟩, ⟨%g15, H15⟩, %hg⟩⟩⟩⟩⟩
    iapply (wp_wand_r Idealize.ShloMosaic.frame (wpE (defs₀ (F := F)) 𝒱 (c : Thread nD τ) bd) E)
    isplitl [H2 H6 H7 H10 H11 H12 H13 H14 H15]
    · iapply (trip17 𝒱 c bd i arg2 harg2 arg3 harg3 arg4 harg4 arg5 harg5 arg6 harg6 arg7 harg7 arg8 harg8
      arg9 harg9 arg10 harg10 arg11 harg11 arg12 harg12 arg13 harg13 arg14 harg14 arg15 harg15 v20 cst_100 k E f2 f6 f7 f10 g11 g12 g13 g14 g15)
      isplitl [H2]; · iexact H2
      isplitl [H6]; · iexact H6
      isplitl [H7]; · iexact H7
      isplitl [H10]; · iexact H10
      isplitl [H11]; · iexact H11
      isplitl [H12]; · iexact H12
      isplitl [H13]; · iexact H13
      isplitl [H14]; · iexact H14
      iexact H15
    · iintro %_ ⟨H2, H6, H7, H10, ⟨%g11', ⟨%g12', ⟨%g13', ⟨H11, H12, H13, H14, H15, %hg'⟩⟩⟩⟩⟩
      isplitl [H2]; · iexact H2
      isplitl [H6]; · iexact H6
      isplitl [H7]; · iexact H7
      isplitl [H10]; · iexact H10
      iexists g11'; iexists g12'; iexists g13'
      isplitl [H11]; · iexact H11
      isplitl [H12]; · iexact H12
      isplitl [H13]; · iexact H13
      isplitl [H14]; · iexact H14
      isplitl [H15]; · iexact H15
      ipureintro
      rw [upto_succ, ← hg]
      funext h hh
      exact hg' h hh

end Cert.Proof.Kernel

end
-- ==== Proof.Asm.lean ====
/- The heads' results as one array, and a load of the whole array that holds them. -/
module

public import Idealize.ShloMosaic.Lib.ValueIdxCore
public import Idealize.ShloMosaic.Lib.Pipeline.Value
public import Idealize.ShloMosaic.Lib.Pipeline.ValueKit

@[expose] public section

noncomputable section

namespace Cert.Proof

open Idealize.ShloMosaic

/-- Eight arrays side by side. -/
def asm {α : Type} (r : (h : ℕ) → h < 8 → (⟨2, ![64, 256]⟩ : Shape).Idx → α) : (⟨3, ![8, 64, 256]⟩ : Shape).Idx → α :=
  fun j => r (j 0).val (j 0).isLt (ValueIdx.ix2 (j 1) (j 2))

theorem read_asm {sig : RefSig} {κ : Kind} {sp : Space} {Val : EltTy → Type} {e : EltTy} (v : View sig κ sp ⟨3, ![8, 64, 256]⟩ e) (G : v.ty.Contents Val)
    (inb : ∀ a, (![0, 0, 0] : Fin 3 → ℕ) a + (![8, 64, 256] : Fin 3 → ℕ) a ≤ (![8, 64, 256] : Fin 3 → ℕ) a)
    (inbA : ∀ h, h < 8 → ∀ a, (![h, 0, 0] : Fin 3 → ℕ) a + (![1, 64, 256] : Fin 3 → ℕ) a ≤ (![8, 64, 256] : Fin 3 → ℕ) a)
    (hs : (⟨2, ![64, 256]⟩ : Shape).ShapeCasts ⟨3, ![1, 64, 256]⟩)
    (r : (h : ℕ) → h < 8 → (⟨2, ![64, 256]⟩ : Shape).Idx → Val e)
    (hr : ∀ h hh, v.readAt Val (Rect.unit (s := ⟨3, ![8, 64, 256]⟩) ![h, 0, 0] ![1, 64, 256] (inbA h hh)).toLoadRect G = shapeCast ⟨3, ![1, 64, 256]⟩ (r h hh) hs) :
    v.readAt Val (Rect.unit (s := ⟨3, ![8, 64, 256]⟩) ![0, 0, 0] ![8, 64, 256] inb).toLoadRect G = asm r := by
  funext j
  have e := congrFun (hr (j 0).val (j 0).isLt) (ValueIdx.ix3 (0 : Fin 1) (j 1 : Fin 64) (j 2 : Fin 256))
  replace e := e.trans (shapeCast_apply (r (j 0).val (j 0).isLt) hs _ (ValueIdx.ix2 (j 1 : Fin 64) (j 2 : Fin 256)) (by
    rw [Shape.rowMajor_val_two, Shape.rowMajor_val_three]; simp [ValueIdx.ix2, ValueIdx.ix3]))
  refine Eq.trans ?_ e
  rw [View.readAt_apply, View.readAt_apply]
  congr 1
  funext a
  apply Fin.ext
  show (LoadRect.idx _ _ a : ℕ) = (LoadRect.idx _ _ a : ℕ)
  rw [Rect.idx_unit_val, Rect.idx_unit_val]
  match a with
  | ⟨0, _⟩ => simp [ValueIdx.ix3]
  | ⟨1, _⟩ => simp [ValueIdx.ix3]
  | ⟨2, _⟩ => simp [ValueIdx.ix3]

end Cert.Proof

end
-- ==== Proof.KRun.lean ====
/- The body of `cc0_dsa_prompt`, run once at symbolic operands. -/
module

public import proofs.«01_k».proof.Proof.KFlash
public import proofs.«01_k».proof.Proof.Asm

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

section
variable (𝒱 : Variants) (c : Dev nD) (bd : Option 𝒱.V) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S8x512x256 .f32) (harg10 : arg10.IsWhole)
  (arg11 : Memref sig .tc .vmem S8x64x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S8x512x256 .f32) (harg14 : arg14.IsWhole)
  (arg15 : Memref sig .tc .vmem S8x512x256 .bf16) (harg15 : arg15.IsWhole)

/-- The threshold. -/
def thr (X : Bf (F := F) c arg9) : IVec S1x256 32 :=
  c5 c i arg9 X (k0_pay196 (c3 c i arg9 X k0_pay193 (k0_t3_loop i).trips)) k0_t5_loop.trips

/-- The number of ties to keep. -/
def need (X : Bf (F := F) c arg9) : FVec F S1x256 .f32 :=
  k0_pay205 (c8 c i arg9 X (thr c i arg9 X) k0_pay202 (k0_t8_loop i).trips)

/-- Whether some column has more ties than it keeps. -/
def over (X : Bf (F := F) c arg9) : BitVec 1 :=
  Scalar.cmpi .ne ((Scalar.extui (Scalar.cmpf .ogt
    (k0_pay209 (need c i arg9 X) (c10 c i arg9 X (thr c i arg9 X) k0_pay206 (k0_t10_loop i).trips)) (Scalar.ofBits .f32 0x00000000#32))) : BitVec 32) 0#32

/-- The last index at which a tie is kept. -/
def last (X : Bf (F := F) c arg9) : IVec S1x256 32 :=
  if over c i arg9 X = 1#1 then
    c12 c i arg9 X (iota .tc S512x256 32 [0] iota_S512x256_d0_w32) (thr c i arg9 X) (need c i arg9 X) k0_pay210 k0_t12_loop.trips
  else k0_pay216

/-- The keys' chunks hold the keys. -/
def KeysAt (f3 : Bf (F := F) c arg3) (f4 : Bf (F := F) c arg4) (f5 : Bf (F := F) c arg5) (X : Bf (F := F) c arg9) : Prop :=
  ∀ k' : Fin (k0_t1_loop i).trips, rd c arg9 (k0_off2 i k') S1x512x256.size (k0_off2_inb i k') X
    = keyPay c i arg3 arg5 (rd c arg4 ![0, 0] S256x128.size inb_S256x128_S256x128_0_0 f4) f3 f5 k'

/-- The biases' chunks hold the biases of those keys. -/
def BiasAt (X : Bf (F := F) c arg9) (Y : Bf (F := F) c arg10) : Prop :=
  ∀ k' : Fin (k0_t15_loop i).trips, rd c arg10 (k0_off15 i k') S1x512x256.size (k0_off15_inb i k') Y
    = k0_pay217 i (k0_pay185 i) (iota .tc S512x256 32 [0] iota_S512x256_d0_w32) (thr c i arg9 X) (last c i arg9 X) k' (rd c arg9 (k0_off15 i k') S1x512x256.size (k0_off15_inb i k') X)

/-- What the body leaves in its output. -/
def OutAt (f2 : Bf (F := F) c arg2) (f3 : Bf (F := F) c arg3) (f4 : Bf (F := F) c arg4) (f5 : Bf (F := F) c arg5)
    (f6 : Bf (F := F) c arg6) (f7 : Bf (F := F) c arg7) (v : FVec F S256x512 .bf16) : Prop :=
  ∃ (X : Bf (F := F) c arg9) (Y : Bf (F := F) c arg10), KeysAt c i arg3 arg4 arg5 arg9 f3 f4 f5 X ∧ BiasAt c i arg9 arg10 X Y
    ∧ v = k0_pay2 (asm fun h hh => (upto (k0_t17_loop i).trips (stepF c i arg2 arg6 arg7 arg10 f2 f6 f7 Y) (fun _ _ => St.init)
        (k0_t17_loop i).trips h hh).out)
end

set_option maxHeartbeats 1600000 in
/-- From every operand held whole, the body runs to its return with the inputs as they were and the output written. -/
theorem kernelRun (c : Dev nD) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S8x512x256 .i32) (harg9 : arg9.IsWhole)
  (arg10 : Memref sig .tc .vmem S8x512x256 .f32) (harg10 : arg10.IsWhole)
  (arg11 : Memref sig .tc .vmem S8x64x256 .f32) (harg11 : arg11.IsWhole)
  (arg12 : Memref sig .tc .vmem S8x256 .f32) (harg12 : arg12.IsWhole)
  (arg13 : Memref sig .tc .vmem S8x256 .f32) (harg13 : arg13.IsWhole)
  (arg14 : Memref sig .tc .vmem S8x512x256 .f32) (harg14 : arg14.IsWhole)
  (arg15 : Memref sig .tc .vmem S8x512x256 .bf16) (harg15 : arg15.IsWhole)
    (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (f10 : Bf (F := F) c arg10) (f11 : Bf (F := F) c arg11) (f12 : Bf (F := F) c arg12) (f13 : Bf (F := F) c arg13)
    (f14 : Bf (F := F) c arg14) (f15 : Bf (F := F) c arg15)
    (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15
        ∗ (iprop(pt c arg2 f2 ∗ pt c arg3 f3 ∗ pt c arg4 f4 ∗ pt c arg5 f5 ∗ pt c arg6 f6 ∗ pt c arg7 f7 ∗ (∃ v, pt (F := F) c arg8 (arg8.view.writes (Elt F) f8 [⟨Rect.unit ![0, 0] S256x512.size inb_S256x512_S256x512_0_0, v⟩]) ∗ ⌜OutAt c i arg2 arg3 arg4 arg5 arg6 arg7 arg9 arg10 f2 f3 f4 f5 f6 f7 v⌝) ∗ (∃ f, pt (F := F) c arg9 f) ∗ (∃ f, pt (F := F) c arg10 f) ∗ (∃ f, pt (F := F) c arg11 f) ∗ (∃ f, pt (F := F) c arg12 f) ∗ (∃ f, pt (F := F) c arg13 f) ∗ (∃ f, pt (F := F) c arg14 f) ∗ (∃ f, pt (F := F) c arg15 f)) -∗ K ⟨⟩))
      ⊢ wp frame (wpE (defs₀ (F := F)) Variants.none c none) Set.univ
          (cc0_dsa_prompt (F := F) i arg2 harg2 arg3 harg3 arg4 harg4 arg5 harg5 arg6 harg6 arg7 harg7 arg8 harg8
      arg9 harg9 arg10 harg10 arg11 harg11 arg12 harg12 arg13 harg13 arg14 harg14 arg15 harg15) K := by
  simp only [cc0_dsa_prompt_eq_skeleton]; unfold cc0_dsa_prompt_skel
  iintro ⟨H2, H3, H4, H5, H6, H7, H8, H9, H10, H11, H12, H13, H14, H15, Hk⟩
  sl_exec_parts
  split
  all_goals
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]
    · iexists _
      isplitl [H8]; · iexact H8
      ipureintro
      sl_unfold_run_names
      first | (have hb := hL4; have hr := hL15) | (have hb := hL2; have hr := hL13)
      refine ⟨XL0, YL0, fun k' => hL3 k' k'.isLt, fun k' => (hb k' k'.isLt).trans ?_, congrArg k0_pay2 ?_⟩
      · unfold last
        first
          | rw [if_pos (by assumption)]; rfl
          | rw [if_neg (by assumption)]; rfl
      · have hS := hr.trans (congrArg (fun s => upto (k0_t17_loop i).trips (stepF c i arg2 arg6 arg7 arg10 f2 f6 f7 YL0) s _)
          (show _ = fun _ _ => St.init from funext fun h => funext fun hh => by
            revert h hh
            sl_unfold_run_names
            apply forall8
            all_goals
              apply St.ext
            all_goals
              dsimp only [rows, St.init]
              simp (disch := decide) only [↓read_top, ↓read_skip, ↓View.readCov_skip, ↓View.readCov_cons_toLoadRect]
            all_goals
              first
                | rfl))
        refine read_asm arg11.view (arg11.view.writes (Elt F) arg11.view.junk _) _ inbA shapeCasts_S64x256_S1x64x256 _ ?_
        rw [← hS]
        apply forall8
        all_goals
          simp (disch := decide) only [↓read_top, ↓read_skip]
          rfl
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Proof.Kernel

end
-- ==== Proof.RLoops.lean ====
/- The reference's loops: what each carries and what it leaves stored. -/
module

public import proofs.«01_k».proof.Proof.Gen.Reference.Loops
public import proofs.«01_k».proof.Proof.Util
public import Idealize.ShloMosaic.Lib.LoopRemainder

@[expose] public section

noncomputable section

namespace Cert.Proof.Reference

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The load of a unit-stride rectangle. -/
abbrev rd (c : Dev nD) {sp : Space} {S : Shape} {e : EltTy} (M : Memref sig .tc sp S e) (off size : Fin S.rank → ℕ)
    (inb : ∀ a, off a + size a ≤ S.size a) (f : Bf (F := F) c M) : (⟨S.rank, size⟩ : Shape).Idx → Elt F e :=
  M.view.readAt (Elt F) (Rect.unit off size inb).toLoadRect f

variable (𝒱 : Variants) (c : Dev nD) (bd : Option 𝒱.V) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S4096x256 .i32) (harg9 : arg9.IsWhole)
  (arg10 : Memref sig .tc .vmem S4096x256 .f32) (harg10 : arg10.IsWhole)
  (arg11 : Memref sig .tc .vmem S8x64x256 .f32) (harg11 : arg11.IsWhole)

/-! ## What the loops carry -/

/-- The ranks of chunk `t`'s keys among the keys of the rows before `j`. -/
def r4 (X : Bf (F := F) c arg9) (v24 : IVec S512x256 32) (z : BitVec 32) (t : Fin (k0_t3_loop i).trips) (v46 : Vec F S512x256 .i32)
    (a : IVec S512x256 32) : ℕ → IVec S512x256 32 :=
  upto (k0_t4_loop i).trips (fun j a => k0_pay3 i v24 z t v46 j a (rd c arg9 (k0_off6 i j) S1x256.size (k0_off6_inb i j) X)) a

theorem r4_succ (X : Bf (F := F) c arg9) (v24 : IVec S512x256 32) (z : BitVec 32) (t : Fin (k0_t3_loop i).trips) (v46 : Vec F S512x256 .i32)
    (a : IVec S512x256 32) (j : Fin (k0_t4_loop i).trips) :
    r4 c i arg9 X v24 z t v46 a (j.val + 1)
      = k0_pay3 i v24 z t v46 j (r4 c i arg9 X v24 z t v46 a j) (rd c arg9 (k0_off6 i j) S1x256.size (k0_off6_inb i j) X) := upto_succ _ _ _ j

/-- A head's maximum, sum and weighted values over the chunks before `k`. -/
def r10 (t : Fin k0_t9_loop.trips) (v44 : Vec F S1x256x64 .bf16) (f6 : Bf (F := F) c arg6) (f7 : Bf (F := F) c arg7) (Y : Bf (F := F) c arg10)
    (a : FVec F S1x256 .f32 × FVec F S1x256 .f32 × FVec F S64x256 .f32) : ℕ → FVec F S1x256 .f32 × FVec F S1x256 .f32 × FVec F S64x256 .f32 :=
  upto (k0_t10_loop i).trips (fun k a =>
    (k0_pay26 (k0_pay11 v44) a.1 (rd c arg6 (k0_off12 i t k) S1x1x512x64.size (k0_off12_inb i t k) f6) (rd c arg10 (k0_off13 i k) S512x256.size (k0_off13_inb i k) Y),
     k0_pay29 (k0_pay11 v44) a.1 a.2.1 (rd c arg6 (k0_off12 i t k) S1x1x512x64.size (k0_off12_inb i t k) f6) (rd c arg10 (k0_off13 i k) S512x256.size (k0_off13_inb i k) Y),
     k0_pay30 (k0_pay11 v44) a.1 a.2.2 (rd c arg6 (k0_off12 i t k) S1x1x512x64.size (k0_off12_inb i t k) f6) (rd c arg10 (k0_off13 i k) S512x256.size (k0_off13_inb i k) Y)
       (rd c arg7 (k0_off14 i t k) S1x64x512.size (k0_off14_inb i t k) f7))) a

theorem r10_succ (t : Fin k0_t9_loop.trips) (v44 : Vec F S1x256x64 .bf16) (f6 : Bf (F := F) c arg6) (f7 : Bf (F := F) c arg7) (Y : Bf (F := F) c arg10)
    (a : FVec F S1x256 .f32 × FVec F S1x256 .f32 × FVec F S64x256 .f32) (k : Fin (k0_t10_loop i).trips) :
    r10 c i arg6 arg7 arg10 t v44 f6 f7 Y a (k.val + 1) =
      (fun a : FVec F S1x256 .f32 × FVec F S1x256 .f32 × FVec F S64x256 .f32 =>
    (k0_pay26 (k0_pay11 v44) a.1 (rd c arg6 (k0_off12 i t k) S1x1x512x64.size (k0_off12_inb i t k) f6) (rd c arg10 (k0_off13 i k) S512x256.size (k0_off13_inb i k) Y),
     k0_pay29 (k0_pay11 v44) a.1 a.2.1 (rd c arg6 (k0_off12 i t k) S1x1x512x64.size (k0_off12_inb i t k) f6) (rd c arg10 (k0_off13 i k) S512x256.size (k0_off13_inb i k) Y),
     k0_pay30 (k0_pay11 v44) a.1 a.2.2 (rd c arg6 (k0_off12 i t k) S1x1x512x64.size (k0_off12_inb i t k) f6) (rd c arg10 (k0_off13 i k) S512x256.size (k0_off13_inb i k) Y)
       (rd c arg7 (k0_off14 i t k) S1x64x512.size (k0_off14_inb i t k) f7))) (r10 c i arg6 arg7 arg10 t v44 f6 f7 Y a k) := upto_succ _ _ _ k

/-- The keys stored by trip `k`. -/
def keyPay (v24 : IVec S512x256 32) (v25 : Vec F S256x128 .f32) (f3 : Bf (F := F) c arg3) (f5 : Bf (F := F) c arg5) (k : Fin (k0_t1_loop i).trips) :
    IVec S512x256 32 :=
  k0_pay39 (k0_pay20 (k0_pay37 i) v24 (k0_pay38 v25) (Scf.iv 0#32 1#32 k)
    (k0_pay17 (k0_pay38 v25) (rd c arg5 (k0_off1 i k) S1x1x512x64.size (k0_off1_inb i k) f5)
      (rd c arg3 ![0, 0, 0] S1x256x64.size inb_S4x256x64_S1x256x64_0_0_0 f3)
      (rd c arg5 (k0_off1 i k) S1x1x512x64.size (k0_off1_inb i k) f5)
      (rd c arg3 ![1, 0, 0] S1x256x64.size inb_S4x256x64_S1x256x64_1_0_0 f3))
    (k0_pay18 (rd c arg5 (k0_off1 i k) S1x1x512x64.size (k0_off1_inb i k) f5))
    (k0_pay19 (rd c arg3 ![2, 0, 0] S1x256x64.size inb_S4x256x64_S1x256x64_2_0_0 f3))
    (rd c arg5 (k0_off1 i k) S1x1x512x64.size (k0_off1_inb i k) f5)
    (rd c arg3 ![3, 0, 0] S1x256x64.size inb_S4x256x64_S1x256x64_3_0_0 f3))

theorem off2_apart (k k' : Fin (k0_t1_loop i).trips) (h : k'.val < k.val) :
    k0_off2 i k' 0 + S512x256.size 0 ≤ k0_off2 i k 0 ∨ k0_off2 i k 0 + S512x256.size 0 ≤ k0_off2 i k' 0 := by
  rw [k0_off2_eq, k0_off2_eq]; left; show 512 * k'.val + 512 ≤ 512 * k.val; omega

theorem off5_apart (k k' : Fin (k0_t3_loop i).trips) (h : k'.val < k.val) :
    k0_off5 i k' 0 + S512x256.size 0 ≤ k0_off5 i k 0 ∨ k0_off5 i k 0 + S512x256.size 0 ≤ k0_off5 i k' 0 := by
  rw [k0_off5_eq, k0_off5_eq]; left; show 512 * k'.val + 512 ≤ 512 * k.val; omega

theorem off18_apart (k k' : Fin k0_t9_loop.trips) (h : k'.val < k.val) :
    k0_off18 k' 0 + S1x64x256.size 0 ≤ k0_off18 k 0 ∨ k0_off18 k 0 + S1x64x256.size 0 ≤ k0_off18 k' 0 := by
  rw [k0_off18_eq, k0_off18_eq]; left; show k'.val + 1 ≤ k.val; omega

set_option warn.classDefReducibility false in
@[sl_loop] def loopInv1 (E : Set ℕ) (v24 : IVec S512x256 32) (v25 : Vec F S256x128 .f32) (f3 : Bf (F := F) c arg3) (f5 : Bf (F := F) c arg5) :
    LoopInvTy_k0_t1 (F := F) Unit ℕ (UR sig nD τ) ℕ 𝒱 c bd E i arg2 harg2 arg3 harg3 arg4 harg4 arg5 harg5 arg6 harg6 arg7 harg7 arg8 harg8
      arg9 harg9 arg10 harg10 arg11 harg11 v24 v25 where
  inv k acc := iprop(pt c arg3 f3 ∗ pt c arg5 f5 ∗ ∃ X : Bf (F := F) c arg9, pt c arg9 X
    ∗ ⌜∀ k' : Fin (k0_t1_loop i).trips, k'.val < k →
        rd c arg9 (k0_off2 i k') S512x256.size (k0_off2_inb i k') X = keyPay c i arg3 arg5 v24 v25 f3 f5 k'⌝)
  step k acc := by
    iintro ⟨H3, H5, %X, HX, %h⟩
    unfold k0_t1_body
    sl_exec
    sl_step
    isplitl [H3]; · iexact H3
    isplitl [H5]; · iexact H5
    iexists _
    isplitl [HX]; · iexact HX
    ipureintro
    sl_unfold_run_names
    intro k' hk'
    rcases Nat.lt_or_ge k'.val k.val with hlt | hge
    · exact (read_miss _ _ _ _ _ _ 0 (off2_apart i k k' hlt)).trans (h k' hlt)
    · obtain rfl : k' = k := Fin.ext (by omega)
      exact read_hit _ _ _ _ _ _ rfl

set_option warn.classDefReducibility false in
@[sl_loop] def loopInv4 (E : Set ℕ) (v24 : IVec S512x256 32) (z : BitVec 32) (t : Fin (k0_t3_loop i).trips) (v46 : Vec F S512x256 .i32)
    (X : Bf (F := F) c arg9) (init : IVec S512x256 32) :
    LoopInvTy_k0_t4 (F := F) Unit ℕ (UR sig nD τ) ℕ 𝒱 c bd E i arg2 harg2 arg3 harg3 arg4 harg4 arg5 harg5 arg6 harg6 arg7 harg7 arg8 harg8
      arg9 harg9 arg10 harg10 arg11 harg11 v24 z t v46 init where
  inv k acc := iprop(pt c arg9 X ∗ ⌜acc = r4 c i arg9 X v24 z t v46 init k⌝)
  step k acc := by
    iintro ⟨HX, %h⟩
    subst h
    unfold k0_t4_body
    sl_exec
    sl_step
    isplitl [HX]; · iexact HX
    ipureintro
    exact (r4_succ _ _ _ _ _ _ _ _ _ k).symm

set_option warn.classDefReducibility false in
@[sl_loop] def loopInv3 (E : Set ℕ) (v19 : BitVec 32) (v23 : IVec S1x256 32) (v24 : IVec S512x256 32) (z : BitVec 32) (X : Bf (F := F) c arg9) :
    LoopInvTy_k0_t3 (F := F) Unit ℕ (UR sig nD τ) ℕ 𝒱 c bd E i arg2 harg2 arg3 harg3 arg4 harg4 arg5 harg5 arg6 harg6 arg7 harg7 arg8 harg8
      arg9 harg9 arg10 harg10 arg11 harg11 v19 v23 v24 z where
  inv k acc := iprop(pt c arg9 X ∗ ∃ Y : Bf (F := F) c arg10, pt c arg10 Y
    ∗ ⌜∀ k' : Fin (k0_t3_loop i).trips, k'.val < k →
        rd c arg10 (k0_off5 i k') S512x256.size (k0_off5_inb i k') Y
          = k0_pay5 i v23 v24 z k' (r4 c i arg9 X v24 z k' (rd c arg9 (k0_off5 i k') S512x256.size (k0_off5_inb i k') X) k0_pay2 (k0_t4_loop i).trips)⌝)
  step k acc := by
    iintro ⟨HX, %Y, HY, %h⟩
    unfold k0_t3_body
    sl_exec
    sl_step
    isplitl [HX]; · iexact HX
    iexists _
    isplitl [HY]; · iexact HY
    ipureintro
    sl_unfold_run_names
    intro k' hk'
    rcases Nat.lt_or_ge k'.val k.val with hlt | hge
    · exact (read_miss _ _ _ _ _ _ 0 (off5_apart i k k' hlt)).trans (h k' hlt)
    · obtain rfl : k' = k := Fin.ext (by omega)
      exact read_hit _ _ _ _ _ _ rfl

set_option warn.classDefReducibility false in
@[sl_loop] def loopInv10 (E : Set ℕ) (t : Fin k0_t9_loop.trips) (a12 : BitVec 32) (v44 : Vec F S1x256x64 .bf16)
    (f6 : Bf (F := F) c arg6) (f7 : Bf (F := F) c arg7) (Y : Bf (F := F) c arg10) (init : FVec F S1x256 .f32 × FVec F S1x256 .f32 × FVec F S64x256 .f32) :
    LoopInvTy_k0_t10 (F := F) Unit ℕ (UR sig nD τ) ℕ 𝒱 c bd E i arg2 harg2 arg3 harg3 arg4 harg4 arg5 harg5 arg6 harg6 arg7 harg7 arg8 harg8
      arg9 harg9 arg10 harg10 arg11 harg11 t a12 v44 init where
  inv k acc := iprop(pt c arg6 f6 ∗ pt c arg7 f7 ∗ pt c arg10 Y ∗ ⌜acc = r10 c i arg6 arg7 arg10 t v44 f6 f7 Y init k⌝)
  step k acc := by
    iintro ⟨H6, H7, HY, %h⟩
    subst h
    unfold k0_t10_body
    sl_exec
    sl_step
    isplitl [H6]; · iexact H6
    isplitl [H7]; · iexact H7
    isplitl [HY]; · iexact HY
    ipureintro
    exact (r10_succ _ _ _ _ _ _ _ _ _ _ _ k).symm

set_option warn.classDefReducibility false in
@[sl_loop] def loopInv9 (E : Set ℕ) (v19 : BitVec 32) (f2 : Bf (F := F) c arg2)
    (f6 : Bf (F := F) c arg6) (f7 : Bf (F := F) c arg7) (Y : Bf (F := F) c arg10) :
    LoopInvTy_k0_t9 (F := F) Unit ℕ (UR sig nD τ) ℕ 𝒱 c bd E i arg2 harg2 arg3 harg3 arg4 harg4 arg5 harg5 arg6 harg6 arg7 harg7 arg8 harg8
      arg9 harg9 arg10 harg10 arg11 harg11 v19 where
  inv k acc := iprop(pt c arg2 f2 ∗ pt c arg6 f6 ∗ pt c arg7 f7 ∗ pt c arg10 Y ∗ ∃ A : Bf (F := F) c arg11, pt c arg11 A
    ∗ ⌜∀ t : Fin k0_t9_loop.trips, t.val < k → rd c arg11 (k0_off18 t) S1x64x256.size (k0_off18_inb t) A
        = (fun a : FVec F S1x256 .f32 × FVec F S1x256 .f32 × FVec F S64x256 .f32 => k0_pay15 a.2.1 a.2.2)
          (r10 c i arg6 arg7 arg10 t (rd c arg2 (k0_off11 t) S1x256x64.size (k0_off11_inb t) f2) f6 f7 Y
            (k0_pay12, k0_pay13, k0_pay14) (k0_t10_loop i).trips)⌝)
  step k acc := by
    iintro ⟨H2, H6, H7, HY, %A, HA, %h⟩
    unfold k0_t9_body
    sl_exec
    sl_step
    isplitl [H2]; · iexact H2
    isplitl [H6]; · iexact H6
    isplitl [H7]; · iexact H7
    isplitl [HY]; · iexact HY
    iexists _
    isplitl [HA]; · iexact HA
    ipureintro
    sl_unfold_run_names
    intro k' hk'
    rcases Nat.lt_or_ge k'.val k.val with hlt | hge
    · exact (read_miss _ _ _ _ _ _ 0 (off18_apart k k' hlt)).trans (h k' hlt)
    · obtain rfl : k' = k := Fin.ext (by omega)
      exact read_hit _ _ _ _ _ _ rfl

end Cert.Proof.Reference

end
-- ==== Proof.RRun.lean ====
/- The reference's body, run once at symbolic operands. -/
module

public import proofs.«01_k».proof.Proof.RLoops
public import proofs.«01_k».proof.Proof.Asm

@[expose] public section

noncomputable section

namespace Cert.Proof.Reference

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ
section
variable (𝒱 : Variants) (c : Dev nD) (bd : Option 𝒱.V) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S4096x256 .i32) (harg9 : arg9.IsWhole)
  (arg10 : Memref sig .tc .vmem S4096x256 .f32) (harg10 : arg10.IsWhole)
  (arg11 : Memref sig .tc .vmem S8x64x256 .f32) (harg11 : arg11.IsWhole)
theorem trips9 : k0_t9_loop.trips = 8 := by decide +kernel

/-- The keys' chunks hold the keys. -/
def KeysAt (f3 : Bf (F := F) c arg3) (f4 : Bf (F := F) c arg4) (f5 : Bf (F := F) c arg5) (X : Bf (F := F) c arg9) : Prop :=
  ∀ k' : Fin (k0_t1_loop i).trips, rd c arg9 (k0_off2 i k') S512x256.size (k0_off2_inb i k') X
    = keyPay c i arg3 arg5 (iota .tc S512x256 32 [0] iota_S512x256_d0_w32) (rd c arg4 ![0, 0] S256x128.size inb_S256x128_S256x128_0_0 f4) f3 f5 k'

/-- The biases' chunks hold the biases of those keys. -/
def BiasAt (X : Bf (F := F) c arg9) (Y : Bf (F := F) c arg10) : Prop :=
  ∀ k' : Fin (k0_t3_loop i).trips, rd c arg10 (k0_off5 i k') S512x256.size (k0_off5_inb i k') Y
    = k0_pay5 i (k0_pay37 i) (iota .tc S512x256 32 [0] iota_S512x256_d0_w32) 0#32 k'
      (r4 c i arg9 X (iota .tc S512x256 32 [0] iota_S512x256_d0_w32) 0#32 k' (rd c arg9 (k0_off5 i k') S512x256.size (k0_off5_inb i k') X) k0_pay2 (k0_t4_loop i).trips)

/-- Head `h`'s result. -/
def head (f2 : Bf (F := F) c arg2) (f6 : Bf (F := F) c arg6) (f7 : Bf (F := F) c arg7) (Y : Bf (F := F) c arg10) (h : ℕ) (hh : h < 8) : FVec F S64x256 .f32 :=
  (fun a : FVec F S1x256 .f32 × FVec F S1x256 .f32 × FVec F S64x256 .f32 => divf a.2.2 (broadcastTo S64x256 a.2.1 broadcasts_S1x256_S64x256))
          (r10 c i arg6 arg7 arg10 ⟨h, trips9 ▸ hh⟩ (rd c arg2 (k0_off11 ⟨h, trips9 ▸ hh⟩) S1x256x64.size (k0_off11_inb ⟨h, trips9 ▸ hh⟩) f2) f6 f7 Y
            (k0_pay12, k0_pay13, k0_pay14) (k0_t10_loop i).trips)

/-- What the body leaves in its output. -/
def OutAt (f2 : Bf (F := F) c arg2) (f3 : Bf (F := F) c arg3) (f4 : Bf (F := F) c arg4) (f5 : Bf (F := F) c arg5)
    (f6 : Bf (F := F) c arg6) (f7 : Bf (F := F) c arg7) (v : FVec F S256x512 .bf16) : Prop :=
  ∃ (X : Bf (F := F) c arg9) (Y : Bf (F := F) c arg10), KeysAt c i arg3 arg4 arg5 arg9 f3 f4 f5 X ∧ BiasAt c i arg9 arg10 X Y
    ∧ v = k0_pay16 (asm (head c i arg2 arg6 arg7 arg10 f2 f6 f7 Y))
end

theorem inbA (h : ℕ) (hh : h < 8) : ∀ a, (![h, 0, 0] : Fin 3 → ℕ) a + (![1, 64, 256] : Fin 3 → ℕ) a ≤ (![8, 64, 256] : Fin 3 → ℕ) a := by
  simp [Fin.forall_fin_succ]; omega

set_option maxHeartbeats 1600000 in
/-- From every operand held whole, the body runs to its return with the inputs as they were and the output written. -/
theorem kernelRun (c : Dev nD) (i : grid0.Coords)
  (arg2 : Memref sig .tc .vmem S8x256x64 .bf16) (harg2 : arg2.IsWhole)
  (arg3 : Memref sig .tc .vmem S4x256x64 .bf16) (harg3 : arg3.IsWhole)
  (arg4 : Memref sig .tc .vmem S256x128 .f32) (harg4 : arg4.IsWhole)
  (arg5 : Memref sig .tc .vmem S1x1x4096x64 .bf16) (harg5 : arg5.IsWhole)
  (arg6 : Memref sig .tc .vmem S1x8x4096x64 .bf16) (harg6 : arg6.IsWhole)
  (arg7 : Memref sig .tc .vmem S1x512x4096 .bf16) (harg7 : arg7.IsWhole)
  (arg8 : Memref sig .tc .vmem S256x512 .bf16) (harg8 : arg8.IsWhole)
  (arg9 : Memref sig .tc .vmem S4096x256 .i32) (harg9 : arg9.IsWhole)
  (arg10 : Memref sig .tc .vmem S4096x256 .f32) (harg10 : arg10.IsWhole)
  (arg11 : Memref sig .tc .vmem S8x64x256 .f32) (harg11 : arg11.IsWhole)
    (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9)
    (f10 : Bf (F := F) c arg10) (f11 : Bf (F := F) c arg11)
    (K : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11
        ∗ (iprop(pt c arg2 f2 ∗ pt c arg3 f3 ∗ pt c arg4 f4 ∗ pt c arg5 f5 ∗ pt c arg6 f6 ∗ pt c arg7 f7 ∗ (∃ v, pt (F := F) c arg8 (arg8.view.writes (Elt F) f8 [⟨Rect.unit ![0, 0] S256x512.size inb_S256x512_S256x512_0_0, v⟩]) ∗ ⌜OutAt c i arg2 arg3 arg4 arg5 arg6 arg7 arg9 arg10 f2 f3 f4 f5 f6 f7 v⌝) ∗ (∃ f, pt (F := F) c arg9 f) ∗ (∃ f, pt (F := F) c arg10 f) ∗ (∃ f, pt (F := F) c arg11 f)) -∗ K ⟨⟩))
      ⊢ wp frame (wpE (defs₀ (F := F)) Variants.none c none) Set.univ
          (cc0_dsa_reference (F := F) i arg2 harg2 arg3 harg3 arg4 harg4 arg5 harg5 arg6 harg6 arg7 harg7 arg8 harg8
      arg9 harg9 arg10 harg10 arg11 harg11) K := by
  simp only [cc0_dsa_reference_eq_skeleton]; unfold cc0_dsa_reference_skel
  iintro ⟨H2, H3, H4, H5, H6, H7, H8, H9, H10, H11, Hk⟩
  sl_exec_parts
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    sl_unfold_run_names
    refine ⟨XL0, YL1, fun k' => hL3 k' k'.isLt, fun k' => hL7 k' k'.isLt, congrArg k0_pay16 ?_⟩
    refine read_asm arg11.view AL2 _ inbA shapeCasts_S64x256_S1x64x256 _ fun h hh => ?_
    refine (View.readAt_unit_congr arg11.view (k0_off18_eq ⟨h, trips9 ▸ hh⟩).symm (inbA h hh) (k0_off18_inb ⟨h, trips9 ▸ hh⟩) AL2).trans ?_
    exact hL14 ⟨h, trips9 ▸ hh⟩ (Fin.isLt (⟨h, trips9 ▸ hh⟩ : Fin k0_t9_loop.trips))
  isplitl [H9]; · iexists _; iexact H9
  isplitl [H10]; · iexists _; iexact H10
  iexists _; iexact H11

end Cert.Proof.Reference

end
-- ==== Proof.Sel.lean ====
/- Choosing the 256 largest of a column of keys: a threshold found bit by bit and a last index for ties, against ranks. -/
module

public import Mathlib.Algebra.BigOperators.Group.Finset.Basic
public import Mathlib.Algebra.BigOperators.Group.Finset.Piecewise
public import Mathlib.Data.Finset.Card
public import Mathlib.Algebra.Order.BigOperators.Group.Finset
public import Mathlib.Tactic.Ring
public import Mathlib.Tactic.Linarith

@[expose] public section

namespace Cert.Proof

open Finset

/-- How many of the rows below `N` satisfy `P`. -/
def cnt (N : ℕ) (P : ℕ → Prop) [DecidablePred P] : ℕ := ((range N).filter P).card

theorem cnt_le (N : ℕ) (P : ℕ → Prop) [DecidablePred P] : cnt N P ≤ N :=
  (card_filter_le _ _).trans (card_range N).le

theorem cnt_mono {N : ℕ} {P Q : ℕ → Prop} [DecidablePred P] [DecidablePred Q] (h : ∀ i, i < N → P i → Q i) : cnt N P ≤ cnt N Q :=
  card_le_card fun i hi => by
    rw [mem_filter, mem_range] at *
    exact ⟨hi.1, h i hi.1 hi.2⟩

theorem cnt_congr {N : ℕ} {P Q : ℕ → Prop} [DecidablePred P] [DecidablePred Q] (h : ∀ i, i < N → (P i ↔ Q i)) : cnt N P = cnt N Q :=
  le_antisymm (cnt_mono fun i hi => (h i hi).1) (cnt_mono fun i hi => (h i hi).2)

theorem cnt_lt {N j : ℕ} {P Q : ℕ → Prop} [DecidablePred P] [DecidablePred Q] (h : ∀ i, i < N → P i → Q i) (hj : j < N) (hP : ¬ P j) (hQ : Q j) :
    cnt N P < cnt N Q := by
  refine card_lt_card ⟨fun i hi => ?_, fun hs => ?_⟩
  · rw [mem_filter, mem_range] at *
    exact ⟨hi.1, h i hi.1 hi.2⟩
  · exact hP (mem_filter.1 (hs (mem_filter.2 ⟨mem_range.2 hj, hQ⟩))).2

theorem cnt_or {N : ℕ} {P Q R : ℕ → Prop} [DecidablePred P] [DecidablePred Q] [DecidablePred R] (h : ∀ i, i < N → (R i ↔ P i ∨ Q i))
    (hd : ∀ i, i < N → P i → ¬ Q i) : cnt N R = cnt N P + cnt N Q := by
  unfold cnt
  rw [← card_union_of_disjoint]
  · congr 1
    ext i
    simp only [mem_filter, mem_range, mem_union]
    constructor
    · rintro ⟨hi, hr⟩
      exact ((h i hi).1 hr).imp (fun x => ⟨hi, x⟩) (fun x => ⟨hi, x⟩)
    · rintro (⟨hi, x⟩ | ⟨hi, x⟩)
      · exact ⟨hi, (h i hi).2 (.inl x)⟩
      · exact ⟨hi, (h i hi).2 (.inr x)⟩
  · rw [disjoint_left]
    intro i hi hq
    rw [mem_filter, mem_range] at hi hq
    exact hd i hi.1 hi.2 hq.2

theorem cnt_eq_sum (N : ℕ) (P : ℕ → Prop) [DecidablePred P] : cnt N P = ∑ i ∈ range N, if P i then 1 else 0 := by
  rw [cnt, card_filter]

/-- Rows counted chunk by chunk. -/
theorem sum_chunks (g : ℕ → ℕ) (m n : ℕ) : ∑ j ∈ range (m * n), g j = ∑ k ∈ range n, ∑ r ∈ range m, g (m * k + r) := by
  induction n with
  | zero => simp
  | succ n ih => rw [Nat.mul_succ, sum_range_add, ih, sum_range_succ]

theorem rank_lt_iff {N : ℕ} {key : ℕ → ℤ} {T : ℤ} {L : Prop} {j : ℕ}
    (hT : 256 ≤ cnt N (fun i => T ≤ key i)) (hT' : cnt N (fun i => T < key i) < 256)
    (hl : key j = T → (L ↔ cnt N (fun i => key i = T ∧ i < j) < 256 - cnt N (fun i => T < key i))) :
    (T < key j ∨ (key j = T ∧ L)) ↔ cnt N (fun i => key j < key i ∨ (key i = key j ∧ i < j)) < 256 := by
  rcases lt_trichotomy (key j) T with h | h | h
  · refine iff_of_false ?_ ?_
    · rintro (h' | h')
      · omega
      · omega
    · have := cnt_mono (N := N) (P := fun i => T ≤ key i) (Q := fun i => key j < key i ∨ (key i = key j ∧ i < j)) fun i _ hi => .inl (by omega)
      omega
  · have e : cnt N (fun i => key j < key i ∨ (key i = key j ∧ i < j)) = cnt N (fun i => T < key i) + cnt N (fun i => key i = T ∧ i < j) :=
      cnt_or (fun i _ => by rw [h]) (fun i _ a b => by omega)
    rw [e]
    have := hl h
    constructor
    · rintro (h' | h')
      · omega
      · have := this.1 h'.2; omega
    · intro h'
      exact .inr ⟨h, this.2 (by omega)⟩
  · refine iff_of_true (.inl h) (lt_of_le_of_lt ?_ hT')
    exact cnt_mono fun i _ hi => by omega

/-! ## The search, bit by bit -/

theorem or_toNat (p : BitVec 32) (s a : ℕ) (hs : s < 31) (hp : p.toNat = 2 ^ (s + 1) * a) : (p ||| BitVec.ofNat 32 (2 ^ s)).toNat = p.toNat + 2 ^ s := by
  have h2 : 2 ^ s < 2 ^ 32 := Nat.pow_lt_pow_right (by omega) (by omega)
  have h3 : 2 ^ s < 2 ^ (s + 1) := Nat.pow_lt_pow_right (by omega) (by omega)
  rw [BitVec.toNat_or, BitVec.toNat_ofNat, Nat.mod_eq_of_lt h2, hp, Nat.two_pow_add_eq_or_of_lt h3]

theorem or_toInt (p : BitVec 32) (s a : ℕ) (hs : s < 31) (hp : p.toNat = 2 ^ (s + 1) * a) : (p ||| BitVec.ofNat 32 (2 ^ s)).toInt = p.toInt + 2 ^ s := by
  have h := or_toNat p s a hs hp
  have hlt := (p ||| BitVec.ofNat 32 (2 ^ s)).isLt
  have hc : ((2 ^ s : ℕ) : ℤ) = 2 ^ s := by push_cast; rfl
  have hpow : 2 ^ (s + 1) * 2 ^ (30 - s) = 2 ^ 31 := by rw [← Nat.pow_add]; congr 1; omega
  have h3 : 2 ^ s < 2 ^ (s + 1) := Nat.pow_lt_pow_right (by omega) (by omega)
  have hx : p.toNat < 2 ^ 31 → p.toNat + 2 ^ s < 2 ^ 31 := by
    intro hl
    have ha : a < 2 ^ (30 - s) := by
      by_contra hc
      have := Nat.mul_le_mul_left (2 ^ (s + 1)) (not_lt.1 hc)
      omega
    have := Nat.mul_le_mul_left (2 ^ (s + 1)) (Nat.succ_le_of_lt ha)
    rw [Nat.mul_succ, hpow] at this
    omega
  rw [BitVec.toInt_eq_toNat_cond, BitVec.toInt_eq_toNat_cond, h]
  rw [h] at hlt
  norm_num at *
  split <;> split <;> omega

/-- A search from the top bit down keeps a value that has the property and whose successor has not. -/
theorem search (P : ℤ → Prop) [DecidablePred P] (n : ℕ) (hn : n ≤ 31) (p : ℕ → BitVec 32) (h0 : 2 ^ n ∣ (p 0).toNat)
    (hP : P (p 0).toInt) (hQ : ¬ P ((p 0).toInt + 2 ^ n))
    (hs : ∀ t, t < n → p (t + 1) = if P (p t ||| BitVec.ofNat 32 (2 ^ (n - 1 - t))).toInt then p t ||| BitVec.ofNat 32 (2 ^ (n - 1 - t)) else p t) :
    P (p n).toInt ∧ ¬ P ((p n).toInt + 1) := by
  have key : ∀ t, t ≤ n → 2 ^ (n - t) ∣ (p t).toNat ∧ P (p t).toInt ∧ ¬ P ((p t).toInt + 2 ^ (n - t)) := by
    intro t
    induction t with
    | zero => intro _; exact ⟨h0, hP, hQ⟩
    | succ t ih =>
      intro ht
      obtain ⟨⟨a, ha⟩, h1, h2⟩ := ih (by omega)
      have es : n - t = (n - 1 - t) + 1 := by omega
      have es' : n - (t + 1) = n - 1 - t := by omega
      rw [es] at ha h2
      rw [es', hs t (by omega)]
      split
      · rename_i hc
        refine ⟨?_, hc, ?_⟩
        · rw [or_toNat _ _ a (by omega) ha, ha]
          exact ⟨2 * a + 1, by ring⟩
        · rw [or_toInt _ _ a (by omega) ha]
          rw [pow_succ] at h2
          convert h2 using 2
          ring
      · rename_i hc
        rw [or_toInt _ _ a (by omega) ha] at hc
        exact ⟨⟨2 * a, by rw [ha]; ring⟩, h1, hc⟩
  have := (key n le_rfl).2
  simpa using this

end Cert.Proof

end
-- ==== Proof.Count.lean ====
/- Counting a mask's rows, chunk by chunk, by sums of words: at the machine's words the total is the count's word. -/
module

public import proofs.«01_k».proof.Proof.Sel
public import proofs.«01_k».proof.Proof.Util
public import Idealize.ShloMosaic.Lib.NatWordsOrder
public import Idealize.ShloMosaic.PureOps.Reduce
public import Idealize.ShloMosaic.Lib.ValueIdxCore
public import Idealize.ShloMosaic.Lib.Pipeline.Value

@[expose] public section

noncomputable section

namespace Cert.Proof

open Idealize.ShloMosaic Idealize.ShloMosaic.Bits
open Finset (range)

abbrev T512 : Shape := ⟨2, ![512, 256]⟩
abbrev T4 : Shape := ⟨4, ![8, 8, 8, 256]⟩
abbrev T3 : Shape := ⟨3, ![8, 8, 256]⟩
abbrev T8 : Shape := ⟨2, ![8, 256]⟩
abbrev T256 : Shape := ⟨1, ![256]⟩
abbrev T1 : Shape := ⟨2, ![1, 256]⟩

section
variable {F : FTy → Type} [BitOps F]

/-- A chunk's mask added to the counts: row `64a + 8b + c` into count `c`. -/
def countStep (h512 : T512.ShapeCasts T4) (h4 : T4.Reduces [1] T3) (h3 : T3.Reduces [0] T8) (hw : 1 < 32) (m : IVec T512 1) (a : FVec F T8 .f32) : FVec F T8 .f32 :=
  addf a (multiReduction .add [0] T8 (multiReduction .add [1] T3 (shapeCast T4 (sitofp .f32 (extui 32 m hw)) h512)
    0x00000000#32 h4 (.inl rfl) rfl) 0x00000000#32 h3 (.inl rfl) rfl)

/-- The eight counts of a column together. -/
def total (h8 : T8.Reduces [0] T256) (h1 : T256.ShapeCasts T1) (a : FVec F T8 .f32) : FVec F T1 .f32 :=
  shapeCast T1 (multiReduction .add [0] T256 a 0x00000000#32 h8 (.inl rfl) rfl) h1
end

/-- A sum over one axis of words of naturals. -/
theorem red_nat {s t : Shape} {a : Fin s.rank} (h : s.Reduces [a] t) (src : FVec Bits s .f32) (j : t.Idx) (n : s.Idx → ℕ) (B : ℕ)
    (hn : ∀ k, src (h.lift j k) = f32OfNat (n (h.lift j k))) (hb : ∀ k, n (h.lift j k) ≤ B) (hS : s.size a * B < 2 ^ 24) (hB : B < 2 ^ 24) :
    multiReduction (F := Bits) .add [a] t src 0x00000000#32 h (.inl rfl) rfl j = f32OfNat (∑ k : Fin (s.size a), n (h.lift j k)) := by
  have e : (reduceFiber h j).sum n = ∑ k : Fin (s.size a), n (h.lift j k) := by
    refine (Finset.sum_bij (fun k _ => h.lift j k) (fun k _ => ?_) (fun k _ k' _ he => h.lift_injective j he) (fun i hi => ?_) (fun _ _ => rfl)).symm
    · exact Finset.mem_filter.2 ⟨Finset.mem_univ _, h.drop_lift j k⟩
    · have hd : h.drop i = j := (Finset.mem_filter.1 hi).2
      exact ⟨i a, Finset.mem_univ _, by rw [← hd]; exact h.lift_drop i⟩
  rw [← e]
  refine multiReduction_add_nat [a] h src j n (fun i hi => ?_) ?_
  · have hl : h.lift j (i a) = i := by rw [← hi]; exact h.lift_drop i
    have := hn (i a)
    rw [hl] at this
    rw [this]
    have hb' := hb (i a)
    rw [hl] at hb'
    exact natOfF32?_f32OfNat _ (by omega)
  · rw [e]
    refine lt_of_le_of_lt (Finset.sum_le_card_nsmul _ _ B fun k _ => hb k) ?_
    simpa using hS

/-- A bit of a mask as a word. -/
theorem bit_word (m : BitVec 1) : sitofp32 (m.setWidth 32) = f32OfNat (if m = 1#1 then 1 else 0) := by
  rw [sitofp32_eq_f32OfNat _ (by decide) (by revert m; decide)]
  congr 1
  revert m
  decide

theorem sum_range_le (n B : ℕ) (f : ℕ → ℕ) (h : ∀ k, f k ≤ B) : ∑ k ∈ range n, f k ≤ n * B := by
  have := Finset.sum_le_card_nsmul (range n) f B fun k _ => h k
  simpa using this

variable (h512 : T512.ShapeCasts T4) (h4 : T4.Reduces [1] T3) (h3 : T3.Reduces [0] T8) (h8 : T8.Reduces [0] T256) (h1 : T256.ShapeCasts T1) (hw : 1 < 32)

theorem countStep_nat (m : IVec T512 1) (g : ℕ → ℕ → ℕ) (hg : ∀ r q, g r q ≤ 1)
    (hm : ∀ (r : Fin 512) (q : Fin 256), (if m (ValueIdx.ix2 r q) = 1#1 then 1 else 0) = g r q)
    (a : FVec Bits T8 .f32) (N : ℕ → ℕ → ℕ) (c : Fin 8) (q : Fin 256) (ha : a (ValueIdx.ix2 c q) = f32OfNat (N c q)) (hN : N c q < 2 ^ 20) :
    countStep h512 h4 h3 hw m a (ValueIdx.ix2 c q)
      = f32OfNat (N c q + ∑ x ∈ range 8, ∑ y ∈ range 8, g (64 * x + (8 * y + c)) q) := by
  have e1 : ∀ (x y : Fin 8) (c : Fin 8) (q : Fin 256),
      shapeCast T4 (sitofp (F := Bits) .f32 (extui 32 m hw)) h512 (ValueIdx.ix4 x y c q) = f32OfNat (g (64 * x + (8 * y + c)) q) := by
    intro x y c q
    have e := shapeCast_apply (sitofp (F := Bits) .f32 (extui 32 m hw)) h512 (ValueIdx.ix4 x y c q)
      (ValueIdx.ix2 (⟨64 * x + (8 * y + c), by omega⟩ : Fin 512) q) (by
        rw [Shape.rowMajor_val_two, Shape.rowMajor_val_four]; simp [ValueIdx.ix2, ValueIdx.ix4]; ring)
    refine e.trans ?_
    rw [← hm ⟨64 * x + (8 * y + c), by omega⟩ q]
    exact bit_word _
  have e2 : ∀ (x : Fin 8) (c : Fin 8) (q : Fin 256),
      multiReduction (F := Bits) .add [1] T3 (shapeCast T4 (sitofp .f32 (extui 32 m hw)) h512) 0x00000000#32 h4 (.inl rfl) rfl (ValueIdx.ix3 x c q)
        = f32OfNat (∑ y ∈ range 8, g (64 * x + (8 * y + c)) q) := by
    intro x c q
    have hl : ∀ k : Fin 8, h4.lift (ValueIdx.ix3 x c q) k = ValueIdx.ix4 x k c q := by
      intro k
      funext d
      match d with
      | ⟨0, _⟩ => rfl
      | ⟨1, _⟩ => rfl
      | ⟨2, _⟩ => rfl
      | ⟨3, _⟩ => rfl
    refine (red_nat h4 _ _ (fun i => g (64 * (i 0).val + (8 * (i 1).val + (i 2).val)) (i 3).val) 1 ?_ ?_ (by decide) (by decide)).trans ?_
    · intro k; rw [hl k]; exact e1 x k c q
    · intro k; exact hg _ _
    · congr 1
  have e3 : multiReduction (F := Bits) .add [0] T8 (multiReduction .add [1] T3 (shapeCast T4 (sitofp .f32 (extui 32 m hw)) h512)
      0x00000000#32 h4 (.inl rfl) rfl) 0x00000000#32 h3 (.inl rfl) rfl (ValueIdx.ix2 c q)
        = f32OfNat (∑ x ∈ range 8, ∑ y ∈ range 8, g (64 * x + (8 * y + c)) q) := by
    have hl : ∀ k : Fin 8, h3.lift (ValueIdx.ix2 c q) k = ValueIdx.ix3 k c q := by
      intro k
      funext d
      match d with
      | ⟨0, _⟩ => rfl
      | ⟨1, _⟩ => rfl
      | ⟨2, _⟩ => rfl
    refine (red_nat h3 _ _ (fun i => ∑ y ∈ range 8, g (64 * (i 0).val + (8 * y + (i 1).val)) (i 2).val) 8 ?_ ?_ (by decide) (by decide)).trans ?_
    · intro k; rw [hl k]; exact e2 k c q
    · intro k; exact sum_range_le 8 1 _ fun _ => hg _ _
    · congr 1
  show addf32 (a (ValueIdx.ix2 c q)) _ = _
  rw [ha]
  refine (congrArg (addf32 _) e3).trans (addf32_nat _ _ ?_)
  have : ∑ x ∈ range 8, ∑ y ∈ range 8, g (64 * x + (8 * y + c)) q ≤ 8 * (8 * 1) :=
    sum_range_le 8 _ _ fun _ => sum_range_le 8 1 _ fun _ => hg _ _
  omega

/-- The total over the chunks of a mask is the word of the number of rows in it. -/
theorem count_total {n : ℕ} (hn : n ≤ 8) (M : Fin n → IVec T512 1) (P : ℕ → ℕ → Prop) [∀ q, DecidablePred fun j => P j q]
    (hM : ∀ (k : Fin n) (r : Fin 512) (q : Fin 256), M k (ValueIdx.ix2 r q) = 1#1 ↔ P (512 * k + r) q) (z : FVec Bits T8 .f32)
    (hz : ∀ j, z j = f32OfNat 0) (u : Fin 1) (q : Fin 256) :
    total h8 h1 (upto n (fun k a => countStep h512 h4 h3 hw (M k) a) z n) (ValueIdx.ix2 u q) = f32OfNat (cnt (512 * n) fun j => P j q) := by
  classical
  let g : ℕ → ℕ → ℕ := fun j q => if P j q then 1 else 0
  have hg : ∀ j q, g j q ≤ 1 := by intro j q; show (if _ then 1 else 0) ≤ 1; split <;> omega
  have hinv : ∀ k, k ≤ n → ∀ (c : Fin 8) (q : Fin 256), upto n (fun k a => countStep h512 h4 h3 hw (M k) a) z k (ValueIdx.ix2 c q)
      = f32OfNat (∑ k' ∈ range k, ∑ x ∈ range 8, ∑ y ∈ range 8, g (512 * k' + (64 * x + (8 * y + c))) q) := by
    intro k
    induction k with
    | zero => intro _ c q; exact hz _
    | succ k ih =>
      intro hk c q
      rw [upto_succ' _ _ _ _ (by omega), Finset.sum_range_succ]
      refine countStep_nat h512 h4 h3 hw (M ⟨k, by omega⟩) (fun r q => g (512 * k + r) q) (fun _ _ => hg _ _) ?_ _
        (fun c q => ∑ k' ∈ range k, ∑ x ∈ range 8, ∑ y ∈ range 8, g (512 * k' + (64 * x + (8 * y + c))) q) c q (ih (by omega) c q) ?_
      · intro r q
        exact if_congr (hM ⟨k, by omega⟩ r q) rfl rfl
      · have : ∑ k' ∈ range k, ∑ x ∈ range 8, ∑ y ∈ range 8, g (512 * k' + (64 * x + (8 * y + c))) q ≤ k * (8 * (8 * 1)) :=
          sum_range_le _ _ _ fun _ => sum_range_le _ _ _ fun _ => sum_range_le _ _ _ fun _ => hg _ _
        omega
  have hl : ∀ k : Fin 8, h8.lift (ValueIdx.ix1 q) k = ValueIdx.ix2 k q := by
    intro k
    funext d
    match d with
    | ⟨0, _⟩ => rfl
    | ⟨1, _⟩ => rfl
  have e := shapeCast_apply (multiReduction (F := Bits) .add [0] T256 (upto n (fun k a => countStep h512 h4 h3 hw (M k) a) z n) 0x00000000#32 h8 (.inl rfl) rfl)
    h1 (ValueIdx.ix2 u q) (ValueIdx.ix1 q) (by rw [Shape.rowMajor_val_two, Shape.rowMajor_val_one]; simp [ValueIdx.ix2, ValueIdx.ix1])
  refine e.trans ?_
  refine (red_nat h8 _ _ (fun i => ∑ k' ∈ range n, ∑ x ∈ range 8, ∑ y ∈ range 8, g (512 * k' + (64 * x + (8 * y + (i 0).val))) (i 1).val) 512 ?_ ?_
    (by decide) (by decide)).trans ?_
  · intro k; rw [hl k]; exact hinv n le_rfl k q
  · intro k
    refine (sum_range_le n (8 * (8 * 1)) _ fun _ => sum_range_le _ _ _ fun _ => sum_range_le _ _ _ fun _ => hg _ _).trans ?_
    omega
  · congr 1
    rw [cnt_eq_sum]
    have e2 : ∑ j ∈ range (512 * n), g j q = ∑ k ∈ range n, ∑ x ∈ range 8, ∑ y ∈ range 8, ∑ c ∈ range 8, g (512 * k + (64 * x + (8 * y + c))) q := by
      rw [sum_chunks]
      refine Finset.sum_congr rfl fun k _ => ?_
      rw [show 512 = 64 * 8 from rfl, sum_chunks (fun r => g (64 * 8 * k + r) q) 64 8]
      refine Finset.sum_congr rfl fun x _ => ?_
      exact sum_chunks (fun r => g (64 * 8 * k + (64 * x + r)) q) 8 8
    refine Eq.trans ?_ e2.symm
    rw [Finset.sum_congr rfl fun k _ => by rw [hl k]]
    rw [← Finset.sum_range fun c => ∑ k' ∈ range n, ∑ x ∈ range 8, ∑ y ∈ range 8, g (512 * k' + (64 * x + (8 * y + c))) q]
    rw [Finset.sum_comm]
    refine Finset.sum_congr rfl fun k _ => ?_
    rw [Finset.sum_comm]
    refine Finset.sum_congr rfl fun x _ => ?_
    exact Finset.sum_comm

end Cert.Proof

end
-- ==== Proof.Pick.lean ====
/- The threshold, the ties and the last index as the program finds them, and what they are at the machine's words. -/
module

public import proofs.«01_k».proof.Proof.Count
public import Idealize.ShloMosaic.Lib.WordCmp
public import Idealize.ShloMosaic.PureOps.BitExact.Laws

@[expose] public section

noncomputable section

namespace Cert.Proof

open Idealize.ShloMosaic Idealize.ShloMosaic.Bits

abbrev T111 : Shape := ⟨3, ![1, 1, 1]⟩
abbrev T11 : Shape := ⟨3, ![1, 1, 256]⟩
abbrev TOne : Shape := ⟨1, ![1]⟩

theorem cast512 : T512.ShapeCasts T4 := by decide
theorem red4 : T4.Reduces [1] T3 := by decide
theorem red3 : T3.Reduces [0] T8 := by decide
theorem red8 : T8.Reduces [0] T256 := by decide
theorem cast256 : T256.ShapeCasts T1 := by decide
theorem bc512 : T1.Broadcasts T512 := by decide
theorem lt1 : 1 < 32 := by decide
theorem iota512 : T512.Iotas .tc 32 [0] := by decide
theorem cast11 : T1.ShapeCasts T11 := by decide
theorem red11 : T11.Reduces [1, 2] TOne := by decide
theorem castOne : TOne.ShapeCasts T111 := by decide
theorem inOne : ∀ a, (![0, 0, 0] : Fin 3 → ℕ) a < T111.size a := by decide

section
variable {F : FTy → Type} [BitOps F]

/-- The number of rows in the chunks' masks, per column. -/
def tot (n : ℕ) (M : Fin n → IVec T512 1) : FVec F T1 .f32 :=
  total red8 cast256 (upto n (fun k a => countStep cast512 red4 red3 lt1 (M k) a) (broadcast T8 (Scalar.ofBits .f32 0x00000000#32)) n)

variable (n : ℕ) (V : Fin n → IVec T512 32)

/-- A row's value in every row. -/
abbrev bt (p : IVec T1 32) : IVec T512 32 := broadcastTo T512 p bc512

/-- The rows' numbers in chunk `k`. -/
def rowsOf (k : ℕ) : IVec T512 32 := addi (broadcast T512 (Scalar.muli (Scf.iv 0#32 1#32 k) 512#32)) (iota .tc T512 32 [0] iota512)

/-- The bit tried in trip `t` of a search from bit `m` down. -/
def tryBit (m : BitVec 32) (t : ℕ) : IVec T1 32 := broadcast T1 (Scalar.shli 1#32 (Scalar.subi m (Scf.iv 0#32 1#32 t)))

def thrStart : IVec T1 32 :=
  select (cmpf .oge (tot (F := F) n fun k => cmpi .sge (V k) (broadcast T512 0#32)) (broadcast T1 (Scalar.ofBits .f32 0x43800000#32)))
    (broadcast T1 0#32) (broadcast T1 2147483648#32)

def thrStep (t : ℕ) (p : IVec T1 32) : IVec T1 32 :=
  select (cmpf .oge (tot (F := F) n fun k => cmpi .sge (V k) (bt (ori p (tryBit 30#32 t)))) (broadcast T1 (Scalar.ofBits .f32 0x43800000#32)))
    (ori p (tryBit 30#32 t)) p

def thrOf (m : ℕ) : IVec T1 32 := upto m (fun t p => thrStep (F := F) n V t p) (thrStart (F := F) n V) m

def needOf (p : IVec T1 32) : FVec F T1 .f32 :=
  subf (broadcast T1 (Scalar.ofBits .f32 0x43800000#32)) (tot n fun k => cmpi .sgt (V k) (bt p))

def overOf (p : IVec T1 32) (nd : FVec F T1 .f32) : F .f32 :=
  extractAt ![0, 0, 0] (shapeCast T111 (multiReduction .maximumf [1, 2] TOne
    (shapeCast T11 (subf (tot n fun k => cmpi .eq (V k) (bt p)) nd) cast11) 0xFF800000#32 red11 (.inl rfl) rfl) castOne) inOne

def lastStep (p : IVec T1 32) (nd : FVec F T1 .f32) (t : ℕ) (L : IVec T1 32) : IVec T1 32 :=
  select (cmpf .olt (tot n fun k => andi (cmpi .eq (V k) (bt p)) (cmpi .slt (rowsOf k) (bt (ori L (tryBit 11#32 t))))) nd)
    (ori L (tryBit 11#32 t)) L

def lastOf (p : IVec T1 32) (nd : FVec F T1 .f32) (m : ℕ) : IVec T1 32 :=
  upto m (fun t L => lastStep n V p nd t L) (broadcast T1 0#32) m

def keepOf (p L : IVec T1 32) (k : ℕ) (v : IVec T512 32) : IVec T512 1 :=
  ori (cmpi .sgt v (bt p)) (andi (cmpi .eq v (bt p)) (cmpi .sle (rowsOf k) (bt L)))

end

/-! ## At the machine's words -/

theorem word256 : (Scalar.ofBits .f32 0x43800000#32 : Bits .f32) = f32OfNat 256 := by
  apply BitVec.eq_of_toNat_eq
  rw [toNat_f32OfNat (by decide)]
  rfl

theorem bt_apply (p : IVec T1 32) (r : Fin 512) (q : Fin 256) : bt p (ValueIdx.ix2 r q) = p (ValueIdx.ix2 0 q) :=
  broadcastTo_apply p bc512 _ _ (by
    intro a
    match a with
    | ⟨0, _⟩ => rfl
    | ⟨1, _⟩ => rfl)

theorem ofBool_one (P : Prop) [Decidable P] : BitVec.ofBool (decide P) = 1#1 ↔ P := by
  by_cases h : P <;> simp [h]

theorem sge_one (x y : BitVec 32) : IntOp.cmpi .sge x y = 1#1 ↔ y.toInt ≤ x.toInt := ofBool_one _
theorem sgt_one (x y : BitVec 32) : IntOp.cmpi .sgt x y = 1#1 ↔ y.toInt < x.toInt := ofBool_one _
theorem slt_one (x y : BitVec 32) : IntOp.cmpi .slt x y = 1#1 ↔ x.toInt < y.toInt := ofBool_one _
theorem sle_one (x y : BitVec 32) : IntOp.cmpi .sle x y = 1#1 ↔ x.toInt ≤ y.toInt := ofBool_one _
theorem eq_one (x y : BitVec 32) : IntOp.cmpi .eq x y = 1#1 ↔ x.toInt = y.toInt := by
  show BitVec.ofBool (x == y) = 1#1 ↔ _
  rw [beq_eq_decide, ofBool_one, BitVec.toInt_inj]
theorem and_one (x y : BitVec 1) : IntOp.andi x y = 1#1 ↔ x = 1#1 ∧ y = 1#1 := by revert x y; decide
theorem or_one (x y : BitVec 1) : IntOp.ori x y = 1#1 ↔ x = 1#1 ∨ y = 1#1 := by revert x y; decide

theorem select_if {α : Type} (P : Prop) [Decidable P] (a b : α) : Scalar.select (BitVec.ofBool (decide P)) a b = if P then a else b := by
  by_cases h : P <;> simp [h, Scalar.select]

theorem small_toInt (x : ℕ) (h : x < 2 ^ 31) : (BitVec.ofNat 32 x).toInt = x := by
  rw [BitVec.toInt_eq_toNat_cond, BitVec.toNat_ofNat, Nat.mod_eq_of_lt (by omega), if_pos (by omega)]

theorem rowsOf_apply (k : ℕ) (hk : k < 8) (r : Fin 512) (q : Fin 256) : (rowsOf k (ValueIdx.ix2 r q)).toInt = ((512 * k + r : ℕ) : ℤ) := by
  have e : rowsOf k (ValueIdx.ix2 r q) = BitVec.ofNat 32 (512 * k + r) := by
    show (0#32 + BitVec.ofNat 32 k * 1#32) * 512#32 + BitVec.ofNat 32 (0 * 512 + r.val) = _
    apply BitVec.eq_of_toNat_eq
    simp [BitVec.toNat_add, BitVec.toNat_mul]
    omega
  rw [e, small_toInt _ (by omega)]

theorem tryBit30 (t : ℕ) (ht : t < 31) (j : T1.Idx) : tryBit 30#32 t j = BitVec.ofNat 32 (2 ^ (31 - 1 - t)) := by
  have : ∀ t : Fin 31, Scalar.shli 1#32 (Scalar.subi 30#32 (Scf.iv 0#32 1#32 t)) = BitVec.ofNat 32 (2 ^ (31 - 1 - t.val)) := by decide +kernel
  exact this ⟨t, ht⟩

theorem tryBit11 (t : ℕ) (ht : t < 12) (j : T1.Idx) : tryBit 11#32 t j = BitVec.ofNat 32 (2 ^ (12 - 1 - t)) := by
  have : ∀ t : Fin 12, Scalar.shli 1#32 (Scalar.subi 11#32 (Scf.iv 0#32 1#32 t)) = BitVec.ofNat 32 (2 ^ (12 - 1 - t.val)) := by decide +kernel
  exact this ⟨t, ht⟩

variable {n : ℕ} (hn : n ≤ 8) (V : Fin n → IVec T512 32) (key : ℕ → ℕ → ℤ)

theorem tot_nat (hn : n ≤ 8) (M : Fin n → IVec T512 1) (P : ℕ → ℕ → Prop) [∀ q, DecidablePred fun j => P j q]
    (hM : ∀ (k : Fin n) (r : Fin 512) (q : Fin 256), M k (ValueIdx.ix2 r q) = 1#1 ↔ P (512 * k + r) q) (u : Fin 1) (q : Fin 256) :
    tot (F := Bits) n M (ValueIdx.ix2 u q) = f32OfNat (cnt (512 * n) fun j => P j q) :=
  count_total cast512 red4 red3 red8 cast256 lt1 hn M P hM _ (fun _ => f32OfNat_zero.symm) u q

theorem cnt_small (hn : n ≤ 8) (P : ℕ → Prop) [DecidablePred P] : cnt (512 * n) P < 2 ^ 24 := by
  have := cnt_le (512 * n) P
  omega

section
include hn
variable (hV : ∀ (k : Fin n) (r : Fin 512) (q : Fin 256), (V k (ValueIdx.ix2 r q)).toInt = key (512 * k + r) q)
include hV

theorem oge_apply (p : IVec T512 32) (w : ℕ → ℤ) (hp : ∀ (r : Fin 512) (q : Fin 256), (p (ValueIdx.ix2 r q)).toInt = w q) (u : Fin 1) (q : Fin 256) :
    cmpf (F := Bits) .oge (tot n fun k => cmpi .sge (V k) p) (broadcast T1 (Scalar.ofBits .f32 0x43800000#32)) (ValueIdx.ix2 u q)
      = BitVec.ofBool (decide (256 ≤ cnt (512 * n) fun j => w q ≤ key j q)) := by
  show cmpf32 .oge (tot (F := Bits) n _ (ValueIdx.ix2 u q)) (Scalar.ofBits .f32 0x43800000#32 : Bits .f32) = _
  rw [tot_nat hn _ (fun j q => w q ≤ key j q) (fun k r q => by
    show IntOp.cmpi .sge _ _ = 1#1 ↔ _
    rw [sge_one, hp, hV]) u q, word256]
  exact cmpf32_oge_nat (cnt_small hn _) (by decide)

/-- The threshold: at least 256 keys are as large, fewer are larger. -/
theorem thr_spec (hn1 : 1 ≤ n) (hk : ∀ j q, -2 ^ 31 ≤ key j q ∧ key j q < 2 ^ 31) (q : Fin 256) :
    256 ≤ cnt (512 * n) (fun j => (thrOf (F := Bits) n V 31 (ValueIdx.ix2 0 q)).toInt ≤ key j q)
      ∧ ¬ 256 ≤ cnt (512 * n) (fun j => (thrOf (F := Bits) n V 31 (ValueIdx.ix2 0 q)).toInt + 1 ≤ key j q) := by
  have h0 : thrStart (F := Bits) n V (ValueIdx.ix2 0 q) = if 256 ≤ cnt (512 * n) (fun j => 0 ≤ key j q) then 0#32 else 2147483648#32 := by
    show Scalar.select (cmpf (F := Bits) .oge _ _ (ValueIdx.ix2 0 q)) 0#32 2147483648#32 = _
    rw [oge_apply hn V key hV (broadcast T512 0#32) (fun _ => 0) (fun _ _ => rfl) 0 q]
    exact select_if _ _ _
  refine search (fun v => 256 ≤ cnt (512 * n) (fun j => v ≤ key j q)) 31 le_rfl
    (fun t => upto 31 (fun t p => thrStep (F := Bits) n V t p) (thrStart (F := Bits) n V) t (ValueIdx.ix2 0 q)) ?_ ?_ ?_ ?_
  · show _ ∣ (thrStart (F := Bits) n V (ValueIdx.ix2 0 q)).toNat
    rw [h0]; split <;> decide
  · show 256 ≤ cnt (512 * n) (fun j => (thrStart (F := Bits) n V (ValueIdx.ix2 0 q)).toInt ≤ key j q)
    rw [h0]
    split
    · assumption
    · have e : cnt (512 * n) (fun j => (2147483648#32).toInt ≤ key j q) = cnt (512 * n) (fun _ => True) :=
        cnt_congr fun j _ => iff_of_true (hk j q).1 trivial
      rw [e]
      unfold cnt
      simp
      omega
  · show ¬ 256 ≤ cnt (512 * n) (fun j => (thrStart (F := Bits) n V (ValueIdx.ix2 0 q)).toInt + 2 ^ 31 ≤ key j q)
    rw [h0]
    split
    · have e : cnt (512 * n) (fun j => (0#32).toInt + 2 ^ 31 ≤ key j q) = cnt (512 * n) (fun _ => False) :=
        cnt_congr fun j _ => iff_of_false (not_le.2 (hk j q).2) not_false
      rw [e]
      unfold cnt
      simp
    · assumption
  · intro t ht
    rw [upto_succ' _ _ _ _ ht]
    show Scalar.select (cmpf (F := Bits) .oge _ _ (ValueIdx.ix2 0 q)) (IntOp.ori _ (tryBit 30#32 t (ValueIdx.ix2 0 q))) _ = _
    rw [oge_apply hn V key hV _ (fun q => if h : q < 256 then (ori (upto 31 (fun t p => thrStep (F := Bits) n V t p) (thrStart (F := Bits) n V) t) (tryBit 30#32 t)
      (ValueIdx.ix2 0 ⟨q, h⟩)).toInt else 0) (fun r q => by rw [bt_apply, dif_pos q.isLt]) 0 q, dif_pos q.isLt]
    show Scalar.select (BitVec.ofBool (decide (256 ≤ cnt (512 * n) fun j => (IntOp.ori _ (tryBit 30#32 t (ValueIdx.ix2 0 q))).toInt ≤ key j q))) _ _ = _
    rw [tryBit30 t ht]
    exact select_if _ _ _

end

/-- A column's threshold as a number. -/
abbrev tv (p : IVec T1 32) (q : Fin 256) : ℤ := (p (ValueIdx.ix2 0 q)).toInt

theorem tot_nat' (hn : n ≤ 8) (M : Fin n → IVec T512 1) (P : ℕ → Fin 256 → Prop) [∀ q, DecidablePred fun j => P j q]
    (hM : ∀ (k : Fin n) (r : Fin 512) (q : Fin 256), M k (ValueIdx.ix2 r q) = 1#1 ↔ P (512 * k + r) q) (u : Fin 1) (q : Fin 256) :
    tot (F := Bits) n M (ValueIdx.ix2 u q) = f32OfNat (cnt (512 * n) fun j => P j q) := by
  classical
  rw [tot_nat hn M (fun j q => ∃ h : q < 256, P j ⟨q, h⟩) (fun k r q => by
    rw [hM]; exact ⟨fun h => ⟨q.isLt, h⟩, fun ⟨_, h⟩ => h⟩) u q]
  exact congrArg f32OfNat (cnt_congr fun j _ => ⟨fun ⟨_, h⟩ => h, fun h => ⟨q.isLt, h⟩⟩)

section
include hn
variable (hV : ∀ (k : Fin n) (r : Fin 512) (q : Fin 256), (V k (ValueIdx.ix2 r q)).toInt = key (512 * k + r) q)
include hV

theorem need_spec (p : IVec T1 32) (q : Fin 256) (h : cnt (512 * n) (fun j => tv p q < key j q) ≤ 256) (u : Fin 1) :
    needOf (F := Bits) n V p (ValueIdx.ix2 u q) = f32OfNat (256 - cnt (512 * n) fun j => tv p q < key j q) := by
  show subf32 (Scalar.ofBits .f32 0x43800000#32 : Bits .f32) (tot (F := Bits) n _ (ValueIdx.ix2 u q)) = _
  rw [tot_nat' hn _ (fun j q => tv p q < key j q) (fun k r q => by
    show IntOp.cmpi .sgt _ _ = 1#1 ↔ _
    rw [sgt_one, bt_apply, hV]) u q, word256]
  exact subf32_nat _ _ h (by decide)

theorem ties_spec (p : IVec T1 32) (q : Fin 256) (u : Fin 1) :
    tot (F := Bits) n (fun k => cmpi .eq (V k) (bt p)) (ValueIdx.ix2 u q) = f32OfNat (cnt (512 * n) fun j => key j q = tv p q) :=
  tot_nat' hn _ (fun j q => key j q = tv p q) (fun k r q => by
    show IntOp.cmpi .eq _ _ = 1#1 ↔ _
    rw [eq_one, bt_apply, hV]) u q

/-- Where the excess is not positive, no column has more ties than it needs. -/
theorem over_spec (p : IVec T1 32) (nd : FVec Bits T1 .f32) (N : Fin 256 → ℕ) (hnd : ∀ q, nd (ValueIdx.ix2 0 q) = f32OfNat (N q))
    (hN : ∀ q, N q ≤ cnt (512 * n) fun j => key j q = tv p q)
    (ho : ¬ cmpf32 .ogt (overOf n V p nd) (f32OfNat 0) = 1#1) (q : Fin 256) :
    cnt (512 * n) (fun j => key j q = tv p q) ≤ N q := by
  classical
  let d : T11.Idx → ℕ := fun i => cnt (512 * n) (fun j => key j (i 2).val = tv p (i 2)) - N (i 2)
  have hd : ∀ i, shapeCast T11 (subf (tot (F := Bits) n fun k => cmpi .eq (V k) (bt p)) nd) cast11 i = f32OfNat (d i) := by
    intro i
    refine (shapeCast_apply _ cast11 i (ValueIdx.ix2 0 (i 2)) (by
      rw [Shape.rowMajor_val_two, Shape.rowMajor_val_three]
      have h0 : (i 0).val < 1 := (i 0).isLt
      have h1 : (i 1).val < 1 := (i 1).isLt
      simp [ValueIdx.ix2]
      omega)).trans ?_
    show subf32 (tot (F := Bits) n _ (ValueIdx.ix2 0 (i 2))) (nd (ValueIdx.ix2 0 (i 2))) = _
    rw [ties_spec hn V key hV p (i 2 : Fin 256) 0, hnd (i 2 : Fin 256)]
    exact subf32_nat _ _ (hN _) (cnt_small hn _)
  obtain ⟨J, hJ⟩ : ∃ J : TOne.Idx, overOf n V p nd = multiReduction (F := Bits) .maximumf [1, 2] TOne
    (shapeCast T11 (subf (tot n fun k => cmpi .eq (V k) (bt p)) nd) cast11) 0xFF800000#32 red11 (.inl rfl) rfl J := ⟨_, rfl⟩
  have hmem : ∀ i, i ∈ Finset.univ.filter fun i => red11.drop i = J := fun i => Finset.mem_filter.2 ⟨Finset.mem_univ _, by
    funext a
    apply Fin.ext
    match a with
    | ⟨0, h⟩ =>
      have h1 : (red11.drop i ⟨0, h⟩).val < 1 := (red11.drop i ⟨0, h⟩).isLt
      have h2 : (J ⟨0, h⟩).val < 1 := (J ⟨0, h⟩).isLt
      omega⟩
  have hs : ∀ i, d i < 2 ^ 24 := fun i => lt_of_le_of_lt (Nat.sub_le _ _) (cnt_small hn _)
  have hf : overOf n V p nd = f32OfNat ((Finset.univ.filter fun i => red11.drop i = J).fold max 0 d) := by
    refine hJ.trans ((multiReduction_maximumf_eq_fold _ _ red11 (.inl rfl) rfl J).trans ?_)
    rw [funext hd]
    exact fold_maximumf_negativeInfinity_nat _ ⟨ValueIdx.ix3 0 0 q, hmem _⟩ d fun i _ => (hs i).le
  obtain ⟨-, h2, h3⟩ := fold_max_spec (Finset.univ.filter fun i => red11.drop i = J) d 0
  rw [hf, cmpf32_ogt_nat (by
    rcases h3 with h3 | ⟨i, -, h3⟩
    · rw [h3]; decide
    · rw [h3]; exact hs i) (by decide), ofBool_one] at ho
  have h4 := h2 (ValueIdx.ix3 0 0 q) (hmem _)
  have h5 : d (ValueIdx.ix3 0 0 q) = cnt (512 * n) (fun j => key j q = tv p q) - N q := rfl
  omega

/-- The last index: fewer ties than needed lie before it, as many as needed at or before it. -/
theorem last_spec (p : IVec T1 32) (nd : FVec Bits T1 .f32) (q : Fin 256) (N : ℕ) (hnd : nd (ValueIdx.ix2 0 q) = f32OfNat N) (hN0 : 0 < N) (hN1 : N ≤ 256)
    (hN : N ≤ cnt (512 * n) fun j => key j q = tv p q) :
    cnt (512 * n) (fun j => key j q = tv p q ∧ (j : ℤ) < tv (lastOf n V p nd 12) q) < N
      ∧ ¬ cnt (512 * n) (fun j => key j q = tv p q ∧ (j : ℤ) < tv (lastOf n V p nd 12) q + 1) < N := by
  refine search (fun v => cnt (512 * n) (fun j => key j q = tv p q ∧ (j : ℤ) < v) < N) 12 (by decide)
    (fun t => upto 12 (fun t L => lastStep n V p nd t L) (broadcast T1 0#32) t (ValueIdx.ix2 0 q)) ?_ ?_ ?_ ?_
  · exact Nat.dvd_zero _
  · have e : cnt (512 * n) (fun j => key j q = tv p q ∧ (j : ℤ) < (0#32).toInt) = cnt (512 * n) (fun _ => False) :=
        cnt_congr fun j _ => iff_of_false (fun h => by have := h.2; simp at this; omega) not_false
    show cnt (512 * n) (fun j => key j q = tv p q ∧ (j : ℤ) < (0#32).toInt) < N
    rw [e]
    unfold cnt
    simpa using hN0
  · have e : cnt (512 * n) (fun j => key j q = tv p q ∧ (j : ℤ) < (0#32).toInt + 2 ^ 12) = cnt (512 * n) (fun j => key j q = tv p q) :=
        cnt_congr fun j hj => ⟨fun h => h.1, fun h => ⟨h, by simp; omega⟩⟩
    show ¬ cnt (512 * n) (fun j => key j q = tv p q ∧ (j : ℤ) < (0#32).toInt + 2 ^ 12) < N
    rw [e]
    omega
  · intro t ht
    rw [upto_succ' _ _ _ _ ht]
    show Scalar.select (cmpf32 .olt (tot (F := Bits) n _ (ValueIdx.ix2 0 q)) (nd (ValueIdx.ix2 0 q))) (IntOp.ori _ (tryBit 11#32 t (ValueIdx.ix2 0 q))) _ = _
    rw [tot_nat' hn _ (fun j q => key j q = tv p q ∧ (j : ℤ) < (IntOp.ori (upto 12 (fun t L => lastStep n V p nd t L) (broadcast T1 0#32) t (ValueIdx.ix2 0 q))
        (tryBit 11#32 t (ValueIdx.ix2 0 q))).toInt) (fun k r q => by
      show IntOp.andi (IntOp.cmpi .eq _ _) (IntOp.cmpi .slt _ _) = 1#1 ↔ _
      rw [and_one, eq_one, slt_one, bt_apply, bt_apply, hV, rowsOf_apply k (by have := k.isLt; omega)]
      rfl) 0 q, hnd, cmpf32_olt_nat (cnt_small hn _) (by omega), tryBit11 t ht]
    exact select_if _ _ _

end

section
variable {F : FTy → Type} [BitOps F]

/-- Whether some column has more ties than it needs. -/
def overBit (n : ℕ) (V : Fin n → IVec T512 32) (p : IVec T1 32) (nd : FVec F T1 .f32) : BitVec 1 :=
  Scalar.cmpi .ne ((Scalar.extui (Scalar.cmpf .ogt (overOf n V p nd) (Scalar.ofBits .f32 0x00000000#32))) : BitVec 32) 0#32

/-- The last index at which a tie is kept. -/
def cutOf (n : ℕ) (V : Fin n → IVec T512 32) (p : IVec T1 32) (nd : FVec F T1 .f32) (m : ℕ) : IVec T1 32 :=
  if overBit n V p nd = 1#1 then lastOf n V p nd m else broadcast T1 4096#32
end

theorem ne_word (x : BitVec 1) : IntOp.cmpi .ne (x.setWidth 32) 0#32 = x := by revert x; decide

section
include hn
variable (hV : ∀ (k : Fin n) (r : Fin 512) (q : Fin 256), (V k (ValueIdx.ix2 r q)).toInt = key (512 * k + r) q)
include hV

/-- A row is kept exactly where fewer than 256 rows rank before it. -/
theorem keep_spec (hn1 : 1 ≤ n) (hk : ∀ j q, -2 ^ 31 ≤ key j q ∧ key j q < 2 ^ 31) (k : Fin n) (r : Fin 512) (q : Fin 256) :
    keepOf (thrOf (F := Bits) n V 31) (cutOf (F := Bits) n V (thrOf (F := Bits) n V 31) (needOf n V (thrOf (F := Bits) n V 31)) 12) k (V k) (ValueIdx.ix2 r q) = 1#1
      ↔ cnt (512 * n) (fun i => key (512 * k + r) q < key i q ∨ (key i q = key (512 * k + r) q ∧ i < 512 * k + r)) < 256 := by
  have hthr := thr_spec hn V key hV hn1 hk
  generalize hp : thrOf (F := Bits) n V 31 = p at hthr ⊢
  have h1 : ∀ q : Fin 256, 256 ≤ cnt (512 * n) (fun j => tv p q ≤ key j q) := fun q => (hthr q).1
  have h2 : ∀ q : Fin 256, cnt (512 * n) (fun j => tv p q < key j q) < 256 := fun q => not_le.1 (hthr q).2
  have h3 : ∀ q : Fin 256, cnt (512 * n) (fun j => tv p q ≤ key j q) = cnt (512 * n) (fun j => tv p q < key j q) + cnt (512 * n) (fun j => key j q = tv p q) :=
    fun q => cnt_or (fun j _ => by omega) (fun j _ a b => by omega)
  have hnd : ∀ q : Fin 256, needOf (F := Bits) n V p (ValueIdx.ix2 0 q) = f32OfNat (256 - cnt (512 * n) fun j => tv p q < key j q) :=
    fun q => need_spec hn V key hV p q (h2 q).le 0
  generalize needOf (F := Bits) n V p = nd at hnd ⊢
  have hj : 512 * k.val + r.val < 512 * n := by have := k.isLt; have := r.isLt; omega
  refine Iff.trans ?_ (rank_lt_iff (N := 512 * n) (key := fun i => key i q) (T := tv p q) (j := 512 * k + r)
    (L := ((512 * k.val + r.val : ℕ) : ℤ) ≤ tv (cutOf n V p nd 12) q) (h1 q) (h2 q) ?_)
  · show IntOp.ori (IntOp.cmpi .sgt _ _) (IntOp.andi (IntOp.cmpi .eq _ _) (IntOp.cmpi .sle _ _)) = 1#1 ↔ _
    rw [or_one, and_one, sgt_one, eq_one, sle_one, bt_apply, bt_apply, hV, rowsOf_apply k (by have := k.isLt; omega)]
  · intro hkey
    by_cases ho : overBit n V p nd = 1#1
    · rw [cutOf, if_pos ho]
      obtain ⟨ha, hb⟩ := last_spec hn V key hV p nd q _ (hnd q) (by have := h2 q; omega) (by omega) (by have := h3 q; have := h1 q; omega)
      constructor
      · intro hle
        refine lt_of_le_of_lt (cnt_mono fun i _ hi => ⟨hi.1, ?_⟩) ha
        have := hi.2
        omega
      · intro hlt
        by_contra hc
        refine hb (lt_of_le_of_lt (cnt_mono fun i _ hi => ⟨hi.1, ?_⟩) hlt)
        have := hi.2
        omega
    · rw [cutOf, if_neg ho]
      refine iff_of_true ?_ ?_
      · show _ ≤ (4096#32).toInt
        simp
        omega
      · refine lt_of_lt_of_le (cnt_lt (fun i _ hi => hi.1) hj (fun h => lt_irrefl _ h.2) hkey)
          (over_spec hn V key hV p nd _ hnd (fun q => by have := h3 q; have := h1 q; omega) (fun h => ho ?_) q)
        refine (ne_word _).trans (Eq.trans ?_ h)
        show cmpf32 .ogt _ _ = _
        rw [f32OfNat_zero]
        rfl

end

/-! ## Ranks -/

/-- A row's key counted where it ranks before. -/
def rankStep (mine : IVec T512 32) (k j : ℕ) (w : IVec T1 32) (a : IVec T512 32) : IVec T512 32 :=
  addi a (extui 32 (ori (cmpi .sgt (bt w) mine) (andi (cmpi .eq (bt w) mine) (cmpi .slt (broadcast T512 (Scf.iv 0#32 1#32 j)) (rowsOf k)))) lt1)

theorem cnt_succ (m : ℕ) (P : ℕ → Prop) [DecidablePred P] : cnt (m + 1) P = cnt m P + if P m then 1 else 0 := by
  rw [cnt_eq_sum, cnt_eq_sum, Finset.sum_range_succ]

theorem rank_spec (m : ℕ) (hm : m ≤ 4096) (W : Fin m → IVec T1 32) (mine : IVec T512 32) (k : ℕ) (hk : k < 8) (r : Fin 512) (q : Fin 256)
    (hW : ∀ j : Fin m, (W j (ValueIdx.ix2 0 q)).toInt = key j q) (hmine : (mine (ValueIdx.ix2 r q)).toInt = key (512 * k + r) q) :
    upto m (fun j a => rankStep mine k j (W j) a) (broadcast T512 0#32) m (ValueIdx.ix2 r q)
      = BitVec.ofNat 32 (cnt m (fun i => key (512 * k + r) q < key i q ∨ (key i q = key (512 * k + r) q ∧ i < 512 * k + r))) := by
  have hinv : ∀ t, t ≤ m → upto m (fun j a => rankStep mine k j (W j) a) (broadcast T512 0#32) t (ValueIdx.ix2 r q)
      = BitVec.ofNat 32 (cnt t (fun i => key (512 * k + r) q < key i q ∨ (key i q = key (512 * k + r) q ∧ i < 512 * k + r))) := by
    intro t
    induction t with
    | zero => intro _; rfl
    | succ t ih =>
      intro ht
      rw [upto_succ' _ _ _ _ (by omega), cnt_succ]
      show upto m (fun j a => rankStep mine k j (W j) a) (broadcast T512 0#32) t (ValueIdx.ix2 r q)
        + BitVec.setWidth 32 (IntOp.ori (IntOp.cmpi .sgt _ _) (IntOp.andi (IntOp.cmpi .eq _ _) (IntOp.cmpi .slt (Scf.iv 0#32 1#32 t) _))) = _
      rw [ih (by omega)]
      have e : Scf.iv 0#32 1#32 t = BitVec.ofNat 32 t := by
        show 0#32 + BitVec.ofNat 32 t * 1#32 = _
        simp
      have hb : (IntOp.ori (IntOp.cmpi .sgt (bt (W ⟨t, by omega⟩) (ValueIdx.ix2 r q)) (mine (ValueIdx.ix2 r q)))
          (IntOp.andi (IntOp.cmpi .eq (bt (W ⟨t, by omega⟩) (ValueIdx.ix2 r q)) (mine (ValueIdx.ix2 r q)))
            (IntOp.cmpi .slt (Scf.iv 0#32 1#32 t) (rowsOf k (ValueIdx.ix2 r q))))) = 1#1
          ↔ (key (512 * k + r) q < key t q ∨ (key t q = key (512 * k + r) q ∧ t < 512 * k + r)) := by
        rw [or_one, and_one, sgt_one, eq_one, slt_one, bt_apply, hW, hmine, e, rowsOf_apply k hk, small_toInt _ (by omega), Nat.cast_lt]
      by_cases hc : key (512 * k + r) q < key t q ∨ (key t q = key (512 * k + r) q ∧ t < 512 * k + r)
      · rw [if_pos hc]
        refine (congrArg (fun x => _ + BitVec.setWidth 32 x) (hb.2 hc)).trans ?_
        rw [BitVec.ofNat_add]
        rfl
      · rw [if_neg hc]
        refine (congrArg (fun x => _ + BitVec.setWidth 32 x) (ValueIdx.eq_zero_of_ne_one (fun h => hc (hb.1 h)))).trans ?_
        simp
  exact hinv m le_rfl

/-- A rank is below 256 as a word exactly where its number is. -/
theorem rank_lt (x : ℕ) (hx : x < 2 ^ 31) : IntOp.cmpi .slt (BitVec.ofNat 32 x) 256#32 = 1#1 ↔ x < 256 := by
  rw [slt_one, small_toInt x hx]
  show (x : ℤ) < 256 ↔ _
  omega

end Cert.Proof

end
-- ==== Proof.Meet.lean ====
/- What the two bodies leave in their outputs, as one function of their inputs: the same keys, the same biases, the same heads. -/
module

public import proofs.«01_k».proof.Proof.KRun
public import proofs.«01_k».proof.Proof.RRun
public import proofs.«01_k».proof.Proof.Pick
public import Idealize.ShloMosaic.Lib.SortKey

@[expose] public section

noncomputable section

namespace Cert.Proof

open Idealize.ShloMosaic Idealize.ShloMosaic.TcCoe Idealize.ShloMosaic.Bits

/-- The load of a unit-stride rectangle, of the contents. -/
abbrev ld {α : Type} {s : Shape} (q : s.Idx → α) (off size : Fin s.rank → ℕ) (inb : ∀ a, off a + size a ≤ s.size a) :
    (⟨s.rank, size⟩ : Shape).Idx → α := fun x => q ((Rect.unit off size inb).toLoadRect.idx x)

theorem ld_congr {α : Type} {s : Shape} (q : s.Idx → α) {off off' size : Fin s.rank → ℕ} (ho : off = off') (inb : ∀ a, off a + size a ≤ s.size a)
    (inb' : ∀ a, off' a + size a ≤ s.size a) : ld q off size inb = ld q off' size inb' := by subst ho; rfl

/-- The sortable word of a float's bits, written with shifts and with a comparison. -/
theorem key_word (w : BitVec 32) :
    IntOp.xori w (IntOp.andi (IntOp.shrsi .vector w 31#32) 2147483647#32)
      = Scalar.select (IntOp.cmpi .slt w 0#32) (IntOp.subi 2147483647#32 w) w := by
  have e1 : IntOp.cmpi .slt w 0#32 = BitVec.ofBool w.msb := by
    show BitVec.ofBool (w.slt 0#32) = _
    rw [BitVec.slt_zero_eq_msb]
  rw [show (2147483647#32 : BitVec 32) = 0x7FFFFFFF#32 from rfl, xori_andi_shrsi_eq_sortableKey, e1]
  cases h : w.msb
  · rw [sortableKey_of_msb_false w h]; rfl
  · rw [sortableKey_of_msb_true w h]
    show _ = (0x7FFFFFFF#32 - w)
    have hm : ∀ i : Fin 32, (~~~w ||| 0x80000000#32).getLsbD i = (w ^^^ 0x7FFFFFFF#32).getLsbD i := by
      intro i
      rw [BitVec.msb_eq_getLsbD_last] at h
      rw [BitVec.getLsbD_or, BitVec.getLsbD_xor, BitVec.getLsbD_not]
      by_cases hi : i.val = 31
      · rw [hi]; rw [show w.getLsbD 31 = true from h]; rfl
      · have h1 : ∀ i : Fin 32, i.val ≠ 31 → (0x80000000#32).getLsbD i = false ∧ (0x7FFFFFFF#32).getLsbD i = true := by decide
        rw [(h1 i hi).1, (h1 i hi).2]
        simp [i.isLt]
    have hz : ~~~w &&& 0x80000000#32 = 0#32 := by
      apply BitVec.eq_of_getLsbD_eq
      intro i hi
      rw [BitVec.msb_eq_getLsbD_last] at h
      rw [BitVec.getLsbD_and, BitVec.getLsbD_not]
      by_cases hi' : i = 31
      · subst hi'; rw [show w.getLsbD 31 = true from h]; rfl
      · have h1 : ∀ i : Fin 32, i.val ≠ 31 → (0x80000000#32).getLsbD i = false := by decide
        rw [h1 ⟨i, hi⟩ hi']; simp
    have e2 : w ^^^ 0x7FFFFFFF#32 = ~~~w ||| 0x80000000#32 := (BitVec.eq_of_getLsbD_eq fun i hi => hm ⟨i, hi⟩).symm
    rw [e2, ← BitVec.add_eq_or_of_and_eq_zero _ _ hz]
    apply BitVec.eq_of_toNat_eq
    have := w.isLt
    rw [BitVec.toNat_add, BitVec.toNat_sub, BitVec.toNat_not]
    show (2 ^ 32 - 1 - w.toNat + 2147483648) % 2 ^ 32 = (2 ^ 32 - w.toNat + 2147483647) % 2 ^ 32
    omega

variable {F : FTy → Type} [BitOps F]

/-- A chunk's keys, of its loads. -/
def keysOf (i : Cert.Kernel.grid0.Coords) (j : BitVec 32) (q : Vec F Cert.Kernel.S256x128 .f32) (k : Vec F Cert.Kernel.S1x1x512x64 .bf16)
    (a0 a1 a2 a3 : Vec F Cert.Kernel.S1x256x64 .bf16) : IVec T512 32 :=
  Cert.Reference.Gen.k0_pay39 (Cert.Reference.Gen.k0_pay20 (F := F) (Cert.Reference.Gen.k0_pay37 i)
    (iota .tc Cert.Reference.S512x256 32 [0] Cert.Reference.Gen.iota_S512x256_d0_w32) (Cert.Reference.Gen.k0_pay38 q) j
    (Cert.Reference.Gen.k0_pay17 (Cert.Reference.Gen.k0_pay38 q) k a0 k a1) (Cert.Reference.Gen.k0_pay18 k)
    (Cert.Reference.Gen.k0_pay19 a2) k a3)

theorem key_pay (i : Cert.Kernel.grid0.Coords) (j : BitVec 32) (q : Vec F Cert.Kernel.S256x128 .f32) (k : Vec F Cert.Kernel.S1x1x512x64 .bf16)
    (a0 a1 a2 a3 : Vec F Cert.Kernel.S1x256x64 .bf16) :
    shapeCast Cert.Kernel.S512x256 (Cert.Kernel.Gen.k0_pay191 (F := F) i j
        (Cert.Kernel.Gen.k0_pay4 (Cert.Kernel.Gen.k0_pay187 q) (Cert.Kernel.Gen.k0_pay188 q) (Cert.Kernel.Gen.k0_pay189 q) k a0 a1 a2)
        (Cert.Kernel.Gen.k0_pay5 (Cert.Kernel.Gen.k0_pay190 q) k a3)) Cert.Kernel.Gen.shapeCasts_S1x512x256_S512x256
      = keysOf i j q k a0 a1 a2 a3 := by
  unfold keysOf
  refine (shapeCast_shapeCast _ _ _).trans ?_
  refine Eq.trans ?_ (shapeCast_self _ _).symm
  funext x
  exact congrArg (Scalar.select _ _) (key_word _)

theorem trips1 : ∀ i : Cert.Kernel.grid0.Coords, (Cert.Kernel.k0_t1_loop i).trips = ((i 1).val * 256 + 255) / 512 + 1 := by decide +kernel
theorem trips1_le (i : Cert.Kernel.grid0.Coords) : (Cert.Kernel.k0_t1_loop i).trips ≤ 8 := by
  have := (i 1).isLt
  have h : (i 1).val < 16 := this
  rw [trips1]; omega
theorem trips5 : Cert.Kernel.k0_t5_loop.trips = 31 := by decide +kernel
theorem trips12 : Cert.Kernel.k0_t12_loop.trips = 12 := by decide +kernel
theorem trips4 : ∀ i : Cert.Reference.grid0.Coords, (Cert.Reference.k0_t4_loop i).trips = 512 * (((i 1).val * 256 + 255) / 512 + 1) := by decide +kernel
theorem trips1' : ∀ i : Cert.Reference.grid0.Coords, (Cert.Reference.k0_t1_loop i).trips = ((i 1).val * 256 + 255) / 512 + 1 := by decide +kernel
theorem lt1' (i : Cert.Kernel.grid0.Coords) (k : Fin (Cert.Kernel.k0_t1_loop i).trips) : k.val < (Cert.Reference.k0_t1_loop i).trips :=
  Nat.lt_of_lt_of_eq k.isLt ((trips1 i).trans (trips1' i).symm)

theorem trips10' : ∀ i : Cert.Reference.grid0.Coords, (Cert.Reference.k0_t10_loop i).trips = ((i 1).val * 256 + 255) / 512 + 1 := by decide +kernel
theorem trips17 : ∀ i : Cert.Kernel.grid0.Coords, (Cert.Kernel.k0_t17_loop i).trips = ((i 1).val * 256 + 255) / 512 + 1 := by decide +kernel
theorem trips15 : ∀ i : Cert.Kernel.grid0.Coords, (Cert.Kernel.k0_t15_loop i).trips = ((i 1).val * 256 + 255) / 512 + 1 := by decide +kernel
theorem trips17' (i : Cert.Kernel.grid0.Coords) : (Cert.Kernel.k0_t17_loop i).trips = (Cert.Kernel.k0_t1_loop i).trips := (trips17 i).trans (trips1 i).symm

/-! ## The output, as a function of the inputs -/

section
variable (i : Cert.Kernel.grid0.Coords)
  (a2 : Vec F Cert.Kernel.S8x256x64 .bf16)
  (a3 : Vec F Cert.Kernel.S4x256x64 .bf16)
  (a4 : Vec F Cert.Kernel.S256x128 .f32)
  (a5 : Vec F Cert.Kernel.S1x1x4096x64 .bf16)
  (a6 : Vec F Cert.Kernel.S1x8x4096x64 .bf16)
  (a7 : Vec F Cert.Kernel.S1x512x4096 .bf16)

/-- Chunk `k`'s keys. -/
def keysF (k : Fin (Cert.Kernel.k0_t1_loop i).trips) : IVec T512 32 :=
  keysOf i (Scf.iv 0#32 1#32 k) (ld a4 ![0, 0] Cert.Kernel.S256x128.size Cert.Kernel.Gen.inb_S256x128_S256x128_0_0)
    (ld a5 (Cert.Kernel.k0_off1 i k) Cert.Kernel.S1x1x512x64.size (Cert.Kernel.Gen.k0_off1_inb i k))
    (ld a3 ![0, 0, 0] Cert.Kernel.S1x256x64.size Cert.Kernel.Gen.inb_S4x256x64_S1x256x64_0_0_0)
    (ld a3 ![1, 0, 0] Cert.Kernel.S1x256x64.size Cert.Kernel.Gen.inb_S4x256x64_S1x256x64_1_0_0)
    (ld a3 ![2, 0, 0] Cert.Kernel.S1x256x64.size Cert.Kernel.Gen.inb_S4x256x64_S1x256x64_2_0_0)
    (ld a3 ![3, 0, 0] Cert.Kernel.S1x256x64.size Cert.Kernel.Gen.inb_S4x256x64_S1x256x64_3_0_0)

/-- Chunk `k`'s biases, of the chunks' keys. -/
def biasF (V : Fin (Cert.Kernel.k0_t1_loop i).trips → IVec T512 32) (k : Fin (Cert.Kernel.k0_t1_loop i).trips) : FVec F T512 .f32 :=
  select (andi (keepOf (thrOf (F := F) _ V 31) (cutOf (F := F) _ V (thrOf (F := F) _ V 31) (needOf (F := F) _ V (thrOf (F := F) _ V 31)) 12) k (V k))
      (cmpi .sle (rowsOf k) (bt (Cert.Kernel.Gen.k0_pay185 i))))
    (broadcast T512 (Scalar.ofBits .f32 0x00000000#32)) (broadcast T512 (Scalar.ofBits .f32 0xF149F2CA#32))

/-- Every head's step at chunk `k`. -/
def stepsF (B : Fin (Cert.Kernel.k0_t1_loop i).trips → FVec F T512 .f32) (k : Fin (Cert.Kernel.k0_t1_loop i).trips) (s : (h : ℕ) → h < 8 → Kernel.St F) :
    (h : ℕ) → h < 8 → Kernel.St F := fun h hh =>
  Kernel.step (ld a2 ![h, 0, 0] Cert.Kernel.S1x256x64.size (Kernel.inbQ h hh))
    (ld a6 ![0, h, 512 * k, 0] Cert.Kernel.S1x1x512x64.size (Kernel.inbK h k hh (Nat.lt_of_lt_of_le k.isLt (trips1_le i))))
    (ld a7 ![0, 64 * h, 512 * k] Cert.Kernel.S1x64x512.size (Kernel.inbV h k hh (Nat.lt_of_lt_of_le k.isLt (trips1_le i)))) (B k) (s h hh)

/-- The output. -/
def outF : FVec F Cert.Kernel.S256x512 .bf16 :=
  Cert.Kernel.Gen.k0_pay2 (asm fun h hh => (upto (Cert.Kernel.k0_t1_loop i).trips (stepsF i a2 a6 a7 (biasF i (keysF i a3 a4 a5)))
    (fun _ _ => Kernel.St.init) (Cert.Kernel.k0_t1_loop i).trips h hh).out)
end

/-! ## The kernel's output -/

section
variable (c : Dev Cert.Kernel.nD) (i : Cert.Kernel.grid0.Coords)
  (arg2 : Memref Cert.Kernel.sig .tc .vmem Cert.Kernel.S8x256x64 .bf16)
  (arg3 : Memref Cert.Kernel.sig .tc .vmem Cert.Kernel.S4x256x64 .bf16)
  (arg4 : Memref Cert.Kernel.sig .tc .vmem Cert.Kernel.S256x128 .f32)
  (arg5 : Memref Cert.Kernel.sig .tc .vmem Cert.Kernel.S1x1x4096x64 .bf16)
  (arg6 : Memref Cert.Kernel.sig .tc .vmem Cert.Kernel.S1x8x4096x64 .bf16)
  (arg7 : Memref Cert.Kernel.sig .tc .vmem Cert.Kernel.S1x512x4096 .bf16)
  (arg9 : Memref Cert.Kernel.sig .tc .vmem Cert.Kernel.S8x512x256 .i32)
  (arg10 : Memref Cert.Kernel.sig .tc .vmem Cert.Kernel.S8x512x256 .f32)

/-- A chunk of the kernel's keys, as an array of rows. -/
abbrev chunk9 (X : Kernel.Bf (F := F) c arg9) (k : Fin (Cert.Kernel.k0_t1_loop i).trips) : IVec T512 32 :=
  shapeCast T512 (Kernel.rd c arg9 (Cert.Kernel.k0_off2 i k) Cert.Kernel.S1x512x256.size (Cert.Kernel.Gen.k0_off2_inb i k) X)
    Cert.Kernel.Gen.shapeCasts_S1x512x256_S512x256

theorem thr_eq (X : Kernel.Bf (F := F) c arg9) : Kernel.thr c i arg9 X = thrOf (F := F) _ (chunk9 c i arg9 X) 31 := by
  have h : Kernel.thr c i arg9 X = thrOf (F := F) _ (chunk9 c i arg9 X) Cert.Kernel.k0_t5_loop.trips := rfl
  rw [h, trips5]

theorem need_eq (X : Kernel.Bf (F := F) c arg9) :
    Kernel.need c i arg9 X = needOf (F := F) _ (chunk9 c i arg9 X) (Kernel.thr c i arg9 X) := rfl

theorem last_eq (X : Kernel.Bf (F := F) c arg9) :
    Kernel.last c i arg9 X = cutOf (F := F) _ (chunk9 c i arg9 X) (Kernel.thr c i arg9 X) (Kernel.need c i arg9 X) 12 := by
  have h : Kernel.last c i arg9 X = cutOf (F := F) _ (chunk9 c i arg9 X) (Kernel.thr c i arg9 X) (Kernel.need c i arg9 X) Cert.Kernel.k0_t12_loop.trips := rfl
  rw [h, trips12]

theorem keys_kernel (f3 : Kernel.Bf (F := F) c arg3) (f4 : Kernel.Bf (F := F) c arg4) (f5 : Kernel.Bf (F := F) c arg5) (X : Kernel.Bf (F := F) c arg9)
    (hX : Kernel.KeysAt c i arg3 arg4 arg5 arg9 f3 f4 f5 X) :
    chunk9 c i arg9 X = keysF i (arg3.view.read (Elt F) f3) (arg4.view.read (Elt F) f4) (arg5.view.read (Elt F) f5) := by
  funext k
  refine (congrArg (fun v => shapeCast T512 v Cert.Kernel.Gen.shapeCasts_S1x512x256_S512x256) (hX k)).trans ?_
  exact key_pay i _ _ _ _ _ _ _

theorem bias_kernel (X : Kernel.Bf (F := F) c arg9) (Y : Kernel.Bf (F := F) c arg10) (hY : Kernel.BiasAt c i arg9 arg10 X Y)
    (k : Fin (Cert.Kernel.k0_t1_loop i).trips) (hk : k.val < 8) :
    shapeCast T512 (Kernel.rd c arg10 ![k.val, 0, 0] Cert.Kernel.S1x512x256.size (Kernel.inbB k hk) Y) Cert.Kernel.Gen.shapeCasts_S1x512x256_S512x256
      = biasF (F := F) i (chunk9 c i arg9 X) k := by
  have hk15 : k.val < (Cert.Kernel.k0_t15_loop i).trips := k.isLt
  refine (congrArg (fun v => shapeCast T512 v Cert.Kernel.Gen.shapeCasts_S1x512x256_S512x256)
    ((ld_congr (arg10.view.read (Elt F) Y) (Cert.Kernel.Gen.k0_off15_eq i ⟨k, hk15⟩).symm _ (Cert.Kernel.Gen.k0_off15_inb i ⟨k, hk15⟩)).trans (hY ⟨k, hk15⟩))).trans ?_
  unfold biasF Cert.Kernel.Gen.k0_pay217
  refine (shapeCast_shapeCast _ _ _).trans ?_
  rw [last_eq, need_eq, thr_eq]
  rfl

theorem out_kernel (f2 : Kernel.Bf (F := F) c arg2) (f3 : Kernel.Bf (F := F) c arg3) (f4 : Kernel.Bf (F := F) c arg4) (f5 : Kernel.Bf (F := F) c arg5) (f6 : Kernel.Bf (F := F) c arg6) (f7 : Kernel.Bf (F := F) c arg7)
    (v : FVec F Cert.Kernel.S256x512 .bf16) (hv : Kernel.OutAt c i arg2 arg3 arg4 arg5 arg6 arg7 arg9 arg10 f2 f3 f4 f5 f6 f7 v) :
    v = outF i (arg2.view.read (Elt F) f2) (arg3.view.read (Elt F) f3) (arg4.view.read (Elt F) f4) (arg5.view.read (Elt F) f5)
      (arg6.view.read (Elt F) f6) (arg7.view.read (Elt F) f7) := by
  obtain ⟨X, Y, hX, hY, rfl⟩ := hv
  have hk := keys_kernel c i arg3 arg4 arg5 arg9 f3 f4 f5 X hX
  unfold outF
  refine congrArg (fun r => Cert.Kernel.Gen.k0_pay2 (F := F) (asm r)) ?_
  funext h hh
  refine congrArg Kernel.St.out ?_
  refine congrFun (congrFun ?_ h) hh
  refine upto_rel (R := fun _ s s' => s = s') (trips17' i) rfl ?_ _ le_rfl |>.trans (congrArg (upto _ _ _) (trips17' i))
  intro k hk1 hk2 s s' hs
  subst hs
  funext h hh
  have hb := bias_kernel c i arg9 arg10 X Y hY ⟨k, hk2⟩ (Nat.lt_of_lt_of_le hk2 (trips1_le i))
  rw [hk] at hb
  exact congrArg (fun b => Kernel.step _ _ _ b (s h hh)) hb
end

/-! ## The selection, at the machine's words -/

section
variable (d : Dev Cert.Reference.nD) (brg9 : Memref Cert.Reference.sig .tc .vmem Cert.Reference.S4096x256 .i32) (X' : Reference.Bf (F := Bits) d brg9)

/-- Column `q`'s key in row `j`. -/
def keyAt (j q : ℕ) : ℤ :=
  if h : j < 4096 ∧ q < 256 then
    BitVec.toInt (n := 32) (brg9.view.read (Elt Bits) X' (ValueIdx.ix2 (⟨j, h.1⟩ : Fin 4096) (⟨q, h.2⟩ : Fin 256)))
  else 0

theorem keyAt_bounds (j q : ℕ) : -2 ^ 31 ≤ keyAt d brg9 X' j q ∧ keyAt d brg9 X' j q < 2 ^ 31 := by
  unfold keyAt
  split
  · exact ⟨BitVec.le_toInt _, BitVec.toInt_lt⟩
  · decide

theorem rows_read (off : Fin 2 → ℕ) (m o : ℕ) (ho : off = ![o, 0]) (inb : ∀ a, off a + (![m, 256] : Fin 2 → ℕ) a ≤ (![4096, 256] : Fin 2 → ℕ) a)
    (r : Fin m) (q : Fin 256) :
    BitVec.toInt (n := 32) (Reference.rd (F := Bits) d brg9 off ![m, 256] inb X' (ValueIdx.ix2 r q)) = keyAt d brg9 X' (o + r) q := by
  subst ho
  have h0 : o + m ≤ 4096 := inb 0
  have := r.isLt
  unfold keyAt
  rw [dif_pos ⟨by omega, q.isLt⟩]
  refine congrArg (fun x => BitVec.toInt (n := 32) (brg9.view.read (Elt Bits) X' x)) ?_
  funext a
  apply Fin.ext
  match a with
  | ⟨0, _⟩ => exact Rect.idx_unit_val ..
  | ⟨1, _⟩ => exact (Rect.idx_unit_val ..).trans (Nat.zero_add _)
end

theorem bit_ext (x y : BitVec 1) (h : x = 1#1 ↔ y = 1#1) : x = y := by revert x y; decide

section
variable (d : Dev Cert.Reference.nD) (i : Cert.Kernel.grid0.Coords)
  (brg2 : Memref Cert.Reference.sig .tc .vmem Cert.Reference.S8x256x64 .bf16)
  (brg3 : Memref Cert.Reference.sig .tc .vmem Cert.Reference.S4x256x64 .bf16)
  (brg4 : Memref Cert.Reference.sig .tc .vmem Cert.Reference.S256x128 .f32)
  (brg5 : Memref Cert.Reference.sig .tc .vmem Cert.Reference.S1x1x4096x64 .bf16)
  (brg6 : Memref Cert.Reference.sig .tc .vmem Cert.Reference.S1x8x4096x64 .bf16)
  (brg7 : Memref Cert.Reference.sig .tc .vmem Cert.Reference.S1x512x4096 .bf16)
  (brg9 : Memref Cert.Reference.sig .tc .vmem Cert.Reference.S4096x256 .i32)
  (brg10 : Memref Cert.Reference.sig .tc .vmem Cert.Reference.S4096x256 .f32)

theorem keys_reference (g3 : Reference.Bf (F := F) d brg3) (g4 : Reference.Bf (F := F) d brg4) (g5 : Reference.Bf (F := F) d brg5) (X' : Reference.Bf (F := F) d brg9)
    (hX' : Reference.KeysAt d i brg3 brg4 brg5 brg9 g3 g4 g5 X') (k : Fin (Cert.Kernel.k0_t1_loop i).trips) :
    keysF i (brg3.view.read (Elt F) g3) (brg4.view.read (Elt F) g4) (brg5.view.read (Elt F) g5) k
      = Reference.rd d brg9 (Cert.Reference.k0_off2 i ⟨k, lt1' i k⟩) Cert.Reference.S512x256.size (Cert.Reference.Gen.k0_off2_inb i ⟨k, lt1' i k⟩) X' := by
  refine Eq.trans ?_ (hX' ⟨k, lt1' i k⟩).symm
  exact congrArg (fun b => keysOf (F := F) i (Scf.iv 0#32 1#32 k) _ b _ _ _ _)
    (ld_congr (brg5.view.read (Elt F) g5) ((Cert.Kernel.Gen.k0_off1_eq i k).trans (Cert.Reference.Gen.k0_off1_eq i ⟨k, lt1' i k⟩).symm) _
      (Cert.Reference.Gen.k0_off1_inb i ⟨k, lt1' i k⟩))

theorem lt3' (i : Cert.Kernel.grid0.Coords) (k : Fin (Cert.Kernel.k0_t1_loop i).trips) : k.val < (Cert.Reference.k0_t3_loop i).trips := lt1' i k

/-- Threshold and last tie decide a key's bias the way its rank does. -/
theorem bias_reference (V : Fin (Cert.Kernel.k0_t1_loop i).trips → IVec T512 32) (X' : Reference.Bf (F := Bits) d brg9)
    (hk : ∀ k, V k = Reference.rd d brg9 (Cert.Reference.k0_off2 i ⟨k, lt1' i k⟩) Cert.Reference.S512x256.size (Cert.Reference.Gen.k0_off2_inb i ⟨k, lt1' i k⟩) X')
    (Y' : Reference.Bf (F := Bits) d brg10) (hY' : Reference.BiasAt d i brg9 brg10 X' Y') (k : Fin (Cert.Kernel.k0_t1_loop i).trips) :
    biasF (F := Bits) i V k
      = Reference.rd d brg10 (Cert.Reference.k0_off5 i ⟨k, lt3' i k⟩) Cert.Reference.S512x256.size (Cert.Reference.Gen.k0_off5_inb i ⟨k, lt3' i k⟩) Y' := by
  have hn : (Cert.Kernel.k0_t1_loop i).trips ≤ 8 := trips1_le i
  have hn1 : 1 ≤ (Cert.Kernel.k0_t1_loop i).trips := by rw [trips1]; omega
  have hk8 : k.val < 8 := Nat.lt_of_lt_of_le k.isLt hn
  have hV : ∀ (k : Fin (Cert.Kernel.k0_t1_loop i).trips) (r : Fin 512) (q : Fin 256),
      (V k (ValueIdx.ix2 r q)).toInt = keyAt d brg9 X' (512 * k + r) q := fun k r q => by
    rw [hk k]
    exact rows_read d brg9 X' _ 512 (512 * k) (Cert.Reference.Gen.k0_off2_eq i ⟨k, lt1' i k⟩) _ r q
  refine Eq.trans ?_ (hY' ⟨k, lt3' i k⟩).symm
  unfold biasF Cert.Reference.Gen.k0_pay5
  refine Eq.trans ?_ (shapeCast_self _ _).symm
  funext x
  obtain ⟨r, q, rfl⟩ : ∃ (r : Fin 512) (q : Fin 256), x = ValueIdx.ix2 r q := ⟨x 0, x 1, ValueIdx.eq_ix2 x⟩
  refine congrArg (fun b : BitVec 1 => Scalar.select (IntOp.andi b _) _ _) ?_
  refine bit_ext _ _ ?_
  have hm := hV k r q
  have hkeep := keep_spec hn V (keyAt d brg9 X') hV hn1 (keyAt_bounds d brg9 X') k r q
  refine Iff.trans hkeep ?_
  have hr := rank_spec (keyAt d brg9 X') (Cert.Reference.k0_t4_loop i).trips (by rw [trips4]; rw [trips1] at hn; omega)
    (fun j => Reference.rd d brg9 (Cert.Reference.k0_off6 i j) Cert.Reference.S1x256.size (Cert.Reference.Gen.k0_off6_inb i j) X')
    (Reference.rd d brg9 (Cert.Reference.k0_off5 i ⟨k, lt3' i k⟩) Cert.Reference.S512x256.size (Cert.Reference.Gen.k0_off5_inb i ⟨k, lt3' i k⟩) X')
    k hk8 r q (fun j => rows_read d brg9 X' _ 1 j (Cert.Reference.Gen.k0_off6_eq i j) _ 0 q)
    (rows_read d brg9 X' _ 512 (512 * k) (Cert.Reference.Gen.k0_off5_eq i ⟨k, lt3' i k⟩) _ r q)
  refine Iff.trans ?_ (iff_of_eq (congrArg (fun w => IntOp.cmpi .slt w 256#32 = 1#1) hr.symm))
  have e4 : (Cert.Reference.k0_t4_loop i).trips = 512 * (Cert.Kernel.k0_t1_loop i).trips := by rw [trips4, trips1]
  rw [rank_lt _ (by have := cnt_le (Cert.Reference.k0_t4_loop i).trips (fun i_1 => keyAt d brg9 X' (512 * k + r) q < keyAt d brg9 X' i_1 q ∨ (keyAt d brg9 X' i_1 q = keyAt d brg9 X' (512 * k + r) q ∧ i_1 < 512 * k + r)); omega), e4]

/-- A step of a head, as the reference writes it. -/
theorem step_meet (q : Vec F Cert.Kernel.S1x256x64 .bf16) (k : Vec F Cert.Kernel.S1x1x512x64 .bf16) (v : Vec F Cert.Kernel.S1x64x512 .bf16)
    (b : FVec F Cert.Kernel.S512x256 .f32) (s : Kernel.St F) :
    ((Kernel.step q k v b s).m, (Kernel.step q k v b s).l, (Kernel.step q k v b s).a)
      = (Cert.Reference.Gen.k0_pay26 (Cert.Reference.Gen.k0_pay11 q) s.m k b, Cert.Reference.Gen.k0_pay29 (Cert.Reference.Gen.k0_pay11 q) s.m s.l k b,
          Cert.Reference.Gen.k0_pay30 (Cert.Reference.Gen.k0_pay11 q) s.m s.a k b v) := rfl

theorem head_reference (a2 : Vec F Cert.Kernel.S8x256x64 .bf16) (a6 : Vec F Cert.Kernel.S1x8x4096x64 .bf16) (a7 : Vec F Cert.Kernel.S1x512x4096 .bf16)
    (g2 : Reference.Bf (F := F) d brg2) (g6 : Reference.Bf (F := F) d brg6) (g7 : Reference.Bf (F := F) d brg7)
    (h2 : a2 = brg2.view.read (Elt F) g2) (h6 : a6 = brg6.view.read (Elt F) g6) (h7 : a7 = brg7.view.read (Elt F) g7)
    (B : Fin (Cert.Kernel.k0_t1_loop i).trips → FVec F T512 .f32) (Y' : Reference.Bf (F := F) d brg10)
    (hb : ∀ k, B k = Reference.rd d brg10 (Cert.Reference.k0_off5 i ⟨k, lt3' i k⟩) Cert.Reference.S512x256.size (Cert.Reference.Gen.k0_off5_inb i ⟨k, lt3' i k⟩) Y')
    (h : ℕ) (hh : h < 8) :
    (upto (Cert.Kernel.k0_t1_loop i).trips (stepsF i a2 a6 a7 B) (fun _ _ => Kernel.St.init) (Cert.Kernel.k0_t1_loop i).trips h hh).out
      = Reference.head d i brg2 brg6 brg7 brg10 g2 g6 g7 Y' h hh := by
  subst h2 h6 h7
  have hn : (Cert.Kernel.k0_t1_loop i).trips = (Cert.Reference.k0_t10_loop i).trips := (trips1 i).trans (trips10' i).symm
  have key := upto_rel (R := fun (k : ℕ) (s : (h : ℕ) → h < 8 → Kernel.St F) (a : FVec F Cert.Reference.S1x256 .f32 × FVec F Cert.Reference.S1x256 .f32 × FVec F Cert.Reference.S64x256 .f32) =>
      ((s h hh).m, (s h hh).l, (s h hh).a) = a) (f := stepsF i (brg2.view.read (Elt F) g2) (brg6.view.read (Elt F) g6) (brg7.view.read (Elt F) g7) B) (a := fun _ _ => Kernel.St.init)
    (g := fun (k : Fin (Cert.Reference.k0_t10_loop i).trips) (a : FVec F Cert.Reference.S1x256 .f32 × FVec F Cert.Reference.S1x256 .f32 × FVec F Cert.Reference.S64x256 .f32) =>
      (Cert.Reference.Gen.k0_pay26 (Cert.Reference.Gen.k0_pay11 (Reference.rd d brg2 (Cert.Reference.k0_off11 ⟨h, Reference.trips9 ▸ hh⟩) Cert.Reference.S1x256x64.size (Cert.Reference.Gen.k0_off11_inb ⟨h, Reference.trips9 ▸ hh⟩) g2)) a.1
          (Reference.rd d brg6 (Cert.Reference.k0_off12 i ⟨h, Reference.trips9 ▸ hh⟩ k) Cert.Reference.S1x1x512x64.size (Cert.Reference.Gen.k0_off12_inb i ⟨h, Reference.trips9 ▸ hh⟩ k) g6)
          (Reference.rd d brg10 (Cert.Reference.k0_off13 i k) Cert.Reference.S512x256.size (Cert.Reference.Gen.k0_off13_inb i k) Y'),
        Cert.Reference.Gen.k0_pay29 (Cert.Reference.Gen.k0_pay11 (Reference.rd d brg2 (Cert.Reference.k0_off11 ⟨h, Reference.trips9 ▸ hh⟩) Cert.Reference.S1x256x64.size (Cert.Reference.Gen.k0_off11_inb ⟨h, Reference.trips9 ▸ hh⟩) g2)) a.1 a.2.1
          (Reference.rd d brg6 (Cert.Reference.k0_off12 i ⟨h, Reference.trips9 ▸ hh⟩ k) Cert.Reference.S1x1x512x64.size (Cert.Reference.Gen.k0_off12_inb i ⟨h, Reference.trips9 ▸ hh⟩ k) g6)
          (Reference.rd d brg10 (Cert.Reference.k0_off13 i k) Cert.Reference.S512x256.size (Cert.Reference.Gen.k0_off13_inb i k) Y'),
        Cert.Reference.Gen.k0_pay30 (Cert.Reference.Gen.k0_pay11 (Reference.rd d brg2 (Cert.Reference.k0_off11 ⟨h, Reference.trips9 ▸ hh⟩) Cert.Reference.S1x256x64.size (Cert.Reference.Gen.k0_off11_inb ⟨h, Reference.trips9 ▸ hh⟩) g2)) a.1 a.2.2
          (Reference.rd d brg6 (Cert.Reference.k0_off12 i ⟨h, Reference.trips9 ▸ hh⟩ k) Cert.Reference.S1x1x512x64.size (Cert.Reference.Gen.k0_off12_inb i ⟨h, Reference.trips9 ▸ hh⟩ k) g6)
          (Reference.rd d brg10 (Cert.Reference.k0_off13 i k) Cert.Reference.S512x256.size (Cert.Reference.Gen.k0_off13_inb i k) Y')
          (Reference.rd d brg7 (Cert.Reference.k0_off14 i ⟨h, Reference.trips9 ▸ hh⟩ k) Cert.Reference.S1x64x512.size (Cert.Reference.Gen.k0_off14_inb i ⟨h, Reference.trips9 ▸ hh⟩ k) g7)))
    (b := (Cert.Reference.Gen.k0_pay12, Cert.Reference.Gen.k0_pay13, Cert.Reference.Gen.k0_pay14)) hn rfl ?_ _ le_rfl
  · have e := key.trans (congrArg (upto _ _ _) hn)
    unfold Reference.head Reference.r10
    clear key
    generalize (upto (Cert.Kernel.k0_t1_loop i).trips (stepsF i (brg2.view.read (Elt F) g2) (brg6.view.read (Elt F) g6) (brg7.view.read (Elt F) g7) B) (fun _ _ => Kernel.St.init)
      (Cert.Kernel.k0_t1_loop i).trips : (h : ℕ) → h < 8 → Kernel.St F) h hh = s at e ⊢
    refine Eq.trans ?_ (congrArg (fun a : FVec F Cert.Reference.S1x256 .f32 × FVec F Cert.Reference.S1x256 .f32 × FVec F Cert.Reference.S64x256 .f32 =>
      Idealize.ShloMosaic.divf a.2.2 (broadcastTo Cert.Reference.S64x256 a.2.1 Cert.Reference.Gen.broadcasts_S1x256_S64x256)) e)
    rfl
  · intro k hk hk' s a hs
    subst hs
    have hk8 : k < 8 := Nat.lt_of_lt_of_le hk (trips1_le i)
    have e2 : ld (brg2.view.read (Elt F) g2) ![h, 0, 0] Cert.Kernel.S1x256x64.size (Kernel.inbQ h hh)
        = Reference.rd d brg2 (Cert.Reference.k0_off11 ⟨h, Reference.trips9 ▸ hh⟩) Cert.Reference.S1x256x64.size (Cert.Reference.Gen.k0_off11_inb ⟨h, Reference.trips9 ▸ hh⟩) g2 :=
      ld_congr _ (Cert.Reference.Gen.k0_off11_eq ⟨h, Reference.trips9 ▸ hh⟩).symm _ _
    have e6 : ld (brg6.view.read (Elt F) g6) ![0, h, 512 * k, 0] Cert.Kernel.S1x1x512x64.size (Kernel.inbK h k hh hk8)
        = Reference.rd d brg6 (Cert.Reference.k0_off12 i ⟨h, Reference.trips9 ▸ hh⟩ ⟨k, hk'⟩) Cert.Reference.S1x1x512x64.size (Cert.Reference.Gen.k0_off12_inb i ⟨h, Reference.trips9 ▸ hh⟩ ⟨k, hk'⟩) g6 :=
      ld_congr _ (Cert.Reference.Gen.k0_off12_eq i ⟨h, Reference.trips9 ▸ hh⟩ ⟨k, hk'⟩).symm _ _
    have e7 : ld (brg7.view.read (Elt F) g7) ![0, 64 * h, 512 * k] Cert.Kernel.S1x64x512.size (Kernel.inbV h k hh hk8)
        = Reference.rd d brg7 (Cert.Reference.k0_off14 i ⟨h, Reference.trips9 ▸ hh⟩ ⟨k, hk'⟩) Cert.Reference.S1x64x512.size (Cert.Reference.Gen.k0_off14_inb i ⟨h, Reference.trips9 ▸ hh⟩ ⟨k, hk'⟩) g7 :=
      ld_congr _ (Cert.Reference.Gen.k0_off14_eq i ⟨h, Reference.trips9 ▸ hh⟩ ⟨k, hk'⟩).symm _ _
    have e10 : B ⟨k, hk⟩ = Reference.rd d brg10 (Cert.Reference.k0_off13 i ⟨k, hk'⟩) Cert.Reference.S512x256.size (Cert.Reference.Gen.k0_off13_inb i ⟨k, hk'⟩) Y' :=
      (hb ⟨k, hk⟩).trans (ld_congr (brg10.view.read (Elt F) Y') ((Cert.Reference.Gen.k0_off5_eq i ⟨k, lt3' i ⟨k, hk⟩⟩).trans (Cert.Reference.Gen.k0_off13_eq i ⟨k, hk'⟩).symm) _ _)
    rw [← e2, ← e6, ← e7, ← e10]
    exact step_meet _ _ _ _ _

/-- The reference leaves the same function of its inputs, at the machine's words. -/
theorem out_reference (g2 : Reference.Bf (F := Bits) d brg2) (g3 : Reference.Bf (F := Bits) d brg3) (g4 : Reference.Bf (F := Bits) d brg4) (g5 : Reference.Bf (F := Bits) d brg5) (g6 : Reference.Bf (F := Bits) d brg6) (g7 : Reference.Bf (F := Bits) d brg7)
    (v : FVec Bits Cert.Kernel.S256x512 .bf16) (hv : Reference.OutAt d i brg2 brg3 brg4 brg5 brg6 brg7 brg9 brg10 g2 g3 g4 g5 g6 g7 v) :
    v = outF i (brg2.view.read (Elt Bits) g2) (brg3.view.read (Elt Bits) g3) (brg4.view.read (Elt Bits) g4) (brg5.view.read (Elt Bits) g5)
      (brg6.view.read (Elt Bits) g6) (brg7.view.read (Elt Bits) g7) := by
  obtain ⟨X', Y', hX', hY', rfl⟩ := hv
  have hk := keys_reference d i brg3 brg4 brg5 brg9 g3 g4 g5 X' hX'
  have hb := bias_reference d i brg9 brg10 _ X' hk Y' hY'
  refine congrArg (fun r => Cert.Kernel.Gen.k0_pay2 (F := Bits) (asm r)) ?_
  funext h hh
  exact (head_reference d i brg2 brg6 brg7 brg10 _ _ _ g2 g6 g7 rfl rfl rfl _ Y' hb h hh).symm
end

end Cert.Proof

end
-- ==== Proof.KFrame.lean ====
/- The launch of `cc0_dsa_prompt`: the body's run (KRun.lean) as the pipeline's body obligation, every input left at its
   block and the output at `outF` of the blocks (Meet.lean), and what the arrays hold at the end. -/
module

public import proofs.«01_k».proof.Proof.Meet
public import proofs.«01_k».proof.Proof.Gen.Kernel.Frame
public import Idealize.ShloMosaic.Lib.VecWindow

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the body leaves in its output block at point `t`. -/
def out (c : Dev nD) (t : Fin cfg0.N) : FVec F S256x512 .bf16 :=
  outF (grid0.coords t) (X0_0 m c t) (iblk m c 1 t) (iblk m c 2 t) (iblk m c 3 t) (X0_4 m c t) (iblk m c 5 t)

/-- Every input window is left at its block, the output at `out`. -/
def dats (_ : Fin 1) (c : Dev nD) : Dat τ (Elt F) Unit ℕ (UR sig nD τ) ℕ cfg0 c where
  A w := V m c (Pipeline.arrRef spec0 w)
  after := fun
    | 0 => fun t => X0_0 m c t
    | 1 => fun t => iblk m c 1 t
    | 2 => fun t => iblk m c 2 t
    | 3 => fun t => iblk m c 3 t
    | 4 => fun t => X0_4 m c t
    | 5 => fun t => iblk m c 5 t
    | 6 => fun t => out m c t
    | ⟨_ + 7, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = X0_0 m c t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = X0_4 m c t :=
  before0_4_of m (dats m 0 c) rfl (fun _ => rfl) t d
theorem before5 (c : Dev nD) (t : Fin cfg0.N) (d) : (dats m 0 c).before 5 t d = iblk m c 5 t :=
  before0_5_of m (dats m 0 c) rfl (fun _ => rfl) t d

/-- The body between its input blocks, before and after. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare (X0_0 m c t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (X0_4 m c t)
    ∗ owns (c : Thread nD τ) (st0_5 t) fullShare (iblk m c 5 t)
    ∗ owns (c : Thread nD τ) (st0_6 t) fullShare (out m c t))

/-- The class invariant, conjunct by conjunct: the seven scratch buffers at some contents, the generator register. -/
theorem Phi_eq (c : Dev nD) :
    (Pipeline.ΦA spec0 c : sProp 𝕄)
      = iprop(((∃ f, pt (F := F) c (Memref.whole cc0_scratch0) f) ∗ (∃ f, pt (F := F) c (Memref.whole cc0_scratch1) f)
          ∗ (∃ f, pt (F := F) c (Memref.whole cc0_scratch2) f) ∗ (∃ f, pt (F := F) c (Memref.whole cc0_scratch3) f)
          ∗ (∃ f, pt (F := F) c (Memref.whole cc0_scratch4) f) ∗ (∃ f, pt (F := F) c (Memref.whole cc0_scratch5) f)
          ∗ (∃ f, pt (F := F) c (Memref.whole cc0_scratch6) f)) ∗ ∃ r, prngReg c r) := by
  unfold Pipeline.ΦA; rw [scopedRest0_eq]; unfold pt; simp only [Memref.view_whole, View.set_whole]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0, before1, before2, before3, before4, before5]
  unfold owns
  iintro ⟨⟨⟨⟨%s9, S9⟩, ⟨%s10, S10⟩, ⟨%s11, S11⟩, ⟨%s12, S12⟩, ⟨%s13, S13⟩, ⟨%s14, S14⟩, ⟨%s15, S15⟩⟩, Hg⟩, HO,
    ⟨%d2, %f2, %e2, H2⟩, ⟨%d3, %f3, %e3, H3⟩, ⟨%d4, %f4, %e4, H4⟩, ⟨%d5, %f5, %e5, H5⟩, ⟨%d6, %f6, %e6, H6⟩,
    ⟨%d7, %f7, %e7, H7⟩, ⟨%d8, %f8, %e8, H8⟩⟩
  iapply (kernelRun c (grid0.coords t) (st0_0 t) _ (st0_1 t) _ (st0_2 t) _ (st0_3 t) _ (st0_4 t) _ (st0_5 t) _ (st0_6 t) _
    (Memref.whole cc0_scratch0) _ (Memref.whole cc0_scratch1) _ (Memref.whole cc0_scratch2) _ (Memref.whole cc0_scratch3) _
    (Memref.whole cc0_scratch4) _ (Memref.whole cc0_scratch5) _ (Memref.whole cc0_scratch6) _
    f2 f3 f4 f5 f6 f7 f8 s9 s10 s11 s12 s13 s14 s15 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  isplitl [S14]; · iexact S14
  isplitl [S15]; · iexact S15
  iintro ⟨H2, H3, H4, H5, H6, H7, ⟨%v, H8, %hv⟩, S9, S10, S11, S12, S13, S14, S15⟩
  isplitl [S9 S10 S11 S12 S13 S14 S15 Hg]
  · isplitr [Hg]
    · isplitl [S9]; · iexact S9
      isplitl [S10]; · iexact S10
      isplitl [S11]; · iexact S11
      isplitl [S12]; · iexact S12
      isplitl [S13]; · iexact S13
      isplitl [S14]; · iexact S14
      iexact S15
    · iexact Hg
  isplitl [HO]; · iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists _; isplitr
  · ipureintro
    have e := out_kernel c (grid0.coords t) (st0_0 t) (st0_1 t) (st0_2 t) (st0_3 t) (st0_4 t) (st0_5 t) (Memref.whole cc0_scratch0)
      (Memref.whole cc0_scratch1) f2 f3 f4 f5 f6 f7 v hv
    rw [e2, e3, e4, e5, e6, e7] at e
    exact (View.read_writes_full (s := S256x512) (st0_6 t).view f8 inb_S256x512_S256x512_0_0 v []).trans e
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.FramePost cfgs (dats m) (0 : Fin 1) (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- Every execution ends with the output array at what the points' write-backs left, the arguments as they were and every
    counter at zero. -/
theorem run :
    θ_run defs (onTc (τ := τ) (main (F := F))) ⟨m, fun _ => 0, ρ⟩ (fun r => (∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c).1 6,
      ((h.1 c).2 main_arg0 (Pipeline.mem_restRefs_of main_arg0 (by decide) (by decide))).trans (V_main_arg0 m c),
      (((h.1 c).1 2).trans ((dats m 0 c).arrAt_in 2 rfl _)).trans (V_main_arg1 m c),
      (((h.1 c).1 4).trans ((dats m 0 c).arrAt_in 4 rfl _)).trans (V_main_arg2 m c),
      (((h.1 c).1 5).trans ((dats m 0 c).arrAt_in 5 rfl _)).trans (V_main_arg3 m c)⟩, h.2⟩) (run_main m ρ)

/-- Every execution ends with the arguments as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run m ρ)

end Cert.Proof.Kernel

end
-- ==== Proof.RFrame.lean ====
/- The launch of the reference: the body's run (RRun.lean), at the machine's words, as the pipeline's body obligation, every input left at its
   block and the output at `outF` of the blocks (Meet.lean), and what the arrays hold at the end. -/
module

public import proofs.«01_k».proof.Proof.Meet
public import proofs.«01_k».proof.Proof.Gen.Reference.Frame
public import Idealize.ShloMosaic.Lib.VecWindow

@[expose] public section

noncomputable section

namespace Cert.Proof.Reference

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Bits) ℕ (UR sig nD τ) ℕ

variable (m : (ℓ : Loc nD τ sig) → Buf (Elt Bits) ℓ) (ρ : Dev nD → PrngReg)

/-- What the body leaves in its output block at point `t`. -/
def out (c : Dev nD) (t : Fin cfg0.N) : FVec Bits S256x512 .bf16 :=
  outF (grid0.coords t) (X0_0 m c t) (iblk m c 1 t) (iblk m c 2 t) (iblk m c 3 t) (X0_4 m c t) (iblk m c 5 t)

/-- Every input window is left at its block, the output at `out`. -/
def dats (_ : Fin 1) (c : Dev nD) : Dat τ (Elt Bits) Unit ℕ (UR sig nD τ) ℕ cfg0 c where
  A w := V m c (Pipeline.arrRef spec0 w)
  after := fun
    | 0 => fun t => X0_0 m c t
    | 1 => fun t => iblk m c 1 t
    | 2 => fun t => iblk m c 2 t
    | 3 => fun t => iblk m c 3 t
    | 4 => fun t => X0_4 m c t
    | 5 => fun t => iblk m c 5 t
    | 6 => fun t => out m c t
    | ⟨_ + 7, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = X0_0 m c t :=
  before0_0_of m (dats m 0 c) rfl (fun _ => rfl) t d
theorem before1 (c : Dev nD) (t : Fin cfg0.N) (d) : (dats m 0 c).before 1 t d = iblk m c 1 t :=
  before0_1_of m (dats m 0 c) rfl (fun _ => rfl) t d
theorem before2 (c : Dev nD) (t : Fin cfg0.N) (d) : (dats m 0 c).before 2 t d = iblk m c 2 t :=
  before0_2_of m (dats m 0 c) rfl (fun _ => rfl) t d
theorem before3 (c : Dev nD) (t : Fin cfg0.N) (d) : (dats m 0 c).before 3 t d = iblk m c 3 t :=
  before0_3_of m (dats m 0 c) rfl (fun _ => rfl) t d
theorem before4 (c : Dev nD) (t : Fin cfg0.N) (d) : (dats m 0 c).before 4 t d = X0_4 m c t :=
  before0_4_of m (dats m 0 c) rfl (fun _ => rfl) t d
theorem before5 (c : Dev nD) (t : Fin cfg0.N) (d) : (dats m 0 c).before 5 t d = iblk m c 5 t :=
  before0_5_of m (dats m 0 c) rfl (fun _ => rfl) t d

/-- The body between its input blocks, before and after. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare (X0_0 m c t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (X0_4 m c t)
    ∗ owns (c : Thread nD τ) (st0_5 t) fullShare (iblk m c 5 t)
    ∗ owns (c : Thread nD τ) (st0_6 t) fullShare (out m c t))

/-- The class invariant, conjunct by conjunct: the three scratch buffers at some contents, the generator register. -/
theorem Phi_eq (c : Dev nD) :
    (Pipeline.ΦA spec0 c : sProp 𝕄)
      = iprop(((∃ f, pt (F := Bits) c (Memref.whole cc0_scratch0) f) ∗ (∃ f, pt (F := Bits) c (Memref.whole cc0_scratch1) f)
          ∗ (∃ f, pt (F := Bits) c (Memref.whole cc0_scratch2) f)) ∗ ∃ r, prngReg c r) := by
  unfold Pipeline.ΦA; rw [scopedRest0_eq]; unfold pt; simp only [Memref.view_whole, View.set_whole]

set_option maxHeartbeats 1600000 in
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, Phi_eq]
  simp only [before0, before1, before2, before3, before4, before5]
  unfold owns
  iintro ⟨⟨⟨⟨%s9, S9⟩, ⟨%s10, S10⟩, ⟨%s11, S11⟩⟩, Hg⟩, HO,
    ⟨%d2, %f2, %e2, H2⟩, ⟨%d3, %f3, %e3, H3⟩, ⟨%d4, %f4, %e4, H4⟩, ⟨%d5, %f5, %e5, H5⟩, ⟨%d6, %f6, %e6, H6⟩,
    ⟨%d7, %f7, %e7, H7⟩, ⟨%d8, %f8, %e8, H8⟩⟩
  iapply (kernelRun c (grid0.coords t) (st0_0 t) _ (st0_1 t) _ (st0_2 t) _ (st0_3 t) _ (st0_4 t) _ (st0_5 t) _ (st0_6 t) _
    (Memref.whole cc0_scratch0) _ (Memref.whole cc0_scratch1) _ (Memref.whole cc0_scratch2) _
    f2 f3 f4 f5 f6 f7 f8 s9 s10 s11 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  iintro ⟨H2, H3, H4, H5, H6, H7, ⟨%v, H8, %hv⟩, S9, S10, S11⟩
  isplitl [S9 S10 S11 Hg]
  · isplitr [Hg]
    · isplitl [S9]; · iexact S9
      isplitl [S10]; · iexact S10
      iexact S11
    · iexact Hg
  isplitl [HO]; · iexact HO
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  iexists _; isplitr
  · ipureintro
    have e := out_reference c (grid0.coords t) (st0_0 t) (st0_1 t) (st0_2 t) (st0_3 t) (st0_4 t) (st0_5 t) (Memref.whole cc0_scratch0)
      (Memref.whole cc0_scratch1) f2 f3 f4 f5 f6 f7 v hv
    rw [e2, e3, e4, e5, e6, e7] at e
    exact (View.read_writes_full (s := S256x512) (st0_6 t).view f8 inb_S256x512_S256x512_0_0 v []).trans e
  iexact H8

theorem defs₀_row (t : Fin cfg0.N) : defs₀ (F := Bits) .tc cfg0.body (cfg0.bodyArgs t (cfg0.slots t)) = bodyAt0 t := by
  unfold defs₀; rw [Defs.onTc_tc]

theorem body_obligation (c : Dev nD) :
    BodyObligation (dats m 0 c) (defs₀ (F := Bits)) Variants.none () Set.univ := fun t => by
  rw [bigSep_W0, bigSep_W0, defs₀_row]
  exact triple_restated (sound_body m c t) rfl .rfl fun _ => .rfl

set_option backward.isDefEq.respectTransparency.types false in
theorem run_main :
    θ_run defs (onTc (τ := τ) (main (F := Bits))) (s₀ m ρ)
      (fun r => Pipeline.FramePost cfgs (dats m) (0 : Fin 1) (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- Every execution ends with the output array at what the points' write-backs left, the arguments as they were and every
    counter at zero. -/
theorem run :
    θ_run defs (onTc (τ := τ) (main (F := Bits))) ⟨m, fun _ => 0, ρ⟩ (fun r => (∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c).1 6,
      ((h.1 c).2 main_arg0 (Pipeline.mem_restRefs_of main_arg0 (by decide) (by decide))).trans (V_main_arg0 m c),
      (((h.1 c).1 2).trans ((dats m 0 c).arrAt_in 2 rfl _)).trans (V_main_arg1 m c),
      (((h.1 c).1 4).trans ((dats m 0 c).arrAt_in 4 rfl _)).trans (V_main_arg2 m c),
      (((h.1 c).1 5).trans ((dats m 0 c).arrAt_in 5 rfl _)).trans (V_main_arg3 m c)⟩, h.2⟩) (run_main m ρ)

/-- Every execution ends with the arguments as they were and every counter at zero. -/
theorem frame :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run m ρ)

end Cert.Proof.Reference

end
-- ==== Proof.Final.lean ====
/- The two programs, from equal arguments: equal blocks at every point, so the same output blocks, and in both the output
   array ends at those blocks, one under the other. -/
module

public import proofs.«01_k».proof.Proof.KFrame
public import proofs.«01_k».proof.Proof.RFrame

@[expose] public section

set_option maxRecDepth 16384

noncomputable section

namespace Cert.Proof

open Idealize.ShloMosaic Idealize.ShloMosaic.TcCoe Idealize.SL.Sem
open Idealize.ShloMosaic.Pipeline (Dat)

/-- Thirty-two blocks of 256 rows, one under the other. -/
def tiles (o : Fin 32 → FVec Bits Cert.Kernel.S256x512 .bf16) : Cert.Kernel.S8192x512.Idx → Bits .bf16 := fun i =>
  o ⟨(i 0).val / 256, Nat.div_lt_of_lt_mul (show (i 0).val < 256 * 32 from (i 0).isLt)⟩
    (fun | 0 => ⟨(i 0).val % 256, Nat.mod_lt _ (by decide)⟩ | 1 => ⟨(i 1).val, (i 1).isLt⟩)

theorem tiles_at (o : Fin 32 → FVec Bits Cert.Kernel.S256x512 .bf16) (t : Fin 32) (j : Cert.Kernel.S256x512.Idx)
    (i : Cert.Kernel.S8192x512.Idx) (h0 : (i 0).val = t.val * 256 + (j 0).val) (h1 : (i 1).val = (j 1).val) :
    o t j = tiles o i := by
  have hj : (j 0).val < 256 := (j 0).isLt
  unfold tiles
  have ht : (⟨(i 0).val / 256, Nat.div_lt_of_lt_mul (show (i 0).val < 256 * 32 from (i 0).isLt)⟩ : Fin 32) = t :=
    Fin.ext (by show (i 0).val / 256 = t.val; omega)
  rw [ht]
  refine congrArg (o t) (funext fun a => ?_)
  match a with
  | 0 => exact Fin.ext (by show (j 0).val = (i 0).val % 256; omega)
  | 1 => exact Fin.ext h1.symm

namespace Kernel
open Cert.Kernel Cert.Kernel.Gen

variable (m : (ℓ : Loc nD τ sig) → Buf (Elt Bits) ℓ) (c : Dev nD)

theorem row : ∀ t : Fin cfg0.N, (cfg0.win 6).index t 0 = t.val := by decide +kernel

/-- The output array ends at the points' blocks. -/
theorem final : (dats m 0 c).arrAt 6 cfg0.N = tiles (out m c) := by
  refine (dats m 0 c).arrAt_eq_of_covers 6 _ (by decide +kernel) fun t hf y => ?_
  blk_simp
  refine tiles_at (out m c) t _ _ ?_ ?_
  · refine (Pipeline.Window.rect_emb_val (cfg0.win 6) t y 0).trans ?_
    rw [row]; rfl
  · exact Pipeline.Window.rect_emb_val_of_index_zero (cfg0.win 6) t 1 rfl y

end Kernel

namespace Reference
open Cert.Reference Cert.Reference.Gen

variable (m : (ℓ : Loc nD τ sig) → Buf (Elt Bits) ℓ) (c : Dev nD)

theorem row : ∀ t : Fin cfg0.N, (cfg0.win 6).index t 0 = t.val := by decide +kernel

/-- The output array ends at the points' blocks. -/
theorem final : (dats m 0 c).arrAt 6 cfg0.N = tiles (out m c) := by
  refine (dats m 0 c).arrAt_eq_of_covers 6 _ (by decide +kernel) fun t hf y => ?_
  blk_simp
  refine tiles_at (out m c) t _ _ ?_ ?_
  · refine (Pipeline.Window.rect_emb_val (cfg0.win 6) t y 0).trans ?_
    rw [row]; rfl
  · exact Pipeline.Window.rect_emb_val_of_index_zero (cfg0.win 6) t 1 rfl y

end Reference

section
variable (m : (ℓ : Loc Cert.Kernel.nD Cert.Kernel.τ Cert.Kernel.sig) → Buf (Elt Bits) ℓ)
  (m' : (ℓ : Loc Cert.Reference.nD Cert.Reference.τ Cert.Reference.sig) → Buf (Elt Bits) ℓ)
  (c : Dev Cert.Kernel.nD)

/-- The packed queries and keys, their heads in front. -/
def lay (x : Cert.Kernel.S8192x1280.Idx → Bits .bf16) : Cert.Kernel.S20x8192x64.Idx → Bits .bf16 :=
  transpose Cert.Kernel.S20x8192x64 [1, 0, 2] (shapeCast Cert.Kernel.S8192x20x64 x Cert.Kernel.Gen.shapeCasts_S8192x1280_S8192x20x64)
    Cert.Kernel.Gen.transposes_S8192x20x64_S20x8192x64_1_0_2

/-- The packed queries and keys as both programs' regions find them: the argument, its heads in front. -/
theorem packed (h : m' ((c.tc : Thread Cert.Reference.nD Cert.Reference.τ).loc Cert.Reference.main_arg0) = m ((c.tc : Thread Cert.Kernel.nD Cert.Kernel.τ).loc Cert.Kernel.main_arg0)) :
    (Cert.Reference.Gen.V m' c Cert.Reference.main_v1 : Cert.Kernel.S20x8192x64.Idx → Bits .bf16)
      = (Cert.Kernel.Gen.V m c Cert.Kernel.main_v1 : Cert.Kernel.S20x8192x64.Idx → Bits .bf16) := by
  have e : (Cert.Kernel.Gen.V m c Cert.Kernel.main_v1 : Cert.Kernel.S20x8192x64.Idx → Bits .bf16) = lay (m ((c.tc : Thread Cert.Kernel.nD Cert.Kernel.τ).loc Cert.Kernel.main_arg0)) := rfl
  have e' : (Cert.Reference.Gen.V m' c Cert.Reference.main_v1 : Cert.Kernel.S20x8192x64.Idx → Bits .bf16) = lay (m' ((c.tc : Thread Cert.Reference.nD Cert.Reference.τ).loc Cert.Reference.main_arg0)) := rfl
  rw [e, e', h]

theorem outF_congr (i : Cert.Kernel.grid0.Coords) {a2 b2 : Vec Bits Cert.Kernel.S8x256x64 .bf16} {a3 b3 : Vec Bits Cert.Kernel.S4x256x64 .bf16}
    {a4 b4 : Vec Bits Cert.Kernel.S256x128 .f32} {a5 b5 : Vec Bits Cert.Kernel.S1x1x4096x64 .bf16}
    {a6 b6 : Vec Bits Cert.Kernel.S1x8x4096x64 .bf16} {a7 b7 : Vec Bits Cert.Kernel.S1x512x4096 .bf16}
    (h2 : a2 = b2) (h3 : a3 = b3) (h4 : a4 = b4) (h5 : a5 = b5) (h6 : a6 = b6) (h7 : a7 = b7) :
    outF i a2 a3 a4 a5 a6 a7 = outF i b2 b3 b4 b5 b6 b7 := by
  subst h2 h3 h4 h5 h6 h7; rfl

/-- The two programs leave the same output block at every point. -/
theorem blocks (t : Fin 32)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3)) :
    Reference.out m' c t = Kernel.out m c t := by
  have p := packed m m' c h0
  have q1 := (Cert.Reference.Gen.V_main_arg1 m' c).trans (h1.trans (Cert.Kernel.Gen.V_main_arg1 m c).symm)
  have q2 := (Cert.Reference.Gen.V_main_arg2 m' c).trans (h2.trans (Cert.Kernel.Gen.V_main_arg2 m c).symm)
  have q3 := (Cert.Reference.Gen.V_main_arg3 m' c).trans (h3.trans (Cert.Kernel.Gen.V_main_arg3 m c).symm)
  have b0 : Cert.Reference.Gen.X0_0 m' c t = Cert.Kernel.Gen.X0_0 m c t :=
    congrArg (fun A => (Cert.Kernel.cfg0.win 0).fill (Cert.Kernel.cfg0.grid.coords t) Cert.Kernel.Gen.dflt0_0
      (((Cert.Kernel.cfg0.win 0).blk t).view.read (Elt Bits) A)) p
  have b1 : Cert.Reference.Gen.iblk m' c 1 t = Cert.Kernel.Gen.iblk m c 1 t :=
    congrArg (fun A => ((Cert.Kernel.cfg0.win 1).blk t).view.read (Elt Bits) A) p
  have b2 : Cert.Reference.Gen.iblk m' c 2 t = Cert.Kernel.Gen.iblk m c 2 t :=
    congrArg (fun A => ((Cert.Kernel.cfg0.win 2).blk t).view.read (Elt Bits) A) q1
  have b3 : Cert.Reference.Gen.iblk m' c 3 t = Cert.Kernel.Gen.iblk m c 3 t :=
    congrArg (fun A => ((Cert.Kernel.cfg0.win 3).blk t).view.read (Elt Bits) A) q2
  have b4 : Cert.Reference.Gen.X0_4 m' c t = Cert.Kernel.Gen.X0_4 m c t :=
    congrArg (fun A => (Cert.Kernel.cfg0.win 4).fill (Cert.Kernel.cfg0.grid.coords t) Cert.Kernel.Gen.dflt0_4
      (((Cert.Kernel.cfg0.win 4).blk t).view.read (Elt Bits) A)) q2
  have b5 : Cert.Reference.Gen.iblk m' c 5 t = Cert.Kernel.Gen.iblk m c 5 t :=
    congrArg (fun A => ((Cert.Kernel.cfg0.win 5).blk t).view.read (Elt Bits) A) q3
  exact outF_congr (Cert.Kernel.grid0.coords t) b0 b1 b2 b3 b4 b5

end

end Cert.Proof

end
-- ==== Proof.Merge.lean ====
/-
  The gated merge of the four branches: `∑ b, sigmoid (h @ w_gate b) · (o b @ w_branch b)`, on blocks of 1024 rows and 512
  columns against the same over whole arrays. Both programs are read at one element of the result as four products of a gate
  and a projection. The kernel cuts the gates' weights out of the transposed weight, the reference out of the weight itself;
  the reference's branch axis is a stack of four arrays.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Proof.Merge

open Idealize.ShloMosaic Idealize.ShloMosaic.TcCoe Idealize.SL.Sem
open Idealize.ShloMosaic.Pointwise

section Kernel

open Cert.Kernel2Ideal Cert.Kernel2Ideal.Gen

variable (m : (ℓ : Loc nD τ sig) → Buf (Elt Ideal) ℓ) (ρ : Dev nD → PrngReg)

/-- The word of the number one. -/
def one : EReal := Ideal.ofBits .f32 0x3F800000#32

/-- Branch `b`'s share of an element: the gate times the projection. -/
def part (h : S8192x2048.Idx → EReal) (o : S8192x512.Idx → EReal) (wb : S4x512x2048.Idx → EReal) (w : S2048x13924.Idx → EReal)
    (b : Fin 4) (r : Fin 8192) (d : Fin 2048) : EReal :=
  Ideal.div one (one + Ideal.exp (-∑ k : Fin 2048, h (ix2 r k) * w (ix2 k ⟨5732 + (b.val * 2048 + d.val), by omega⟩)))
    * ∑ k : Fin 512, o (ix2 r k) * wb (ix3 b k d)

/-- The result, element by element. -/
def G (h : S8192x2048.Idx → EReal) (o₀ o₁ o₂ o₃ : S8192x512.Idx → EReal) (wb : S4x512x2048.Idx → EReal)
    (w : S2048x13924.Idx → EReal) (i : S8192x2048.Idx) : EReal :=
  part h o₀ wb w 0 (i 0) (i 1) + part h o₁ wb w 1 (i 0) (i 1) + part h o₂ wb w 2 (i 0) (i 1) + part h o₃ wb w 3 (i 0) (i 1)

theorem idx : ∀ t : Fin cfg0.N, win0_0.index t = ![t.val / 4, 0]
    ∧ (win0_1.index t = ![t.val / 4, 0] ∧ win0_2.index t = ![t.val / 4, 0] ∧ win0_3.index t = ![t.val / 4, 0]
      ∧ win0_4.index t = ![t.val / 4, 0])
    ∧ win0_5.index t = ![0, 0, t.val % 4]
    ∧ (win0_6.index t = ![t.val % 4, 0] ∧ win0_7.index t = ![4 + t.val % 4, 0] ∧ win0_8.index t = ![8 + t.val % 4, 0]
      ∧ win0_9.index t = ![12 + t.val % 4, 0])
    ∧ win0_10.index t = ![t.val / 4, t.val % 4] :=
  (by decide +kernel : ∀ t : Fin grid0.N, win0_0.index t = ![t.val / 4, 0]
    ∧ (win0_1.index t = ![t.val / 4, 0] ∧ win0_2.index t = ![t.val / 4, 0] ∧ win0_3.index t = ![t.val / 4, 0]
      ∧ win0_4.index t = ![t.val / 4, 0])
    ∧ win0_5.index t = ![0, 0, t.val % 4]
    ∧ (win0_6.index t = ![t.val % 4, 0] ∧ win0_7.index t = ![4 + t.val % 4, 0] ∧ win0_8.index t = ![8 + t.val % 4, 0]
      ∧ win0_9.index t = ![12 + t.val % 4, 0])
    ∧ win0_10.index t = ![t.val / 4, t.val % 4])

/-- The result array after the run. -/
theorem final (c : Dev nD) : (dats m 0 c).arrAt 10 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ (by decide +kernel) fun t hf y => ?_
  obtain ⟨h0, ⟨h1, h2, h3, h4⟩, h5, ⟨h6, h7, h8, h9⟩, h10⟩ := idx t
  have ht : t.val < 32 := t.isLt
  blk_simp
  rw [after0_10]
  frame_out
  pointwise [k0_pay1, k0_pay2, G, part, one]
  simp only [zero_sub]
  blk_point [iblk, V, h0, h1, h2, h3, h4, h5, h6, h7, h8, h9, h10]

end Kernel

section Reference

open Cert.Reference2Ideal Cert.Reference2Ideal.Gen

/-- The gates' product of the reference at an element. -/
theorem dot_at (h : FVec Ideal S8192x2048 .bf16) (w : FVec Ideal S2048x13924 .f32) (r : Fin 8192) (d : Fin 8192) :
    Host.dotGeneral dot_S8192x2048_S2048x8192_S8192x8192_1_0_0_1_n_n none (extf .f32 h bitsLt_bf16_f32)
        (extractStridedSlice S2048x8192 ![0, 5732] w slices_S2048x13924_S2048x8192_0_5732) (ix2 r d)
      = ∑ k : Fin 2048, h (ix2 r k) * w (ix2 k ⟨5732 + d.val, by omega⟩) := by
  pointwise

/-- Splitting the gates' columns by branch keeps the elements. -/
theorem split_at (v : FVec Ideal S8192x8192 .f32) (r : Fin 8192) (b : Fin 4) (d : Fin 2048) :
    shapeCast S8192x4x2048 v shapeCasts_S8192x8192_S8192x4x2048 (ix3 r b d)
      = v (ix2 r ⟨b.val * 2048 + d.val, by omega⟩) := by
  pointwise

/-- The sum over the branches. -/
theorem sum_at (v : FVec Ideal S8192x4x2048 .f32) (r : Fin 8192) (d : Fin 2048) :
    Host.reduceAdd v (constant S_ .f32 0x00000000#32) reducesTo_S8192x4x2048_S8192x2048_d1 h_S_ (ix2 r d)
      = ∑ b : Fin 4, v (ix3 r b d) := by
  pointwise

/-- The branches stacked along an axis of their own, as the reference builds them. -/
def stack (o₀ o₁ o₂ o₃ : FVec Ideal S8192x512 .bf16) : FVec Ideal S8192x4x512 .bf16 :=
  concatenate S8192x4x512 1
    [⟨S8192x1x512, (broadcastInDim S8192x1x512 ![0, 2] bcast_S8192x512_S8192x1x512_0_2 o₀ : FVec Ideal S8192x1x512 .bf16)⟩,
     ⟨S8192x1x512, (broadcastInDim S8192x1x512 ![0, 2] bcast_S8192x512_S8192x1x512_0_2 o₁ : FVec Ideal S8192x1x512 .bf16)⟩,
     ⟨S8192x1x512, (broadcastInDim S8192x1x512 ![0, 2] bcast_S8192x512_S8192x1x512_0_2 o₂ : FVec Ideal S8192x1x512 .bf16)⟩,
     ⟨S8192x1x512, (broadcastInDim S8192x1x512 ![0, 2] bcast_S8192x512_S8192x1x512_0_2 o₃ : FVec Ideal S8192x1x512 .bf16)⟩]
    concatenates_S8192x1x512_S8192x1x512_S8192x1x512_S8192x1x512_S8192x4x512_d1

/-- The stack at an element. -/
theorem stack_at (o₀ o₁ o₂ o₃ : FVec Ideal S8192x512 .bf16) (r : Fin 8192) (b : Fin 4) (k : Fin 512) :
    stack o₀ o₁ o₂ o₃ (ix3 r b k) = ![o₀, o₁, o₂, o₃] b (ix2 r k) := by
  fin_cases b <;> (unfold stack; pointwise) <;> rfl

/-- The projections of the reference at an element. -/
theorem proj_at (v : FVec Ideal S8192x4x512 .bf16) (wb : FVec Ideal S4x512x2048 .f32) (r : Fin 8192) (b : Fin 4) (d : Fin 2048) :
    transpose S8192x4x2048 [2, 0, 1] (Host.dotGeneral dot_S4x512x2048_S8192x4x512_S4x2048x8192_1_2_2_0_0_1 none wb
        (extf .f32 v bitsLt_bf16_f32)) transposes_S4x2048x8192_S8192x4x2048_2_0_1 (ix3 r b d)
      = ∑ k : Fin 512, v (ix3 r b k) * wb (ix3 b k d) := by
  pointwise
  exact Finset.sum_congr rfl fun k _ => mul_comm _ _

/-- The sigmoid of the reference at an element. -/
theorem gate_at (v : FVec Ideal S8192x4x2048 .f32) (r : Fin 8192) (b : Fin 4) (d : Fin 2048) :
    Host.divf (broadcastInDim S8192x4x2048 ![] bcast_S_S8192x4x2048 (constant S_ .f32 0x3F800000#32))
        (addf (broadcastInDim S8192x4x2048 ![] bcast_S_S8192x4x2048 (constant S_ .f32 0x3F800000#32))
          (Host.exp (Host.negf v))) (ix3 r b d)
      = Ideal.div one (one + Ideal.exp (-v (ix3 r b d))) := by
  pointwise [one]

end Reference

/-- Both programs compute that function. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [final]
    funext j
    idx_vars j
    rw [truncf_apply]
    refine (sum_at _ j0 j1).trans ?_
    rw [Fin.sum_univ_four]
    refine congrArg₂ _ (congrArg₂ _ (congrArg₂ _ ?_ ?_) ?_) ?_
    all_goals
      rw [mulf_apply]
      refine congrArg₂ _ ?_ ?_
      · refine (gate_at _ j0 _ j1).trans ?_
        refine congrArg (fun z => Ideal.div one (one + Ideal.exp (-z))) ?_
        exact (split_at _ j0 _ j1).trans (dot_at _ _ _ _)
      · refine (proj_at (stack _ _ _ _) _ j0 _ j1).trans ?_
        simp only [stack_at]
        obtain ⟨-, e1, e2, e3, e4, -⟩ := hagree c
        rw [e1, e2, e3, e4]
        rfl

end Cert.Proof.Merge

end
-- ==== Proof.Resid.lean ====
/-
  The residual product: `x + 0.5 · gate · (act @ w_out)` on row blocks of 512 against the same sum over whole arrays.
  Both programs are read at one element of the result: the row of `x`, the gate of the row's batch, and one sum over the
  contracted axis, which both sides take in the same order of factors.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Proof.Resid

open Idealize.ShloMosaic Idealize.ShloMosaic.TcCoe Idealize.SL.Sem
open Idealize.ShloMosaic.Pointwise

/-- The batch of a row. -/
def batch (r : Fin 8192) : Fin 2 := ⟨r.val / 4096, by omega⟩

section Kernel

open Cert.Kernel3Ideal Cert.Kernel3Ideal.Gen

variable (m : (ℓ : Loc nD τ sig) → Buf (Elt Ideal) ℓ) (ρ : Dev nD → PrngReg)

/-- The result, element by element. -/
def G (act : S8192x4096.Idx → EReal) (w : S4096x2048.Idx → EReal) (x : S8192x2048.Idx → EReal)
    (ada : S2x9x2048.Idx → EReal) (i : S8192x2048.Idx) : EReal :=
  x (ix2 (i 0) (i 1)) + (Ideal.ofBits .f32 0x3F000000#32 * ada (ix3 (batch (i 0)) 2 (i 1)))
    * ∑ k : Fin 4096, act (ix2 (i 0) k) * w (ix2 k (i 1))

theorem idx : ∀ t : Fin cfg0.N, win0_0.index t = ![t.val, 0] ∧ win0_1.index t = ![0, 0] ∧ win0_2.index t = ![t.val, 0]
    ∧ win0_3.index t = ![t.val / 8, 0, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val / 8, 0, 0] ∧ win0_4.index t = ![t.val, 0])

/-- The result array after the run. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨h0, h1, h2, h3, h4⟩ := idx t
  have ht : t.val < 16 := t.isLt
  blk_simp
  rw [after0_4]
  frame_out
  pointwise [k0_pay1, G, batch]
  blk_point [iblk, V, h0, h1, h2, h3, h4]

end Kernel

section Reference

open Cert.Reference3Ideal Cert.Reference3Ideal.Gen

/-- The whole product of the reference at an element. -/
theorem dot_at (act : FVec Ideal S8192x4096 .bf16) (w : FVec Ideal S4096x2048 .f32) (r : Fin 8192) (d : Fin 2048) :
    Host.dotGeneral dot_S8192x4096_S4096x2048_S8192x2048_1_0_0_1_n_n none (extf .f32 act bitsLt_bf16_f32) w (ix2 r d)
      = ∑ k : Fin 4096, act (ix2 r k) * w (ix2 k d) := by
  pointwise

/-- Splitting the rows by batch keeps the elements. -/
theorem split_at (v : FVec Ideal S8192x2048 .f32) (b : Fin 2) (q : Fin 4096) (d : Fin 2048) :
    shapeCast S2x4096x2048 v shapeCasts_S8192x2048_S2x4096x2048 (ix3 b q d)
      = v (ix2 ⟨b.val * 4096 + q.val, by omega⟩ d) := by
  pointwise

/-- The rows of the batches put behind one another. -/
theorem join_at (v : FVec Ideal S2x4096x2048 .f32) (r : Fin 8192) (d : Fin 2048) :
    shapeCast S8192x2048 v shapeCasts_S2x4096x2048_S8192x2048 (ix2 r d)
      = v (ix3 (batch r) ⟨r.val % 4096, by omega⟩ d) := by
  pointwise [batch]

/-- The gate of a batch, spread over its rows. -/
theorem gate_at (ada : FVec Ideal S2x9x2048 .f32) (b : Fin 2) (q : Fin 4096) (d : Fin 2048) :
    broadcastInDim S2x4096x2048 ![0, 1, 2] bcast_S2x1x2048_S2x4096x2048_0_1_2
      (mulf (broadcastInDim S2x1x2048 ![] bcast_S_S2x1x2048 (constant S_ .f32 0x3F000000#32))
        (broadcastInDim S2x1x2048 ![0, 2] bcast_S2x2048_S2x1x2048_0_2
          (shapeCast S2x2048 (extractStridedSlice S2x1x2048 ![0, 2, 0] ada slices_S2x9x2048_S2x1x2048_0_2_0)
            shapeCasts_S2x1x2048_S2x2048))) (ix3 b q d)
      = Ideal.ofBits .f32 0x3F000000#32 * ada (ix3 b 2 d) := by
  pointwise

end Reference

/-- Both programs compute that function. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [final]
    funext j
    idx_vars j
    have hr : (⟨(batch j0).val * 4096 + j0.val % 4096, by simp only [batch]; omega⟩ : Fin 8192) = j0 :=
      Fin.ext (by simp only [batch]; omega)
    refine (join_at _ j0 j1).trans ?_
    rw [addf_apply, mulf_apply]
    erw [gate_at, split_at, split_at, dot_at]
    rw [hr]
    rfl

end Cert.Proof.Resid

end
-- ==== Proof.Swiglu.lean ====
/-
  The feed-forward network's first half: the row norm, the modulation by the batch's scale and shift, and the gated linear
  unit, on blocks of 1024 rows and 512 columns against the same over whole arrays. The kernel makes the modulated rows of a
  row block once, at the first of its eight column blocks, and carries them; by induction over the grid's points what is
  carried is the modulated rows of the point's own row block.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Swiglu

open Idealize.ShloMosaic Idealize.ShloMosaic.TcCoe Idealize.SL.Sem
open Idealize.ShloMosaic.Pointwise

section Kernel

open Cert.Kernel4Ideal Cert.Kernel4Ideal.Gen

variable (m : (ℓ : Loc nD τ sig) → Buf (Elt Ideal) ℓ) (ρ : Dev nD → PrngReg)

/-- The word of the number one. -/
def one : EReal := Ideal.ofBits .f32 0x3F800000#32

/-- The batch of a row. -/
def batch (r : Fin 8192) : Fin 2 := ⟨r.val / 4096, by omega⟩

/-- A modulated row of the norm at an element. -/
def H (x : S8192x2048.Idx → EReal) (g : S2048.Idx → EReal) (ada : S2x9x2048.Idx → EReal) (r : Fin 8192) (d : Fin 2048) : EReal :=
  x (ix2 r d) * Ideal.rsqrt (Ideal.div (∑ k : Fin 2048, x (ix2 r k) * x (ix2 r k)) (Ideal.ofBits .f32 0x45000000#32)
      + Ideal.ofBits .f32 0x358637BD#32) * g (ix1 d) * (one + ada (ix3 (batch r) 1 d)) + ada (ix3 (batch r) 0 d)

/-- The gated unit of a row `h` at a column. -/
def unit (h : Fin 2048 → EReal) (w : S2048x8192.Idx → EReal) (d : Fin 4096) : EReal :=
  (∑ k : Fin 2048, h k * w (ix2 k ⟨d.val, by omega⟩))
    * Ideal.div one (one + Ideal.exp (-∑ k : Fin 2048, h k * w (ix2 k ⟨d.val, by omega⟩)))
    * ∑ k : Fin 2048, h k * w (ix2 k ⟨4096 + d.val, by omega⟩)

/-- The result, element by element. -/
def G (x : S8192x2048.Idx → EReal) (g : S2048.Idx → EReal) (ada : S2x9x2048.Idx → EReal) (w : S2048x8192.Idx → EReal)
    (i : S8192x4096.Idx) : EReal := unit (H x g ada (i 0)) w (i 1)

theorem idx : ∀ t : Fin cfg0.N, win0_0.index t = ![t.val / 8, 0] ∧ win0_1.index t = ![0, 0]
    ∧ win0_2.index t = ![t.val / 32, 0, 0] ∧ win0_3.index t = ![0, t.val % 8] ∧ win0_4.index t = ![0, 8 + t.val % 8]
    ∧ win0_5.index t = ![t.val / 8, t.val % 8] :=
  (by decide +kernel : ∀ t : Fin grid0.N, win0_0.index t = ![t.val / 8, 0] ∧ win0_1.index t = ![0, 0]
    ∧ win0_2.index t = ![t.val / 32, 0, 0] ∧ win0_3.index t = ![0, t.val % 8] ∧ win0_4.index t = ![0, 8 + t.val % 8]
    ∧ win0_5.index t = ![t.val / 8, t.val % 8])

/-- What a first column block's point makes of its blocks: the modulated rows of its row block. -/
theorem made (c : Dev nD) (t : Fin cfg0.N) (q : Fin 1024) (d : Fin 2048) :
    k0_pay1 (F := Ideal) (iblk m c 0 t) (iblk m c 1 t)
        (View.ld (iblk m c 2 t) (Rect.unit (s := S1x9x2048) ![0, 0, 0] ![1, 1, 2048] inb_S1x9x2048_S1x1x2048_0_0_0))
        (View.ld (iblk m c 2 t) (Rect.unit (s := S1x9x2048) ![0, 1, 0] ![1, 1, 2048] inb_S1x9x2048_S1x1x2048_0_1_0)) (ix2 q d)
      = H (m ((c : Thread nD τ).loc main_arg0)) (m ((c : Thread nD τ).loc main_arg1)) (m ((c : Thread nD τ).loc main_arg2))
          ⟨t.val / 8 * 1024 + q.val, by have : t.val < 64 := t.isLt; omega⟩ d := by
  obtain ⟨h0, h1, h2, h3, h4, h5⟩ := idx t
  have ht : t.val < 64 := t.isLt
  pointwise [k0_pay1, H, one, batch]
  blk_point [iblk, V, h0, h1, h2, h3, h4, h5]

/-- What the points carry: the modulated rows of the point's row block. -/
theorem held (c : Dev nD) (n : ℕ) (hn : n < cfg0.N) (q : Fin 1024) (d : Fin 2048) :
    (outsAt0 m c n hn).2 (ix2 q d)
      = H (m ((c : Thread nD τ).loc main_arg0)) (m ((c : Thread nD τ).loc main_arg1)) (m ((c : Thread nD τ).loc main_arg2))
          ⟨n / 8 * 1024 + q.val, by have : n < 64 := hn; omega⟩ d := by
  induction n with
  | zero =>
    rw [outsAt0_A m c ⟨0, hn⟩ rfl]
    frame_out
    exact made m c ⟨0, hn⟩ q d
  | succ n ih =>
    by_cases h : (n + 1) % 8 = 0
    · rw [outsAt0_A m c ⟨n + 1, hn⟩ h]
      frame_out
      exact made m c ⟨n + 1, hn⟩ q d
    · rw [outsAt0_B m c ⟨n + 1, hn⟩ h]
      refine (ih (Nat.lt_of_succ_lt hn)).trans ?_
      have e : n / 8 = (n + 1) / 8 := by omega
      simp only [e]

/-- The rows a point multiplies, made there or carried: the product's payload over them at an element. -/
theorem used (c : Dev nD) (t : Fin cfg0.N) (v : Vec Ideal S1024x2048 .bf16) (q : Fin 1024) (d : Fin 512)
    (hv : ∀ k, v (ix2 q k)
      = H (m ((c : Thread nD τ).loc main_arg0)) (m ((c : Thread nD τ).loc main_arg1)) (m ((c : Thread nD τ).loc main_arg2))
          ⟨t.val / 8 * 1024 + q.val, by have : t.val < 64 := t.isLt; omega⟩ k) :
    k0_pay2 (F := Ideal) v (iblk m c 3 t) (iblk m c 4 t) (ix2 q d)
      = unit (H (m ((c : Thread nD τ).loc main_arg0)) (m ((c : Thread nD τ).loc main_arg1)) (m ((c : Thread nD τ).loc main_arg2))
          ⟨t.val / 8 * 1024 + q.val, by have : t.val < 64 := t.isLt; omega⟩) (m ((c : Thread nD τ).loc main_arg3))
          ⟨t.val % 8 * 512 + d.val, by omega⟩ := by
  obtain ⟨h0, h1, h2, h3, h4, h5⟩ := idx t
  have ht : t.val < 64 := t.isLt
  pointwise [k0_pay2, unit, one]
  simp only [zero_sub, hv]
  generalize H (m ((c : Thread nD τ).loc main_arg0)) (m ((c : Thread nD τ).loc main_arg1)) (m ((c : Thread nD τ).loc main_arg2))
          ⟨t.val / 8 * 1024 + q.val, by omega⟩ = hr
  blk_point [iblk, V, h0, h1, h2, h3, h4, h5]

/-- The result array after the run. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have ht : t.val < 64 := t.isLt
  have e0 : (((cfg0.win 5).blk t).view.emb y) 0 = (⟨t.val / 8 * 1024 + (y 0).val, by have : (y 0).val < 1024 := (y 0).isLt; omega⟩ : Fin 8192) := by
    obtain ⟨h0, h1, h2, h3, h4, h5⟩ := idx t
    apply Fin.ext
    blk_simp [h5]
    try rfl
  have e1 : (((cfg0.win 5).blk t).view.emb y) 1 = (⟨t.val % 8 * 512 + (y 1).val, by have : (y 1).val < 512 := (y 1).isLt; omega⟩ : Fin 4096) := by
    obtain ⟨h0, h1, h2, h3, h4, h5⟩ := idx t
    apply Fin.ext
    blk_simp [h5]
    try rfl
  unfold G
  rw [e0, e1]
  blk_simp
  rw [after0_5]
  have hy : y = ix2 (y 0) (y 1) := funext fun a => by fin_cases a <;> rfl
  by_cases h : t.val % 8 = 0
  · rw [outsAt0_A m c t h]
    frame_out
    refine Eq.trans ?_ (used m c t _ (y 0) (y 1) fun k => made m c t (y 0) k)
    exact congrArg _ hy
  · rw [outsAt0_B m c t h]
    frame_out
    simp only [read_unread_whole]
    refine Eq.trans ?_ (used m c t (outsAt0 m c (t.val - 1) (Nat.lt_of_le_of_lt (Nat.sub_le _ _) t.isLt)).2 (y 0) (y 1)
      fun k => (held m c (t.val - 1) (Nat.lt_of_le_of_lt (Nat.sub_le _ _) t.isLt) (y 0) k).trans ?_)
    · exact congrArg _ hy
    · have e : (t.val - 1) / 8 = t.val / 8 := by omega
      simp only [e]

end Kernel

section Reference

open Cert.Reference4Ideal Cert.Reference4Ideal.Gen

/-- The rows of the batches put behind one another. -/
theorem join_at (v : FVec Ideal S2x4096x2048 .f32) (r : Fin 8192) (d : Fin 2048) :
    shapeCast S8192x2048 v shapeCasts_S2x4096x2048_S8192x2048 (ix2 r d)
      = v (ix3 (batch r) ⟨r.val % 4096, by omega⟩ d) := by
  pointwise [batch]

/-- Splitting the rows by batch keeps the elements. -/
theorem split_at (v : FVec Ideal S8192x2048 .f32) (b : Fin 2) (q : Fin 4096) (d : Fin 2048) :
    shapeCast S2x4096x2048 v shapeCasts_S8192x2048_S2x4096x2048 (ix3 b q d)
      = v (ix2 ⟨b.val * 4096 + q.val, by omega⟩ d) := by
  pointwise

/-- The modulated rows of the norm, as the reference builds them from the rows split by batch. -/
def rows (x : FVec Ideal S2x4096x2048 .f32) (g : FVec Ideal S2048 .f32) (ada : FVec Ideal S2x9x2048 .f32) :
    FVec Ideal S2x4096x2048 .f32 :=
  addf (mulf (mulf (mulf x (broadcastInDim S2x4096x2048 ![0, 1, 2] bcast_S2x4096x1_S2x4096x2048_0_1_2 (Host.rsqrt (addf
    (Host.divf (broadcastInDim S2x4096x1 ![0, 1] bcast_S2x4096_S2x4096x1_0_1 (Host.reduceAdd (mulf x x)
      (constant S_ .f32 0x00000000#32) reducesTo_S2x4096x2048_S2x4096_d2 h_S_))
      (broadcastInDim S2x4096x1 ![] bcast_S_S2x4096x1 (constant S_ .f32 0x45000000#32)))
    (broadcastInDim S2x4096x1 ![] bcast_S_S2x4096x1 (constant S_ .f32 0x358637BD#32))))))
    (broadcastInDim S2x4096x2048 ![0, 1, 2] bcast_S1x1x2048_S2x4096x2048_0_1_2
      (broadcastInDim S1x1x2048 ![2] bcast_S2048_S1x1x2048_2 g)))
    (broadcastInDim S2x4096x2048 ![0, 1, 2] bcast_S2x1x2048_S2x4096x2048_0_1_2
      (addf (broadcastInDim S2x1x2048 ![] bcast_S_S2x1x2048 (constant S_ .f32 0x3F800000#32))
        (broadcastInDim S2x1x2048 ![0, 2] bcast_S2x2048_S2x1x2048_0_2
          (shapeCast S2x2048 (extractStridedSlice S2x1x2048 ![0, 1, 0] ada slices_S2x9x2048_S2x1x2048_0_1_0)
            shapeCasts_S2x1x2048_S2x2048)))))
    (broadcastInDim S2x4096x2048 ![0, 1, 2] bcast_S2x1x2048_S2x4096x2048_0_1_2
      (broadcastInDim S2x1x2048 ![0, 2] bcast_S2x2048_S2x1x2048_0_2
        (shapeCast S2x2048 (extractStridedSlice S2x1x2048 ![0, 0, 0] ada slices_S2x9x2048_S2x1x2048_0_0_0)
          shapeCasts_S2x1x2048_S2x2048)))

/-- They at an element. -/
theorem rows_at (x : FVec Ideal S2x4096x2048 .f32) (g : FVec Ideal S2048 .f32) (ada : FVec Ideal S2x9x2048 .f32)
    (b : Fin 2) (q : Fin 4096) (d : Fin 2048) :
    rows x g ada (ix3 b q d)
      = x (ix3 b q d) * Ideal.rsqrt (Ideal.div (∑ k : Fin 2048, x (ix3 b q k) * x (ix3 b q k)) (Ideal.ofBits .f32 0x45000000#32)
          + Ideal.ofBits .f32 0x358637BD#32) * g (ix1 d) * (one + ada (ix3 b 1 d)) + ada (ix3 b 0 d) := by
  pointwise [rows, one]

/-- And over the rows not split, one behind another. -/
theorem rows_eq (x : FVec Ideal S8192x2048 .f32) (g : FVec Ideal S2048 .f32) (ada : FVec Ideal S2x9x2048 .f32)
    (r : Fin 8192) (d : Fin 2048) :
    shapeCast S8192x2048 (rows (shapeCast S2x4096x2048 x shapeCasts_S8192x2048_S2x4096x2048) g ada)
      shapeCasts_S2x4096x2048_S8192x2048 (ix2 r d) = H x g ada r d := by
  have hr : (⟨(batch r).val * 4096 + r.val % 4096, by simp only [batch]; omega⟩ : Fin 8192) = r :=
    Fin.ext (by simp only [batch]; omega)
  rw [join_at, rows_at]
  simp only [split_at, hr]
  rfl

/-- The two halves of the reference's product, at an element, of any rows. -/
theorem unit_at (v : FVec Ideal S8192x2048 .f32) (w : FVec Ideal S2048x8192 .f32) (r : Fin 8192) (d : Fin 4096) :
    truncf .bf16 (mulf (mulf
      (extractStridedSlice S8192x4096 ![0, 0] (Host.dotGeneral dot_S8192x2048_S2048x8192_S8192x8192_1_0_0_1_n_n none v w)
        slices_S8192x8192_S8192x4096_0_0)
      (Host.divf (broadcastInDim S8192x4096 ![] bcast_S_S8192x4096 (constant S_ .f32 0x3F800000#32))
        (addf (broadcastInDim S8192x4096 ![] bcast_S_S8192x4096 (constant S_ .f32 0x3F800000#32))
          (Host.exp (Host.negf (extractStridedSlice S8192x4096 ![0, 0]
            (Host.dotGeneral dot_S8192x2048_S2048x8192_S8192x8192_1_0_0_1_n_n none v w) slices_S8192x8192_S8192x4096_0_0))))))
      (extractStridedSlice S8192x4096 ![0, 4096] (Host.dotGeneral dot_S8192x2048_S2048x8192_S8192x8192_1_0_0_1_n_n none v w)
        slices_S8192x8192_S8192x4096_0_4096)) bitsLt_bf16_f32 (ix2 r d)
      = unit (fun k => v (ix2 r k)) w d := by
  pointwise [unit, one]

end Reference

/-- Both programs compute that function. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [final]
    funext j
    idx_vars j
    obtain ⟨e0, e1, e2, e3⟩ := hagree c
    unfold Cert.Reference4Ideal.Value.res_main_v32
    simp only [e0, e1, e2, e3]
    refine (unit_at (shapeCast _ (rows (shapeCast _ _ _) _ _) _) _ j0 j1).trans ?_
    simp only [rows_eq]
    rfl

end Cert.Proof.Swiglu

end
-- ==== Proof.Queries.lean ====
/-
  The rotated queries: the normed rows times the queries' columns, each lane turned with the lane half a head away by the angle of
  its position, on blocks of 512 rows with rolls and a select, against whole arrays by heads and halves.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Proof.Queries

open Idealize.ShloMosaic Idealize.ShloMosaic.TcCoe Idealize.SL.Sem
open Idealize.ShloMosaic.Pointwise

section Kernel

open Cert.Kernel6Ideal Cert.Kernel6Ideal.Gen

variable (m : (ℓ : Loc nD τ sig) → Buf (Elt Ideal) ℓ) (ρ : Dev nD → PrngReg)

/-- The lane a rotation pairs a lane with: 32 further or 32 back within its group of 64. -/
def partner (d : Fin 1280) : Fin 1280 :=
  if h : d.val % 64 < 32 then ⟨d.val + 32, by omega⟩ else ⟨d.val - 32, by omega⟩

/-- A row of 128 repeated ten times. -/
theorem tile (f : Fin 128 → EReal) (d : Fin 1280) :
    (if h : d.val < 128 then f ⟨d.val, h⟩
     else if h : d.val - 128 < 128 then f ⟨d.val - 128, h⟩
     else if h : d.val - 128 - 128 < 128 then f ⟨d.val - 128 - 128, h⟩
     else if h : d.val - 128 - 128 - 128 < 128 then f ⟨d.val - 128 - 128 - 128, h⟩
     else if h : d.val - 128 - 128 - 128 - 128 < 128 then f ⟨d.val - 128 - 128 - 128 - 128, h⟩
     else if h : d.val - 128 - 128 - 128 - 128 - 128 < 128 then f ⟨d.val - 128 - 128 - 128 - 128 - 128, h⟩
     else if h : d.val - 128 - 128 - 128 - 128 - 128 - 128 < 128 then f ⟨d.val - 128 - 128 - 128 - 128 - 128 - 128, h⟩
     else if h : d.val - 128 - 128 - 128 - 128 - 128 - 128 - 128 < 128 then f ⟨d.val - 128 - 128 - 128 - 128 - 128 - 128 - 128, h⟩
     else if h : d.val - 128 - 128 - 128 - 128 - 128 - 128 - 128 - 128 < 128 then f ⟨d.val - 128 - 128 - 128 - 128 - 128 - 128 - 128 - 128, h⟩
     else f ⟨d.val - 128 - 128 - 128 - 128 - 128 - 128 - 128 - 128 - 128, by omega⟩) = f ⟨d.val % 128, by omega⟩ := by
  split_ifs <;> exact congrArg f (Fin.ext (by first | omega | (dsimp only; omega)))

/-- Whether a lane is in the first half of its group of 64, in the kernel's words. -/
def low (d : ℕ) : BitVec 1 :=
  have n := Scalar.select (Scalar.cmpi CmpIPredicate.eq 64#32 0#32) 1#32 64#32
  have q := IntOp.remsi ArithUnit.vector (BitVec.ofNat 32 d) n
  IntOp.cmpi CmpIPredicate.slt
    (Scalar.select (IntOp.andi (IntOp.xori (IntOp.cmpi CmpIPredicate.slt q 0#32) (Scalar.cmpi CmpIPredicate.slt n 0#32))
      (IntOp.cmpi CmpIPredicate.ne q 0#32)) (IntOp.addi q n) q) 32#32

theorem low_eq : ∀ d : Fin 1280, low d.val = if d.val % 64 < 32 then 1#1 else 0#1 := by
  decide +kernel

/-- One block's payload at an element. -/
theorem pay_at (v0 : Vec Ideal S512x2048 .bf16) (v1 : Vec Ideal S1280x2048 .bf16) (v4 v7 : Vec Ideal S512x128 .f32) (p : Fin 512) (d : Fin 1280) :
    k0_pay1 v0 v1 v4 v7 (ix2 p d) = (∑ k : Fin 2048, v0 (ix2 p k) * v1 (ix2 d k)) * v4 (ix2 p ⟨d.val % 128, by omega⟩)
      + (∑ k : Fin 2048, v0 (ix2 p k) * v1 (ix2 (partner d) k)) * v7 (ix2 p ⟨d.val % 128, by omega⟩) := by
  pointwise [k0_pay1]
  refine congrArg₂ (· + ·) (congrArg (_ * ·) (tile (fun l => v4 (ix2 p l)) d)) (congrArg₂ (· * ·) ?_ (tile (fun l => v7 (ix2 p l)) d))
  change Scalar.select (low d.val) _ _ = _
  rw [low_eq]
  unfold partner
  split_ifs with h
  · refine Eq.trans (b := ∑ x, v0 (ix2 p x) * v1 (ix2 ⟨(d.val + 1280 - 1248) % 1280, by omega⟩ x)) rfl ?_
    exact Finset.sum_congr rfl fun k _ => congrArg (fun e => v0 (ix2 p k) * v1 (ix2 e k)) (Fin.ext (by first | omega | (dsimp only; omega)))
  · refine Eq.trans (b := ∑ x, v0 (ix2 p x) * v1 (ix2 ⟨(d.val + 1280 - 32) % 1280, by omega⟩ x)) rfl ?_
    exact Finset.sum_congr rfl fun k _ => congrArg (fun e => v0 (ix2 p k) * v1 (ix2 e k)) (Fin.ext (by first | omega | (dsimp only; omega)))

/-- The result, element by element, over the prepared weights and tables. -/
def G (h : S8192x2048.Idx → EReal) (wt : S1280x2048.Idx → EReal) (ct st : S4096x128.Idx → EReal) (i : S8192x1280.Idx) : EReal :=
  (∑ k : Fin 2048, h (ix2 (i 0) k) * wt (ix2 (i 1) k)) * ct (ix2 ⟨(i 0).val % 4096, Nat.mod_lt _ (by decide)⟩ ⟨(i 1).val % 128, Nat.mod_lt _ (by decide)⟩)
    + (∑ k : Fin 2048, h (ix2 (i 0) k) * wt (ix2 (partner (i 1)) k))
      * st (ix2 ⟨(i 0).val % 4096, Nat.mod_lt _ (by decide)⟩ ⟨(i 1).val % 128, Nat.mod_lt _ (by decide)⟩)

theorem idx : ∀ t : Fin cfg0.N, win0_0.index t = ![t.val, 0] ∧ win0_1.index t = ![0, 0]
    ∧ win0_2.index t = ![t.val % 8, 0] ∧ win0_3.index t = ![t.val % 8, 0] ∧ win0_4.index t = ![t.val, 0] :=
  (by decide +kernel : ∀ t : Fin grid0.N, win0_0.index t = ![t.val, 0] ∧ win0_1.index t = ![0, 0]
    ∧ win0_2.index t = ![t.val % 8, 0] ∧ win0_3.index t = ![t.val % 8, 0] ∧ win0_4.index t = ![t.val, 0])

/-- The result array after the run. -/
theorem final (c : Dev nD) : (dats m 0 c).arrAt 4 cfg0.N = G (V m c main_arg0) (V m c main_v5) (V m c main_v23) (V m c main_v26) := by
  refine (dats m 0 c).arrAt_eq_of_covers 4 _ (by decide +kernel) fun t hf y => ?_
  obtain ⟨h0, h1, h2, h3, h4⟩ := idx t
  have ht : t.val < 16 := t.isLt
  blk_simp
  rw [after0_4]
  frame_out
  idx_vars y
  have e : ((cfg0.win 4).blk t).view.emb (ix2 y0 y1) 1 = y1 := Fin.ext (by blk_simp [h4])
  rw [pay_at]
  pointwise [G]
  blk_point [iblk, h0, h1, h2, h3, h4]
  exact congrArg (fun e => (partner e).val) e.symm

/-- The weights as the host prepares them: transposed, cut and put side by side. -/
def prepared (w : FVec Ideal S2048x13924 .f32) : FVec Ideal S1280x2048 .bf16 :=
  have wt := transpose S13924x2048 [1, 0] w transposes_S2048x13924_S13924x2048_1_0
  truncf .bf16 (concatenate S1280x2048 0
    [⟨S512x2048, (extractStridedSlice S512x2048 ![512, 0] wt slices_S13924x2048_S512x2048_512_0 : FVec Ideal S512x2048 .f32)⟩,
     ⟨S512x2048, (extractStridedSlice S512x2048 ![2372, 0] wt slices_S13924x2048_S512x2048_2372_0 : FVec Ideal S512x2048 .f32)⟩,
     ⟨S256x2048, (extractStridedSlice S256x2048 ![2048, 0] wt slices_S13924x2048_S256x2048_2048_0 : FVec Ideal S256x2048 .f32)⟩]
    concatenates_S512x2048_S512x2048_S256x2048_S1280x2048_d0) bitsLt_bf16_f32

/-- The angles: the position times the inverse frequency. -/
def angle : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The table of cosines as the host lays it out: one per lane of two groups of 64. -/
def cosines (x : FVec Ideal S4096x32 .f32) : FVec Ideal S4096x128 .f32 :=
  concatenate S4096x128 1 [⟨S4096x32, x⟩, ⟨S4096x32, x⟩, ⟨S4096x32, x⟩, ⟨S4096x32, x⟩]
    concatenates_S4096x32_S4096x32_S4096x32_S4096x32_S4096x128_d1

/-- The table of signed sines. -/
def sines (x : FVec Ideal S4096x32 .f32) : FVec Ideal S4096x128 .f32 :=
  concatenate S4096x128 1 [⟨S4096x32, (Host.negf x : FVec Ideal S4096x32 .f32)⟩, ⟨S4096x32, x⟩, ⟨S4096x32, (Host.negf x : FVec Ideal S4096x32 .f32)⟩, ⟨S4096x32, x⟩]
    concatenates_S4096x32_S4096x32_S4096x32_S4096x32_S4096x128_d1

theorem V_prepared (c : Dev nD) : V m c main_v5 = prepared (m ((c : Thread nD τ).loc main_arg1)) := by
  unfold V
  after_results <;> rfl

theorem V_cosines (c : Dev nD) : V m c main_v23 = cosines (Host.cos angle) := by
  unfold V
  after_results <;> rfl

theorem V_sines (c : Dev nD) : V m c main_v26 = sines (Host.sin angle) := by
  unfold V
  after_results <;> rfl

/-- The columns of the queries, of the mixers B and C and of the indexer. -/
def col (w : Fin 13924 → EReal) (d : Fin 1280) : EReal :=
  if h₀ : d.val < 512 then w ⟨512 + d.val, by omega⟩
  else if h₁ : d.val - 512 < 512 then w ⟨2372 + (d.val - 512), by omega⟩
  else w ⟨2048 + (d.val - 512 - 512), by omega⟩

theorem prepared_at (w : FVec Ideal S2048x13924 .f32) (d : Fin 1280) (k : Fin 2048) :
    prepared w (ix2 d k) = col (fun d => w (ix2 k d)) d := by
  pointwise [prepared, col]

/-- Four pieces of 32 lanes, two by turns. -/
theorem quarters (f g : Fin 32 → EReal) (e : ℕ) (he : e < 128) :
    (if h : e < 32 then f ⟨e, h⟩ else if h : e - 32 < 32 then g ⟨e - 32, h⟩ else if h : e - 32 - 32 < 32 then f ⟨e - 32 - 32, h⟩
      else g ⟨e - 32 - 32 - 32, by omega⟩)
      = if e % 64 < 32 then f ⟨e % 32, by omega⟩ else g ⟨e % 32, by omega⟩ := by
  have hf : ∀ n (h : n < 32), n = e % 32 → f ⟨n, h⟩ = f ⟨e % 32, by omega⟩ := fun n h e => by subst e; rfl
  have hg : ∀ n (h : n < 32), n = e % 32 → g ⟨n, h⟩ = g ⟨e % 32, by omega⟩ := fun n h e => by subst e; rfl
  split_ifs <;> first | omega | exact hf _ _ (by omega) | exact hg _ _ (by omega)

theorem cosines_at (x : FVec Ideal S4096x32 .f32) (s : Fin 4096) (d : Fin 1280) :
    cosines x (ix2 s ⟨d.val % 128, by omega⟩) = x (ix2 s ⟨d.val % 32, by omega⟩) := by
  pointwise [cosines]
  refine (quarters (fun l => x (ix2 s l)) (fun l => x (ix2 s l)) (d.val % 128) (by omega)).trans ?_
  rw [ite_self]
  exact congrArg (fun l => x (ix2 s l)) (Fin.ext (Nat.mod_mod_of_dvd _ (by decide)))

theorem sines_at (x : FVec Ideal S4096x32 .f32) (s : Fin 4096) (d : Fin 1280) :
    sines x (ix2 s ⟨d.val % 128, by omega⟩)
      = if d.val % 64 < 32 then -x (ix2 s ⟨d.val % 32, by omega⟩) else x (ix2 s ⟨d.val % 32, by omega⟩) := by
  pointwise [sines]
  refine (quarters (fun l => -x (ix2 s l)) (fun l => x (ix2 s l)) (d.val % 128) (by omega)).trans ?_
  have e₁ : (⟨d.val % 128 % 32, by omega⟩ : Fin 32) = ⟨d.val % 32, by omega⟩ := Fin.ext (Nat.mod_mod_of_dvd _ (by decide))
  have e₂ : d.val % 128 % 64 = d.val % 64 := Nat.mod_mod_of_dvd _ (by decide)
  rw [e₁, e₂]

end Kernel

section Reference

open Cert.Reference6Ideal Cert.Reference6Ideal.Gen

/-- The whole product of the reference at an element. -/
theorem dot_at (h : FVec Ideal S8192x2048 .bf16) (w : FVec Ideal S2048x13924 .f32) (r : Fin 8192) (d : Fin 13924) :
    Host.dotGeneral dot_S8192x2048_S2048x13924_S8192x13924_1_0_0_1_n_n none (extf .f32 h bitsLt_bf16_f32) w (ix2 r d)
      = ∑ k : Fin 2048, h (ix2 r k) * w (ix2 k d) := by
  pointwise

/-- The queries before their rotation, by heads. -/
def heads (z : FVec Ideal S8192x13924 .f32) : FVec Ideal S2x4096x20x64 .f32 :=
  have y : FVec Ideal S2x4096x13924 .f32 := shapeCast _ z shapeCasts_S8192x13924_S2x4096x13924
  shapeCast _ (concatenate S2x4096x1280 2
    [⟨S2x4096x512, (extractStridedSlice S2x4096x512 ![0, 0, 512] y slices_S2x4096x13924_S2x4096x512_0_0_512 : FVec Ideal S2x4096x512 .f32)⟩,
     ⟨S2x4096x512, (extractStridedSlice S2x4096x512 ![0, 0, 2372] y slices_S2x4096x13924_S2x4096x512_0_0_2372 : FVec Ideal S2x4096x512 .f32)⟩,
     ⟨S2x4096x256, (extractStridedSlice S2x4096x256 ![0, 0, 2048] y slices_S2x4096x13924_S2x4096x256_0_0_2048 : FVec Ideal S2x4096x256 .f32)⟩]
    concatenates_S2x4096x512_S2x4096x512_S2x4096x256_S2x4096x1280_d2) shapeCasts_S2x4096x1280_S2x4096x20x64

theorem heads_at (z : FVec Ideal S8192x13924 .f32) (b : Fin 2) (s : Fin 4096) (n : Fin 20) (l : Fin 64) :
    heads z (ix4 b s n l) = col (fun d => z (ix2 ⟨b.val * 4096 + s.val, by omega⟩ d)) ⟨n.val * 64 + l.val, by omega⟩ := by
  pointwise [heads, col]

/-- A table over positions as the reference spreads it over batch and heads. -/
def spread (x : FVec Ideal S4096x32 .f32) : FVec Ideal S2x4096x20x32 .f32 :=
  broadcastInDim S2x4096x20x32 ![0, 1, 2, 3] bcast_S1x4096x1x32_S2x4096x20x32_0_1_2_3
    (broadcastInDim S1x4096x1x32 ![1, 2, 3] bcast_S4096x1x32_S1x4096x1x32_1_2_3 (shapeCast S4096x1x32 x shapeCasts_S4096x32_S4096x1x32))

/-- The rotation as the reference writes it. -/
def turn (x : FVec Ideal S2x4096x20x64 .f32) (cc ss : FVec Ideal S4096x32 .f32) : FVec Ideal S8192x1280 .bf16 :=
  have a : FVec Ideal S2x4096x20x32 .f32 := extractStridedSlice S2x4096x20x32 ![0, 0, 0, 0] x slices_S2x4096x20x64_S2x4096x20x32_0_0_0_0
  have b : FVec Ideal S2x4096x20x32 .f32 := extractStridedSlice S2x4096x20x32 ![0, 0, 0, 32] x slices_S2x4096x20x64_S2x4096x20x32_0_0_0_32
  truncf .bf16 (shapeCast S8192x1280 (concatenate S2x4096x20x64 3
    [⟨S2x4096x20x32, (subf (mulf a (spread cc)) (mulf b (spread ss)) : FVec Ideal S2x4096x20x32 .f32)⟩,
     ⟨S2x4096x20x32, (addf (mulf a (spread ss)) (mulf b (spread cc)) : FVec Ideal S2x4096x20x32 .f32)⟩]
    concatenates_S2x4096x20x32_S2x4096x20x32_S2x4096x20x64_d3) shapeCasts_S2x4096x20x64_S8192x1280) bitsLt_bf16_f32

theorem turn_at (x : FVec Ideal S2x4096x20x64 .f32) (cc ss : FVec Ideal S4096x32 .f32) (r : Fin 8192) (d : Fin 1280) :
    turn x cc ss (ix2 r d) = if h : d.val % 64 < 32 then
        x (ix4 ⟨r.val / 4096, by omega⟩ ⟨r.val % 4096, by omega⟩ ⟨d.val / 64, by omega⟩ ⟨d.val % 64, by omega⟩) * cc (ix2 ⟨r.val % 4096, by omega⟩ ⟨d.val % 64, h⟩)
          - x (ix4 ⟨r.val / 4096, by omega⟩ ⟨r.val % 4096, by omega⟩ ⟨d.val / 64, by omega⟩ ⟨32 + d.val % 64, by omega⟩) * ss (ix2 ⟨r.val % 4096, by omega⟩ ⟨d.val % 64, h⟩)
      else
        x (ix4 ⟨r.val / 4096, by omega⟩ ⟨r.val % 4096, by omega⟩ ⟨d.val / 64, by omega⟩ ⟨d.val % 64 - 32, by omega⟩) * ss (ix2 ⟨r.val % 4096, by omega⟩ ⟨d.val % 64 - 32, by omega⟩)
          + x (ix4 ⟨r.val / 4096, by omega⟩ ⟨r.val % 4096, by omega⟩ ⟨d.val / 64, by omega⟩ ⟨32 + (d.val % 64 - 32), by omega⟩) * cc (ix2 ⟨r.val % 4096, by omega⟩ ⟨d.val % 64 - 32, by omega⟩) := by
  pointwise [turn, spread]

/-- A product with the cut columns is the cut columns' product. -/
theorem col_sum (h : Fin 2048 → EReal) (w : Fin 2048 → Fin 13924 → EReal) (d : Fin 1280) :
    ∑ k, h k * col (w k) d = col (fun d => ∑ k, h k * w k d) d := by
  unfold col
  split_ifs <;> rfl

/-- The reference at an element: the rotation over the rows' products. -/
theorem reference_at (z : FVec Ideal S8192x13924 .f32) (cc ss : FVec Ideal S4096x32 .f32) (r : Fin 8192) (d : Fin 1280) :
    turn (heads z) cc ss (ix2 r d)
      = col (fun e => z (ix2 r e)) d * cc (ix2 ⟨r.val % 4096, by omega⟩ ⟨d.val % 32, by omega⟩)
        + col (fun e => z (ix2 r e)) (partner d) * (if d.val % 64 < 32 then -ss (ix2 ⟨r.val % 4096, by omega⟩ ⟨d.val % 32, by omega⟩)
            else ss (ix2 ⟨r.val % 4096, by omega⟩ ⟨d.val % 32, by omega⟩)) := by
  have hr : ∀ h : r.val / 4096 * 4096 + r.val % 4096 < 8192, (⟨r.val / 4096 * 4096 + r.val % 4096, h⟩ : Fin 8192) = r :=
    fun _ => Fin.ext (by dsimp only; omega)
  rw [turn_at]
  split_ifs with h
  · simp only [heads_at, hr]
    have e₀ : (⟨d.val / 64 * 64 + d.val % 64, by omega⟩ : Fin 1280) = d := Fin.ext (by dsimp only; omega)
    have e₁ : (⟨d.val / 64 * 64 + (32 + d.val % 64), by omega⟩ : Fin 1280) = partner d := Fin.ext (by rw [partner, dif_pos h]; dsimp only; omega)
    have e₂ : (⟨d.val % 64, h⟩ : Fin 32) = ⟨d.val % 32, by omega⟩ := Fin.ext (by dsimp only; omega)
    rw [e₀, e₁, e₂, sub_eq_add_neg, mul_neg]
  · simp only [heads_at, hr]
    have e₀ : (⟨d.val / 64 * 64 + (32 + (d.val % 64 - 32)), by omega⟩ : Fin 1280) = d := Fin.ext (by dsimp only; omega)
    have e₁ : (⟨d.val / 64 * 64 + (d.val % 64 - 32), by omega⟩ : Fin 1280) = partner d := Fin.ext (by rw [partner, dif_neg h]; dsimp only; omega)
    have e₂ : (⟨d.val % 64 - 32, by omega⟩ : Fin 32) = ⟨d.val % 32, by omega⟩ := Fin.ext (by dsimp only; omega)
    rw [e₀, e₁, e₂, add_comm]

end Reference

section Kernel

open Cert.Kernel6Ideal Cert.Kernel6Ideal.Gen

/-- The kernel's function over the weights and the tables as they are prepared. -/
theorem kernel_at (h : FVec Ideal S8192x2048 .bf16) (w : FVec Ideal S2048x13924 .f32) (cc ss : FVec Ideal S4096x32 .f32) (r : Fin 8192) (d : Fin 1280) :
    G h (prepared w) (cosines cc) (sines ss) (ix2 r d)
      = col (fun e => ∑ k : Fin 2048, h (ix2 r k) * w (ix2 k e)) d * cc (ix2 ⟨r.val % 4096, by omega⟩ ⟨d.val % 32, by omega⟩)
        + col (fun e => ∑ k : Fin 2048, h (ix2 r k) * w (ix2 k e)) (partner d) * (if d.val % 64 < 32 then -ss (ix2 ⟨r.val % 4096, by omega⟩ ⟨d.val % 32, by omega⟩)
            else ss (ix2 ⟨r.val % 4096, by omega⟩ ⟨d.val % 32, by omega⟩)) := by
  have e : ∀ d : Fin 1280, ∑ k : Fin 2048, h (ix2 r k) * prepared w (ix2 d k) = col (fun e => ∑ k : Fin 2048, h (ix2 r k) * w (ix2 k e)) d :=
    fun d => (Finset.sum_congr rfl fun k _ => congrArg _ (prepared_at w d k)).trans
      (col_sum (fun k => h (ix2 r k)) (fun k d => w (ix2 k d)) d)
  exact congrArg₂ (· + ·) (congrArg₂ (· * ·) (e d) (cosines_at cc _ d)) (congrArg₂ (· * ·) (e (partner d)) (sines_at ss _ d))

end Kernel

/-- Both programs compute that function. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    rw [final, Cert.Kernel6Ideal.Gen.V_main_arg0, V_prepared, V_cosines, V_sines]
    obtain ⟨e0, e1⟩ := hagree c
    unfold Cert.Reference6Ideal.Value.res_main_v43
    funext j
    idx_vars j
    refine (reference_at (Host.dotGeneral Cert.Reference6Ideal.dot_S8192x2048_S2048x13924_S8192x13924_1_0_0_1_n_n none
      (extf .f32 (m' ((c : Thread Cert.Reference6Ideal.nD Cert.Reference6Ideal.τ).loc Cert.Reference6Ideal.main_arg0)) Cert.Reference6Ideal.Gen.bitsLt_bf16_f32)
      (m' ((c : Thread Cert.Reference6Ideal.nD Cert.Reference6Ideal.τ).loc Cert.Reference6Ideal.main_arg1))) (Host.cos angle) (Host.sin angle) j0 j1).trans ?_
    simp only [dot_at]
    rw [← e0, ← e1]
    exact (kernel_at _ _ _ _ j0 j1).symm

end Cert.Proof.Queries

end
-- ==== Proof.Rows.lean ====
/-
  The samples' keys and values: the normed rows times the columns of both mixers' keys and values, the keys' lanes turned by the
  angle of their position. The kernel turns every lane, the values' by a table of ones and zeros; the reference turns the keys alone,
  mixer by mixer.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Proof.Rows

open Idealize.ShloMosaic Idealize.ShloMosaic.TcCoe Idealize.SL.Sem
open Idealize.ShloMosaic.Pointwise

/-- What holds of both branches holds of the choice. -/
theorem either {α : Type} {p : Prop} [Decidable p] {a : p → α} {b : ¬p → α} {x : α} (ha : ∀ h, a h = x) (hb : ∀ h, b h = x) :
    dite p a b = x := by
  split
  · exact ha _
  · exact hb _

/-- The heads that are turned: the first mixer's keys, the indexer's key, the second mixer's keys. -/
def turned (g : ℕ) : Bool := g < 8 || (16 ≤ g && g < 29 && (g = 16 || (g - 17) % 4 < 2))

/-- One head turned by the angles' cosines and sines. -/
def rot (f : Fin 64 → EReal) (cc ss : Fin 32 → EReal) (l : Fin 64) : EReal :=
  if h : l.val < 32 then f l * cc ⟨l.val, h⟩ - f ⟨32 + l.val, by omega⟩ * ss ⟨l.val, h⟩
  else f ⟨l.val - 32, by omega⟩ * ss ⟨l.val - 32, by omega⟩ + f ⟨32 + (l.val - 32), by omega⟩ * cc ⟨l.val - 32, by omega⟩

/-- The columns of the keys and values. -/
def col (w : Fin 13924 → EReal) (d : Fin 1920) : EReal :=
  if h₀ : d.val < 1024 then w ⟨1024 + d.val, by omega⟩
  else if h₁ : d.val - 1024 < 64 then w ⟨2304 + (d.val - 1024), by omega⟩
  else if h₂ : d.val - 1024 - 64 < 768 then w ⟨2884 + (d.val - 1024 - 64), by omega⟩
  else 0

/-- A row of keys and values, the keys turned. -/
def row (z : Fin 1920 → EReal) (cc ss : Fin 32 → EReal) (d : Fin 1920) : EReal :=
  if turned (d.val / 64) then rot (fun l => z ⟨d.val / 64 * 64 + l.val, by omega⟩) cc ss ⟨d.val % 64, by omega⟩ else z d

/-- A product with the cut columns is the cut columns' product. -/
theorem col_sum (h : Fin 2048 → EReal) (w : Fin 2048 → Fin 13924 → EReal) (d : Fin 1920) :
    ∑ k, h k * col (w k) d = col (fun d => ∑ k, h k * w k d) d := by
  unfold col
  split_ifs <;> first | rfl | simp only [mul_zero, Finset.sum_const_zero]

section Kernel

open Cert.Kernel7Ideal Cert.Kernel7Ideal.Gen

variable (m : (ℓ : Loc nD τ sig) → Buf (Elt Ideal) ℓ) (ρ : Dev nD → PrngReg)

/-- The lane a rotation pairs a lane with: 32 further or 32 back within its group of 64. -/
def partner (d : Fin 1920) : Fin 1920 :=
  if h : d.val % 64 < 32 then ⟨d.val + 32, by omega⟩ else ⟨d.val - 32, by omega⟩

/-- Whether a lane is in the first half of its group of 64, in the kernel's words. -/
def low (d : ℕ) : BitVec 1 :=
  have n := Scalar.select (Scalar.cmpi CmpIPredicate.eq 64#32 0#32) 1#32 64#32
  have q := IntOp.remsi ArithUnit.vector (BitVec.ofNat 32 d) n
  IntOp.cmpi CmpIPredicate.slt
    (Scalar.select (IntOp.andi (IntOp.xori (IntOp.cmpi CmpIPredicate.slt q 0#32) (Scalar.cmpi CmpIPredicate.slt n 0#32))
      (IntOp.cmpi CmpIPredicate.ne q 0#32)) (IntOp.addi q n) q) 32#32

theorem low_eq : ∀ d : Fin 1920, low d.val = if d.val % 64 < 32 then 1#1 else 0#1 := by
  decide +kernel

/-- One block's payload at an element. -/
theorem pay_at (v0 : Vec Ideal S8x2048 .bf16) (v1 : Vec Ideal S1920x2048 .bf16) (v4 v7 : Vec Ideal S8x1920 .f32) (p : Fin 8) (d : Fin 1920) :
    k0_pay1 v0 v1 v4 v7 (ix2 p d) = (∑ k : Fin 2048, v0 (ix2 p k) * v1 (ix2 d k)) * v4 (ix2 p d)
      + (∑ k : Fin 2048, v0 (ix2 p k) * v1 (ix2 (partner d) k)) * v7 (ix2 p d) := by
  pointwise [k0_pay1]
  refine congrArg (_ + ·) (congrArg (· * _) ?_)
  change Scalar.select (low d.val) _ _ = _
  rw [low_eq]
  unfold partner
  split_ifs with h
  · refine Eq.trans (b := ∑ x, v0 (ix2 p x) * v1 (ix2 ⟨(d.val + 1920 - 1888) % 1920, by omega⟩ x)) rfl ?_
    exact Finset.sum_congr rfl fun k _ => congrArg (fun e => v0 (ix2 p k) * v1 (ix2 e k)) (Fin.ext (by first | rfl | omega | (dsimp only; omega)))
  · refine Eq.trans (b := ∑ x, v0 (ix2 p x) * v1 (ix2 ⟨(d.val + 1920 - 32) % 1920, by omega⟩ x)) rfl ?_
    exact Finset.sum_congr rfl fun k _ => congrArg (fun e => v0 (ix2 p k) * v1 (ix2 e k)) (Fin.ext (by first | rfl | omega | (dsimp only; omega)))

/-- The result, element by element, over the prepared weights and tables. -/
def G (h : S64x2048.Idx → EReal) (wt : S1920x2048.Idx → EReal) (ct st : S8x1920.Idx → EReal) (i : S64x1920.Idx) : EReal :=
  (∑ k : Fin 2048, h (ix2 (i 0) k) * wt (ix2 (i 1) k)) * ct (ix2 ⟨(i 0).val % 8, Nat.mod_lt _ (by decide)⟩ (i 1))
    + (∑ k : Fin 2048, h (ix2 (i 0) k) * wt (ix2 (partner (i 1)) k)) * st (ix2 ⟨(i 0).val % 8, Nat.mod_lt _ (by decide)⟩ (i 1))

theorem idx : ∀ t : Fin cfg0.N, win0_0.index t = ![t.val, 0] ∧ win0_1.index t = ![0, 0]
    ∧ win0_2.index t = ![0, 0] ∧ win0_3.index t = ![0, 0] ∧ win0_4.index t = ![t.val, 0] :=
  (by decide +kernel : ∀ t : Fin grid0.N, win0_0.index t = ![t.val, 0] ∧ win0_1.index t = ![0, 0]
    ∧ win0_2.index t = ![0, 0] ∧ win0_3.index t = ![0, 0] ∧ win0_4.index t = ![t.val, 0])

/-- The result array after the run. -/
theorem final (c : Dev nD) : (dats m 0 c).arrAt 4 cfg0.N = G (V m c main_arg0) (V m c main_v51) (V m c main_v23) (V m c main_v43) := by
  refine (dats m 0 c).arrAt_eq_of_covers 4 _ (by decide +kernel) fun t hf y => ?_
  obtain ⟨h0, h1, h2, h3, h4⟩ := idx t
  have ht : t.val < 8 := t.isLt
  blk_simp
  rw [after0_4]
  frame_out
  idx_vars y
  have e : ((cfg0.win 4).blk t).view.emb (ix2 y0 y1) 1 = y1 := Fin.ext (by blk_simp [h4])
  rw [pay_at]
  pointwise [G]
  blk_point [iblk, h0, h1, h2, h3, h4]
  exact congrArg (fun e => (partner e).val) e.symm

/-- The weights as the host prepares them: transposed, cut and put side by side, with 64 columns of zeros. -/
def prepared (w : FVec Ideal S2048x13924 .f32) : FVec Ideal S1920x2048 .bf16 :=
  have wt := transpose S13924x2048 [1, 0] w transposes_S2048x13924_S13924x2048_1_0
  concatenate S1920x2048 0
    [⟨S1856x2048, (truncf .bf16 (concatenate S1856x2048 0
      [⟨S1024x2048, (extractStridedSlice S1024x2048 ![1024, 0] wt slices_S13924x2048_S1024x2048_1024_0 : FVec Ideal S1024x2048 .f32)⟩,
       ⟨S64x2048, (extractStridedSlice S64x2048 ![2304, 0] wt slices_S13924x2048_S64x2048_2304_0 : FVec Ideal S64x2048 .f32)⟩,
       ⟨S768x2048, (extractStridedSlice S768x2048 ![2884, 0] wt slices_S13924x2048_S768x2048_2884_0 : FVec Ideal S768x2048 .f32)⟩]
      concatenates_S1024x2048_S64x2048_S768x2048_S1856x2048_d0) bitsLt_bf16_f32 : FVec Ideal S1856x2048 .bf16)⟩,
     ⟨S64x2048, (broadcastInDim S64x2048 ![] bcast_S_S64x2048 (constant S_ .bf16 0x0000#16) : FVec Ideal S64x2048 .bf16)⟩]
    concatenates_S1856x2048_S64x2048_S1920x2048_d0

/-- The angles: the position times the inverse frequency. -/
def angle : FVec Ideal S8x32 .f32 :=
  mulf (broadcastInDim S8x32 ![0, 1] bcast_S8x1_S8x32_0_1 (broadcastInDim S8x1 ![0] bcast_S8_S8x1_0
      (sitofp .f32 (addi (broadcastInDim S8 ![] bcast_S_S8 (constantI S_ 32 16384#32)) (iotaInDim S8 32 0)))))
    (broadcastInDim S8x32 ![0, 1] bcast_S1x32_S8x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Sixteen pieces of 32 lanes side by side. -/
def sixteen (f : Fin 16 → FVec Ideal S8x32 .f32) : FVec Ideal S8x512 .f32 :=
  concatenate S8x512 1 (List.ofFn fun n : Fin 16 => ⟨S8x32, f n⟩) concatenates_S8x32_S8x32_S8x32_S8x32_S8x32_S8x32_S8x32_S8x32_S8x32_S8x32_S8x32_S8x32_S8x32_S8x32_S8x32_S8x32_S8x512_d1

/-- Twelve pieces of 32 lanes side by side. -/
def twelve (f : Fin 12 → FVec Ideal S8x32 .f32) : FVec Ideal S8x384 .f32 :=
  concatenate S8x384 1 (List.ofFn fun n : Fin 12 => ⟨S8x32, f n⟩) concatenates_S8x32_S8x32_S8x32_S8x32_S8x32_S8x32_S8x32_S8x32_S8x32_S8x32_S8x32_S8x32_S8x384_d1

/-- Sixty pieces of 32 lanes side by side. -/
def pieces (f : ℕ → FVec Ideal S8x32 .f32) : FVec Ideal S8x1920 .f32 :=
  concatenate S8x1920 1 [⟨S8x512, sixteen fun n => f n.val⟩, ⟨S8x512, sixteen fun n => f (16 + n.val)⟩,
     ⟨S8x512, sixteen fun n => f (32 + n.val)⟩, ⟨S8x384, twelve fun n => f (48 + n.val)⟩]
    concatenates_S8x512_S8x512_S8x512_S8x384_S8x1920_d1

/-- The table of cosines as the host lays it out: one where nothing is turned. -/
def cosines (x : FVec Ideal S8x32 .f32) : FVec Ideal S8x1920 .f32 :=
  pieces fun n => bif turned (n / 2) then x else broadcastInDim S8x32 ![] bcast_S_S8x32 (constant S_ .f32 0x3F800000#32)

/-- The table of signed sines: zero where nothing is turned. -/
def sines (x : FVec Ideal S8x32 .f32) : FVec Ideal S8x1920 .f32 :=
  pieces fun n => bif turned (n / 2) then (bif n % 2 = 0 then Host.negf x else x) else broadcastInDim S8x32 ![] bcast_S_S8x32 (constant S_ .f32 0x00000000#32)

theorem V_prepared (c : Dev nD) : V m c main_v51 = prepared (m ((c : Thread nD τ).loc main_arg1)) := by
  unfold V
  after_results <;> rfl

theorem V_cosines (c : Dev nD) : V m c main_v23 = cosines (Host.cos angle) := by
  unfold V
  after_results <;> rfl

theorem V_sines (c : Dev nD) : V m c main_v43 = sines (Host.sin angle) := by
  unfold V
  after_results <;> rfl

theorem prepared_at (w : FVec Ideal S2048x13924 .f32) (d : Fin 1920) (k : Fin 2048) :
    prepared w (ix2 d k) = col (fun d => w (ix2 k d)) d := by
  pointwise [prepared, col]
  split_ifs <;> first | rfl | (exfalso; omega) | rw [dif_pos (by omega)]

theorem sixteen_at (f : Fin 16 → FVec Ideal S8x32 .f32) (s : Fin 8) (e : Fin 512) :
    sixteen f (ix2 s e) = f ⟨e.val / 32, by omega⟩ (ix2 s ⟨e.val % 32, by omega⟩) :=
  Idealize.ShloMosaic.concatenate_ofFn_apply (t := S8x512) (s₁ := S8x32) 1 f concatenates_S8x32_S8x32_S8x32_S8x32_S8x32_S8x32_S8x32_S8x32_S8x32_S8x32_S8x32_S8x32_S8x32_S8x32_S8x32_S8x32_S8x512_d1 rfl 32 rfl (ix2 s e) ⟨e.val / 32, by omega⟩ rfl
    (ix2 s ⟨e.val % 32, by omega⟩) rfl (fun b hb => by fin_cases b <;> first | rfl | exact absurd rfl hb)

theorem twelve_at (f : Fin 12 → FVec Ideal S8x32 .f32) (s : Fin 8) (e : Fin 384) :
    twelve f (ix2 s e) = f ⟨e.val / 32, by omega⟩ (ix2 s ⟨e.val % 32, by omega⟩) :=
  Idealize.ShloMosaic.concatenate_ofFn_apply (t := S8x384) (s₁ := S8x32) 1 f concatenates_S8x32_S8x32_S8x32_S8x32_S8x32_S8x32_S8x32_S8x32_S8x32_S8x32_S8x32_S8x32_S8x384_d1 rfl 32 rfl (ix2 s e) ⟨e.val / 32, by omega⟩ rfl
    (ix2 s ⟨e.val % 32, by omega⟩) rfl (fun b hb => by fin_cases b <;> first | rfl | exact absurd rfl hb)

theorem pieces_at (f : ℕ → FVec Ideal S8x32 .f32) (s : Fin 8) (d : Fin 1920) :
    pieces f (ix2 s d) = f (d.val / 32) (ix2 s ⟨d.val % 32, by omega⟩) := by
  have e : ∀ n l (hl : l < 32), n = d.val / 32 → l = d.val % 32 → f n (ix2 s ⟨l, hl⟩) = f (d.val / 32) (ix2 s ⟨d.val % 32, by omega⟩) :=
    fun n l hl hn hl' => by subst hn; subst hl'; rfl
  pointwise [pieces]
  refine either (fun h => ?_) fun h => either (fun h' => ?_) fun h' => either (fun h'' => ?_) fun h'' => ?_
  · exact (sixteen_at (fun n => f n.val) s ⟨d.val, h⟩).trans (e (d.val / 32) (d.val % 32) (by omega) (by omega) (by omega))
  · exact (sixteen_at (fun n => f (16 + n.val)) s ⟨d.val - 512, h'⟩).trans
      (e (16 + (d.val - 512) / 32) ((d.val - 512) % 32) (by omega) (by omega) (by omega))
  · exact (sixteen_at (fun n => f (32 + n.val)) s ⟨d.val - 512 - 512, h''⟩).trans
      (e (32 + (d.val - 512 - 512) / 32) ((d.val - 512 - 512) % 32) (by omega) (by omega) (by omega))
  · exact (twelve_at (fun n => f (48 + n.val)) s ⟨d.val - 512 - 512 - 512, by omega⟩).trans
      (e (48 + (d.val - 512 - 512 - 512) / 32) ((d.val - 512 - 512 - 512) % 32) (by omega) (by omega) (by omega))

/-- The kernel's function over the weights and the tables as they are prepared. -/
theorem kernel_at (h : FVec Ideal S64x2048 .bf16) (w : FVec Ideal S2048x13924 .f32) (cc ss : FVec Ideal S8x32 .f32) (r : Fin 64) (d : Fin 1920) :
    G h (prepared w) (cosines cc) (sines ss) (ix2 r d)
      = row (col fun e => ∑ k : Fin 2048, h (ix2 r k) * w (ix2 k e)) (fun l => cc (ix2 ⟨r.val % 8, by omega⟩ l))
          (fun l => ss (ix2 ⟨r.val % 8, by omega⟩ l)) d := by
  have e : ∀ d : Fin 1920, ∑ k : Fin 2048, h (ix2 r k) * prepared w (ix2 d k) = col (fun e => ∑ k : Fin 2048, h (ix2 r k) * w (ix2 k e)) d :=
    fun d => (Finset.sum_congr rfl fun k _ => congrArg _ (prepared_at w d k)).trans
      (col_sum (fun k => h (ix2 r k)) (fun k d => w (ix2 k d)) d)
  refine (congrArg₂ (· + ·) (congrArg₂ (· * ·) (e d) (pieces_at _ _ d)) (congrArg₂ (· * ·) (e (partner d)) (pieces_at _ _ d))).trans ?_
  generalize (col fun e => ∑ k : Fin 2048, h (ix2 r k) * w (ix2 k e)) = z
  have hg : d.val / 32 / 2 = d.val / 64 := by omega
  unfold row
  dsimp only
  rw [hg]
  cases turned (d.val / 64)
  · simp only [cond_false, Bool.false_eq_true, if_false]
    pointwise
    rw [mul_zero, add_zero]
  · have e₀ : (⟨d.val / 64 * 64 + d.val % 64, by omega⟩ : Fin 1920) = d := Fin.ext (by dsimp only; omega)
    simp only [cond_true, if_true, rot, e₀]
    unfold partner
    have e₁ : ∀ n m (hn : n < 1920) (hm : m < 1920), n = m → z ⟨n, hn⟩ = z ⟨m, hm⟩ := fun n m hn hm h => by subst h; rfl
    split_ifs with hl
    · have hd : d.val / 32 % 2 = 0 := by omega
      rw [decide_eq_true hd, cond_true, sub_eq_add_neg, ← mul_neg]
      exact congrArg₂ (· + ·) (congrArg (z d * ·) (congrArg (fun l => cc (ix2 _ l)) (Fin.ext (by dsimp only; omega))))
        (congrArg₂ (· * ·) (e₁ _ _ _ _ (by omega)) (congrArg (fun l => -ss (ix2 _ l)) (Fin.ext (by dsimp only; omega))))
    · have hd : ¬d.val / 32 % 2 = 0 := by omega
      have e₂ : (⟨d.val / 64 * 64 + (32 + (d.val % 64 - 32)), by omega⟩ : Fin 1920) = d := Fin.ext (by dsimp only; omega)
      rw [decide_eq_false hd, cond_false, add_comm, e₂]
      exact congrArg₂ (· + ·)
        (congrArg₂ (· * ·) (e₁ _ _ _ _ (by omega)) (congrArg (fun l => ss (ix2 _ l)) (Fin.ext (by dsimp only; omega))))
        (congrArg (z d * ·) (congrArg (fun l => cc (ix2 _ l)) (Fin.ext (by dsimp only; omega))))

end Kernel

section Heads

variable (w : Fin 13924 → EReal) (z : Fin 1920 → EReal) (cc ss : Fin 32 → EReal) (d : Fin 1920)

theorem col_first (e : Fin 13924) (h : d.val < 1024) (he : e.val = 1024 + d.val) : w e = col w d := by
  have h₀ : e = ⟨1024 + d.val, by omega⟩ := Fin.ext he
  rw [h₀]
  unfold col
  rw [dif_pos h]

theorem col_second (e : Fin 13924) (h : 1024 ≤ d.val) (h' : d.val < 1088) (he : e.val = 1280 + d.val) : w e = col w d := by
  have h₀ : e = ⟨2304 + (d.val - 1024), by omega⟩ := Fin.ext (by dsimp only; omega)
  rw [h₀]
  unfold col
  rw [dif_neg (by omega), dif_pos (by omega)]

theorem col_third (e : Fin 13924) (h : 1088 ≤ d.val) (h' : d.val < 1856) (he : e.val = 1796 + d.val) : w e = col w d := by
  have h₀ : e = ⟨2884 + (d.val - 1024 - 64), by omega⟩ := Fin.ext (by dsimp only; omega)
  rw [h₀]
  unfold col
  rw [dif_neg (by omega), dif_neg (by omega), dif_pos (by omega)]

theorem col_last (h : 1856 ≤ d.val) : 0 = col w d := by
  unfold col
  rw [dif_neg (by omega), dif_neg (by omega), dif_neg (by omega)]

/-- A turned head is the row's. -/
theorem row_rot (f : Fin 64 → EReal) (l : Fin 64) (ht : turned (d.val / 64) = true) (hl : l.val = d.val % 64)
    (hf : ∀ l : Fin 64, f l = z ⟨d.val / 64 * 64 + l.val, by omega⟩) : rot f cc ss l = row z cc ss d := by
  have e : f = fun l : Fin 64 => z ⟨d.val / 64 * 64 + l.val, by omega⟩ := funext hf
  have e' : l = ⟨d.val % 64, by omega⟩ := Fin.ext hl
  unfold row
  rw [if_pos ht]
  exact congrArg₂ (fun f l => rot f cc ss l) e e'

theorem turned_iff {g : ℕ} : turned g = true ↔ g < 8 ∨ 16 ≤ g ∧ g < 29 ∧ (g = 16 ∨ (g - 17) % 4 < 2) := by
  simp [turned, and_assoc]

/-- A head that isn't turned is the row's. -/
theorem row_plain (ht : ¬turned (d.val / 64) = true) : z d = row z cc ss d := by
  unfold row
  rw [if_neg ht]

end Heads

section Reference

open Cert.Reference7Ideal Cert.Reference7Ideal.Gen

variable (z : FVec Ideal S64x13924 .f32) (cc ss : FVec Ideal S8x32 .f32)

/-- The whole product of the reference at an element. -/
theorem dot_at (h : FVec Ideal S64x2048 .bf16) (w : FVec Ideal S2048x13924 .f32) (r : Fin 64) (d : Fin 13924) :
    Host.dotGeneral dot_S64x2048_S2048x13924_S64x13924_1_0_0_1_n_n none (extf .f32 h bitsLt_bf16_f32) w (ix2 r d)
      = ∑ k : Fin 2048, h (ix2 r k) * w (ix2 k d) := by
  pointwise

theorem same {a b : Fin 64} {c d : Fin 13924} (h : a.val = b.val) (h' : c.val = d.val) : z (ix2 a c) = z (ix2 b d) := by
  rw [Fin.ext h, Fin.ext h']

/-- The product by samples and steps. -/
def byStep : FVec Ideal S8x8x13924 .f32 := shapeCast _ z shapeCasts_S64x13924_S8x8x13924

/-- The first mixer's queries, keys and values. -/
def mixed : FVec Ideal S8x8x3x8x64 .f32 :=
  shapeCast _ (extractStridedSlice S8x8x1536 ![0, 0, 512] (byStep z) slices_S8x8x13924_S8x8x1536_0_0_512) shapeCasts_S8x8x1536_S8x8x3x8x64

def keys : FVec Ideal S8x8x8x64 .f32 :=
  shapeCast _ (extractStridedSlice S8x8x1x8x64 ![0, 0, 1, 0, 0] (mixed z) slices_S8x8x3x8x64_S8x8x1x8x64_0_0_1_0_0) shapeCasts_S8x8x1x8x64_S8x8x8x64

def values : FVec Ideal S8x8x8x64 .f32 :=
  shapeCast _ (extractStridedSlice S8x8x1x8x64 ![0, 0, 2, 0, 0] (mixed z) slices_S8x8x3x8x64_S8x8x1x8x64_0_0_2_0_0) shapeCasts_S8x8x1x8x64_S8x8x8x64

theorem keys_at (r : Fin 64) (n : Fin 8) (l : Fin 64) :
    keys z (ix4 ⟨r.val / 8, by omega⟩ ⟨r.val % 8, by omega⟩ n l) = z (ix2 r ⟨1024 + (n.val * 64 + l.val), by omega⟩) := by
  pointwise [keys, mixed, byStep]
  exact same z (by first | rfl | omega | (dsimp only; omega)) (by first | rfl | omega | (dsimp only; omega))

theorem values_at (r : Fin 64) (n : Fin 8) (l : Fin 64) :
    values z (ix4 ⟨r.val / 8, by omega⟩ ⟨r.val % 8, by omega⟩ n l) = z (ix2 r ⟨1536 + (n.val * 64 + l.val), by omega⟩) := by
  pointwise [values, mixed, byStep]
  exact same z (by first | rfl | omega | (dsimp only; omega)) (by first | rfl | omega | (dsimp only; omega))

/-- The indexer's key. -/
def index : FVec Ideal S8x8x64 .f32 := extractStridedSlice S8x8x64 ![0, 0, 2304] (byStep z) slices_S8x8x13924_S8x8x64_0_0_2304

theorem index_at (r : Fin 64) (l : Fin 64) :
    index z (ix3 ⟨r.val / 8, by omega⟩ ⟨r.val % 8, by omega⟩ l) = z (ix2 r ⟨2304 + l.val, by omega⟩) := by
  pointwise [index, byStep]

/-- The second mixer's keys and values, a pair each of its three branches. -/
def branches : FVec Ideal S8x8x6x2x64 .f32 :=
  shapeCast _ (extractStridedSlice S8x8x768 ![0, 0, 2884] (byStep z) slices_S8x8x13924_S8x8x768_0_0_2884) shapeCasts_S8x8x768_S8x8x6x2x64

def branchKeys : FVec Ideal S8x8x3x2x64 .f32 :=
  Host.slice S8x8x3x2x64 ![0, 0, 0, 0, 0] ![1, 1, 2, 1, 1] (branches z) slicesBy_S8x8x6x2x64_S8x8x3x2x64_0s1_0s1_0s2_0s1_0s1

def branchValues : FVec Ideal S8x8x3x2x64 .f32 :=
  Host.slice S8x8x3x2x64 ![0, 0, 1, 0, 0] ![1, 1, 2, 1, 1] (branches z) slicesBy_S8x8x6x2x64_S8x8x3x2x64_0s1_0s1_1s2_0s1_0s1

theorem branchKeys_at (r : Fin 64) (j : Fin 3) (n : Fin 2) (l : Fin 64) :
    branchKeys z (ix5 ⟨r.val / 8, by omega⟩ ⟨r.val % 8, by omega⟩ j n l) = z (ix2 r ⟨2884 + (j.val * 256 + n.val * 64 + l.val), by omega⟩) := by
  pointwise [branchKeys, branches, byStep]
  exact same z (by first | rfl | omega | (dsimp only; omega)) (by first | rfl | omega | (dsimp only; omega))

theorem branchValues_at (r : Fin 64) (j : Fin 3) (n : Fin 2) (l : Fin 64) :
    branchValues z (ix5 ⟨r.val / 8, by omega⟩ ⟨r.val % 8, by omega⟩ j n l) = z (ix2 r ⟨3012 + (j.val * 256 + n.val * 64 + l.val), by omega⟩) := by
  pointwise [branchValues, branches, byStep]
  exact same z (by first | rfl | omega | (dsimp only; omega)) (by first | rfl | omega | (dsimp only; omega))

/-- A table over steps as the reference spreads it over samples and eight heads. -/
def spread (x : FVec Ideal S8x32 .f32) : FVec Ideal S8x8x8x32 .f32 :=
  broadcastInDim S8x8x8x32 ![0, 1, 2, 3] bcast_S1x8x1x32_S8x8x8x32_0_1_2_3
    (broadcastInDim S1x8x1x32 ![1, 2, 3] bcast_S8x1x32_S1x8x1x32_1_2_3 (shapeCast _ x shapeCasts_S8x32_S8x1x32))

/-- The rotation of eight heads as the reference writes it. -/
def turn (x : FVec Ideal S8x8x8x64 .f32) : FVec Ideal S8x8x8x64 .f32 :=
  have a : FVec Ideal S8x8x8x32 .f32 := extractStridedSlice S8x8x8x32 ![0, 0, 0, 0] x slices_S8x8x8x64_S8x8x8x32_0_0_0_0
  have b : FVec Ideal S8x8x8x32 .f32 := extractStridedSlice S8x8x8x32 ![0, 0, 0, 32] x slices_S8x8x8x64_S8x8x8x32_0_0_0_32
  concatenate S8x8x8x64 3
    [⟨S8x8x8x32, (subf (mulf a (spread cc)) (mulf b (spread ss)) : FVec Ideal S8x8x8x32 .f32)⟩,
     ⟨S8x8x8x32, (addf (mulf a (spread ss)) (mulf b (spread cc)) : FVec Ideal S8x8x8x32 .f32)⟩]
    concatenates_S8x8x8x32_S8x8x8x32_S8x8x8x64_d3

theorem turn_at (x : FVec Ideal S8x8x8x64 .f32) (b s : Fin 8) (n : Fin 8) (l : Fin 64) :
    turn cc ss x (ix4 b s n l) = rot (fun l => x (ix4 b s n l)) (fun l => cc (ix2 s l)) (fun l => ss (ix2 s l)) l := by
  pointwise [turn, spread, rot]

/-- A table over steps spread over samples. -/
def spread₁ (x : FVec Ideal S8x32 .f32) : FVec Ideal S8x8x32 .f32 :=
  broadcastInDim S8x8x32 ![0, 1, 2] bcast_S1x8x32_S8x8x32_0_1_2 (broadcastInDim S1x8x32 ![1, 2] bcast_S8x32_S1x8x32_1_2 x)

/-- The rotation of one head. -/
def turn₁ (x : FVec Ideal S8x8x64 .f32) : FVec Ideal S8x8x64 .f32 :=
  have a : FVec Ideal S8x8x32 .f32 := extractStridedSlice S8x8x32 ![0, 0, 0] x slices_S8x8x64_S8x8x32_0_0_0
  have b : FVec Ideal S8x8x32 .f32 := extractStridedSlice S8x8x32 ![0, 0, 32] x slices_S8x8x64_S8x8x32_0_0_32
  concatenate S8x8x64 2
    [⟨S8x8x32, (subf (mulf a (spread₁ cc)) (mulf b (spread₁ ss)) : FVec Ideal S8x8x32 .f32)⟩,
     ⟨S8x8x32, (addf (mulf a (spread₁ ss)) (mulf b (spread₁ cc)) : FVec Ideal S8x8x32 .f32)⟩]
    concatenates_S8x8x32_S8x8x32_S8x8x64_d2

theorem turn₁_at (x : FVec Ideal S8x8x64 .f32) (b s : Fin 8) (l : Fin 64) :
    turn₁ cc ss x (ix3 b s l) = rot (fun l => x (ix3 b s l)) (fun l => cc (ix2 s l)) (fun l => ss (ix2 s l)) l := by
  pointwise [turn₁, spread₁, rot]

/-- A table over steps spread over samples, branches and two heads. -/
def spread₃ (x : FVec Ideal S8x32 .f32) : FVec Ideal S8x8x3x2x32 .f32 :=
  broadcastInDim S8x8x3x2x32 ![0, 1, 2, 3, 4] bcast_S1x8x1x1x32_S8x8x3x2x32_0_1_2_3_4
    (broadcastInDim S1x8x1x1x32 ![1, 2, 3, 4] bcast_S8x1x1x32_S1x8x1x1x32_1_2_3_4 (shapeCast _ x shapeCasts_S8x32_S8x1x1x32))

/-- The rotation of three branches of two heads. -/
def turn₃ (x : FVec Ideal S8x8x3x2x64 .f32) : FVec Ideal S8x8x3x2x64 .f32 :=
  have a : FVec Ideal S8x8x3x2x32 .f32 := extractStridedSlice S8x8x3x2x32 ![0, 0, 0, 0, 0] x slices_S8x8x3x2x64_S8x8x3x2x32_0_0_0_0_0
  have b : FVec Ideal S8x8x3x2x32 .f32 := extractStridedSlice S8x8x3x2x32 ![0, 0, 0, 0, 32] x slices_S8x8x3x2x64_S8x8x3x2x32_0_0_0_0_32
  concatenate S8x8x3x2x64 4
    [⟨S8x8x3x2x32, (subf (mulf a (spread₃ cc)) (mulf b (spread₃ ss)) : FVec Ideal S8x8x3x2x32 .f32)⟩,
     ⟨S8x8x3x2x32, (addf (mulf a (spread₃ ss)) (mulf b (spread₃ cc)) : FVec Ideal S8x8x3x2x32 .f32)⟩]
    concatenates_S8x8x3x2x32_S8x8x3x2x32_S8x8x3x2x64_d4

theorem turn₃_at (x : FVec Ideal S8x8x3x2x64 .f32) (b s : Fin 8) (j : Fin 3) (n : Fin 2) (l : Fin 64) :
    turn₃ cc ss x (ix5 b s j n l) = rot (fun l => x (ix5 b s j n l)) (fun l => cc (ix2 s l)) (fun l => ss (ix2 s l)) l := by
  pointwise [turn₃, spread₃, rot]

/-- The first mixer's part of a row. -/
def part₀ : FVec Ideal S64x1024 .f32 :=
  shapeCast _ (concatenate S8x8x2x8x64 2
    [⟨S8x8x1x8x64, (broadcastInDim S8x8x1x8x64 ![0, 1, 3, 4] bcast_S8x8x8x64_S8x8x1x8x64_0_1_3_4 (turn cc ss (keys z)) : FVec Ideal S8x8x1x8x64 .f32)⟩,
     ⟨S8x8x1x8x64, (broadcastInDim S8x8x1x8x64 ![0, 1, 3, 4] bcast_S8x8x8x64_S8x8x1x8x64_0_1_3_4 (values z) : FVec Ideal S8x8x1x8x64 .f32)⟩]
    concatenates_S8x8x1x8x64_S8x8x1x8x64_S8x8x2x8x64_d2) shapeCasts_S8x8x2x8x64_S64x1024

/-- The indexer's part. -/
def part₁ : FVec Ideal S64x64 .f32 := shapeCast _ (turn₁ cc ss (index z)) shapeCasts_S8x8x64_S64x64

/-- One branch of three, standing alone. -/
def branch₀ (x : FVec Ideal S8x8x3x2x64 .f32) : FVec Ideal S8x8x1x2x64 .f32 :=
  broadcastInDim S8x8x1x2x64 ![0, 1, 3, 4] bcast_S8x8x2x64_S8x8x1x2x64_0_1_3_4 (shapeCast _
    (extractStridedSlice S8x8x1x2x64 ![0, 0, 0, 0, 0] x slices_S8x8x3x2x64_S8x8x1x2x64_0_0_0_0_0) shapeCasts_S8x8x1x2x64_S8x8x2x64 : FVec Ideal S8x8x2x64 .f32)

def branch₁ (x : FVec Ideal S8x8x3x2x64 .f32) : FVec Ideal S8x8x1x2x64 .f32 :=
  broadcastInDim S8x8x1x2x64 ![0, 1, 3, 4] bcast_S8x8x2x64_S8x8x1x2x64_0_1_3_4 (shapeCast _
    (extractStridedSlice S8x8x1x2x64 ![0, 0, 1, 0, 0] x slices_S8x8x3x2x64_S8x8x1x2x64_0_0_1_0_0) shapeCasts_S8x8x1x2x64_S8x8x2x64 : FVec Ideal S8x8x2x64 .f32)

def branch₂ (x : FVec Ideal S8x8x3x2x64 .f32) : FVec Ideal S8x8x1x2x64 .f32 :=
  broadcastInDim S8x8x1x2x64 ![0, 1, 3, 4] bcast_S8x8x2x64_S8x8x1x2x64_0_1_3_4 (shapeCast _
    (extractStridedSlice S8x8x1x2x64 ![0, 0, 2, 0, 0] x slices_S8x8x3x2x64_S8x8x1x2x64_0_0_2_0_0) shapeCasts_S8x8x1x2x64_S8x8x2x64 : FVec Ideal S8x8x2x64 .f32)

theorem branch₀_at (x : FVec Ideal S8x8x3x2x64 .f32) (b s : Fin 8) (i : Fin 1) (n : Fin 2) (l : Fin 64) :
    branch₀ x (ix5 b s i n l) = x (ix5 b s 0 n l) := by
  pointwise [branch₀]

theorem branch₁_at (x : FVec Ideal S8x8x3x2x64 .f32) (b s : Fin 8) (i : Fin 1) (n : Fin 2) (l : Fin 64) :
    branch₁ x (ix5 b s i n l) = x (ix5 b s 1 n l) := by
  pointwise [branch₁]

theorem branch₂_at (x : FVec Ideal S8x8x3x2x64 .f32) (b s : Fin 8) (i : Fin 1) (n : Fin 2) (l : Fin 64) :
    branch₂ x (ix5 b s i n l) = x (ix5 b s 2 n l) := by
  pointwise [branch₂]

/-- The part of the second mixer's compressed and selected branches. -/
def part₂ : FVec Ideal S64x512 .f32 :=
  shapeCast _ (concatenate S8x8x4x2x64 2
    [⟨S8x8x1x2x64, branch₀ (turn₃ cc ss (branchKeys z))⟩, ⟨S8x8x1x2x64, branch₀ (branchValues z)⟩,
     ⟨S8x8x1x2x64, branch₁ (turn₃ cc ss (branchKeys z))⟩, ⟨S8x8x1x2x64, branch₁ (branchValues z)⟩]
    concatenates_S8x8x1x2x64_S8x8x1x2x64_S8x8x1x2x64_S8x8x1x2x64_S8x8x4x2x64_d2) shapeCasts_S8x8x4x2x64_S64x512

/-- The part of its window. -/
def part₃ : FVec Ideal S64x256 .f32 :=
  shapeCast _ (concatenate S8x8x2x2x64 2
    [⟨S8x8x1x2x64, branch₂ (turn₃ cc ss (branchKeys z))⟩, ⟨S8x8x1x2x64, branch₂ (branchValues z)⟩]
    concatenates_S8x8x1x2x64_S8x8x1x2x64_S8x8x2x2x64_d2) shapeCasts_S8x8x2x2x64_S64x256

/-- The reference's rows. -/
def joined : FVec Ideal S64x1920 .f32 :=
  concatenate S64x1920 1 [⟨S64x1024, part₀ z cc ss⟩, ⟨S64x64, part₁ z cc ss⟩, ⟨S64x512, part₂ z cc ss⟩, ⟨S64x256, part₃ z cc ss⟩,
      ⟨S64x64, (broadcastInDim S64x64 ![] bcast_S_S64x64 (constant S_ .f32 0x00000000#32) : FVec Ideal S64x64 .f32)⟩]
    concatenates_S64x1024_S64x64_S64x512_S64x256_S64x64_S64x1920_d1

theorem part₀_at (r : Fin 64) (d : Fin 1024) : part₀ z cc ss (ix2 r d)
    = row (col fun e => z (ix2 r e)) (fun l => cc (ix2 ⟨r.val % 8, by omega⟩ l)) (fun l => ss (ix2 ⟨r.val % 8, by omega⟩ l)) ⟨d.val, by omega⟩ := by
  pointwise [part₀]
  refine either (fun h => ?_) fun h => ?_
  · rw [turn_at]
    exact row_rot _ _ _ _ _ _ (turned_iff.mpr (by first | rfl | omega | (dsimp only; omega))) (by first | rfl | omega | (dsimp only; omega))
      fun l => (keys_at z r _ l).trans (col_first (fun e => z (ix2 r e)) _ _ (by first | rfl | omega | (dsimp only; omega)) (by first | rfl | omega | (dsimp only; omega)))
  · exact (values_at z r _ _).trans (((col_first (fun e => z (ix2 r e)) _ _ (by first | rfl | omega | (dsimp only; omega)) (by first | rfl | omega | (dsimp only; omega)))).trans
      (row_plain _ _ _ _ fun h => by have := turned_iff.mp h; dsimp only at this; omega))

theorem part₁_at (r : Fin 64) (d : Fin 64) : part₁ z cc ss (ix2 r d)
    = row (col fun e => z (ix2 r e)) (fun l => cc (ix2 ⟨r.val % 8, by omega⟩ l)) (fun l => ss (ix2 ⟨r.val % 8, by omega⟩ l)) ⟨1024 + d.val, by omega⟩ := by
  pointwise [part₁]
  rw [turn₁_at]
  exact row_rot _ _ _ _ _ _ (turned_iff.mpr (by first | rfl | omega | (dsimp only; omega))) (by first | rfl | omega | (dsimp only; omega))
      fun l => (index_at z r l).trans (col_second (fun e => z (ix2 r e)) _ _ (by first | rfl | omega | (dsimp only; omega)) (by first | rfl | omega | (dsimp only; omega)) (by first | rfl | omega | (dsimp only; omega)))

theorem part₂_at (r : Fin 64) (d : Fin 512) : part₂ z cc ss (ix2 r d)
    = row (col fun e => z (ix2 r e)) (fun l => cc (ix2 ⟨r.val % 8, by omega⟩ l)) (fun l => ss (ix2 ⟨r.val % 8, by omega⟩ l)) ⟨1088 + d.val, by omega⟩ := by
  pointwise [part₂]
  refine either (fun h₀ => ?_) fun h₀ => either (fun h₁ => ?_) fun h₁ => either (fun h₂ => ?_) fun h₂ => ?_
  · rw [branch₀_at, turn₃_at]
    exact row_rot _ _ _ _ _ _ (turned_iff.mpr (by first | rfl | omega | (dsimp only; omega))) (by first | rfl | omega | (dsimp only; omega))
      fun l => (branchKeys_at z r _ _ l).trans (col_third (fun e => z (ix2 r e)) _ _ (by first | rfl | omega | (dsimp only; omega)) (by first | rfl | omega | (dsimp only; omega)) (by first | rfl | omega | (dsimp only; omega)))
  · rw [branch₀_at]
    exact (branchValues_at z r _ _ _).trans (((col_third (fun e => z (ix2 r e)) _ _ (by first | rfl | omega | (dsimp only; omega)) (by first | rfl | omega | (dsimp only; omega)) (by first | rfl | omega | (dsimp only; omega)))).trans
      (row_plain _ _ _ _ fun h => by have := turned_iff.mp h; dsimp only at this; omega))
  · rw [branch₁_at, turn₃_at]
    exact row_rot _ _ _ _ _ _ (turned_iff.mpr (by first | rfl | omega | (dsimp only; omega))) (by first | rfl | omega | (dsimp only; omega))
      fun l => (branchKeys_at z r _ _ l).trans (col_third (fun e => z (ix2 r e)) _ _ (by first | rfl | omega | (dsimp only; omega)) (by first | rfl | omega | (dsimp only; omega)) (by first | rfl | omega | (dsimp only; omega)))
  · rw [branch₁_at]
    exact (branchValues_at z r _ _ _).trans (((col_third (fun e => z (ix2 r e)) _ _ (by first | rfl | omega | (dsimp only; omega)) (by first | rfl | omega | (dsimp only; omega)) (by first | rfl | omega | (dsimp only; omega)))).trans
      (row_plain _ _ _ _ fun h => by have := turned_iff.mp h; dsimp only at this; omega))

theorem part₃_at (r : Fin 64) (d : Fin 256) : part₃ z cc ss (ix2 r d)
    = row (col fun e => z (ix2 r e)) (fun l => cc (ix2 ⟨r.val % 8, by omega⟩ l)) (fun l => ss (ix2 ⟨r.val % 8, by omega⟩ l)) ⟨1600 + d.val, by omega⟩ := by
  pointwise [part₃]
  refine either (fun h => ?_) fun h => ?_
  · rw [branch₂_at, turn₃_at]
    exact row_rot _ _ _ _ _ _ (turned_iff.mpr (by first | rfl | omega | (dsimp only; omega))) (by first | rfl | omega | (dsimp only; omega))
      fun l => (branchKeys_at z r _ _ l).trans (col_third (fun e => z (ix2 r e)) _ _ (by first | rfl | omega | (dsimp only; omega)) (by first | rfl | omega | (dsimp only; omega)) (by first | rfl | omega | (dsimp only; omega)))
  · rw [branch₂_at]
    exact (branchValues_at z r _ _ _).trans (((col_third (fun e => z (ix2 r e)) _ _ (by first | rfl | omega | (dsimp only; omega)) (by first | rfl | omega | (dsimp only; omega)) (by first | rfl | omega | (dsimp only; omega)))).trans
      (row_plain _ _ _ _ fun h => by have := turned_iff.mp h; dsimp only at this; omega))

/-- The reference at an element. -/
theorem joined_at (r : Fin 64) (d : Fin 1920) : joined z cc ss (ix2 r d)
    = row (col fun e => z (ix2 r e)) (fun l => cc (ix2 ⟨r.val % 8, by omega⟩ l)) (fun l => ss (ix2 ⟨r.val % 8, by omega⟩ l)) d := by
  have e : ∀ n (hn : n < 1920), n = d.val → row (col fun e => z (ix2 r e)) (fun l => cc (ix2 ⟨r.val % 8, by omega⟩ l))
      (fun l => ss (ix2 ⟨r.val % 8, by omega⟩ l)) ⟨n, hn⟩ = row (col fun e => z (ix2 r e)) (fun l => cc (ix2 ⟨r.val % 8, by omega⟩ l))
      (fun l => ss (ix2 ⟨r.val % 8, by omega⟩ l)) d := fun n hn h => by subst h; rfl
  pointwise [joined]
  refine either (fun h₀ => ?_) fun h₀ => either (fun h₁ => ?_) fun h₁ => either (fun h₂ => ?_) fun h₂ => either (fun h₃ => ?_) fun h₃ => ?_
  · exact part₀_at z cc ss r _
  · exact (part₁_at z cc ss r _).trans (e _ _ (by first | rfl | omega | (dsimp only; omega)))
  · exact (part₂_at z cc ss r _).trans (e _ _ (by first | rfl | omega | (dsimp only; omega)))
  · exact (part₃_at z cc ss r _).trans (e _ _ (by first | rfl | omega | (dsimp only; omega)))
  · exact (col_last (fun e => z (ix2 r e)) d (by omega)).trans
      (row_plain _ _ _ _ fun h => by have := turned_iff.mp h; omega)

end Reference

/-- Both programs compute that function. -/
theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    rw [final, Cert.Kernel7Ideal.Gen.V_main_arg0, V_prepared, V_cosines, V_sines]
    obtain ⟨e0, e1⟩ := hagree c
    unfold Cert.Reference7Ideal.Value.res_main_v142
    funext j
    idx_vars j
    refine (joined_at (Host.dotGeneral Cert.Reference7Ideal.dot_S64x2048_S2048x13924_S64x13924_1_0_0_1_n_n none
      (extf .f32 (m' ((c : Thread Cert.Reference7Ideal.nD Cert.Reference7Ideal.τ).loc Cert.Reference7Ideal.main_arg0)) Cert.Reference7Ideal.Gen.bitsLt_bf16_f32)
      (m' ((c : Thread Cert.Reference7Ideal.nD Cert.Reference7Ideal.τ).loc Cert.Reference7Ideal.main_arg1))) (Host.cos angle) (Host.sin angle) j0 j1).trans ?_
    simp only [dot_at]
    rw [← e0, ← e1]
    exact (kernel_at _ _ _ _ j0 j1).symm

end Cert.Proof.Rows

end
-- ==== Proof.Plain.lean ====
/-
  The plain columns of the input projection: the normed rows times the weights' columns in the order the scans read them, on blocks
  of 1024 by 1024 against one product over all columns whose pieces are put side by side. The last 476 columns are zero.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Proof.Plain

open Idealize.ShloMosaic Idealize.ShloMosaic.TcCoe Idealize.SL.Sem
open Idealize.ShloMosaic.Pointwise

/-- The weights' columns in the order of the result; the last ones are zero. -/
def col (w : Fin 13924 → EReal) (d : Fin 3072) : EReal :=
  if h₀ : d.val < 512 then w ⟨d.val, by omega⟩
  else if h₁ : d.val - 512 < 512 then w ⟨5220 + (d.val - 512), by omega⟩
  else if h₂ : d.val - 512 - 512 < 1536 then w ⟨3676 + (d.val - 512 - 512), by omega⟩
  else if h₃ : d.val - 512 - 512 - 1536 < 4 then w ⟨2368 + (d.val - 512 - 512 - 1536), by omega⟩
  else if h₄ : d.val - 512 - 512 - 1536 - 4 < 24 then w ⟨3652 + (d.val - 512 - 512 - 1536 - 4), by omega⟩
  else if h₅ : d.val - 512 - 512 - 1536 - 4 - 24 < 8 then w ⟨5212 + (d.val - 512 - 512 - 1536 - 4 - 24), by omega⟩
  else 0

section Kernel

open Cert.Kernel8Ideal Cert.Kernel8Ideal.Gen

variable (m : (ℓ : Loc nD τ sig) → Buf (Elt Ideal) ℓ) (ρ : Dev nD → PrngReg)

/-- The result, element by element, over the prepared weights. -/
def G (h : S8192x2048.Idx → EReal) (wt : S3072x2048.Idx → EReal) (i : S8192x3072.Idx) : EReal :=
  ∑ k : Fin 2048, h (ix2 (i 0) k) * wt (ix2 (i 1) k)

theorem idx : ∀ t : Fin cfg0.N, win0_0.index t = ![t.val / 3, 0] ∧ win0_1.index t = ![t.val % 3, 0]
    ∧ win0_2.index t = ![t.val / 3, t.val % 3] :=
  (by decide +kernel : ∀ t : Fin grid0.N, win0_0.index t = ![t.val / 3, 0] ∧ win0_1.index t = ![t.val % 3, 0]
    ∧ win0_2.index t = ![t.val / 3, t.val % 3])

/-- The weights as the host prepares them: transposed, cut, put in the order of the result, padded. -/
def prepared (w : FVec Ideal S2048x13924 .f32) : FVec Ideal S3072x2048 .bf16 :=
  have wt := transpose S13924x2048 [1, 0] w transposes_S2048x13924_S13924x2048_1_0
  truncf .bf16 (concatenate S3072x2048 0
    [⟨S512x2048, (extractStridedSlice S512x2048 ![0, 0] wt slices_S13924x2048_S512x2048_0_0 : FVec Ideal S512x2048 .f32)⟩,
     ⟨S512x2048, (extractStridedSlice S512x2048 ![5220, 0] wt slices_S13924x2048_S512x2048_5220_0 : FVec Ideal S512x2048 .f32)⟩,
     ⟨S1536x2048, (extractStridedSlice S1536x2048 ![3676, 0] wt slices_S13924x2048_S1536x2048_3676_0 : FVec Ideal S1536x2048 .f32)⟩,
     ⟨S36x2048, (concatenate S36x2048 0
        [⟨S4x2048, (extractStridedSlice S4x2048 ![2368, 0] wt slices_S13924x2048_S4x2048_2368_0 : FVec Ideal S4x2048 .f32)⟩,
         ⟨S24x2048, (extractStridedSlice S24x2048 ![3652, 0] wt slices_S13924x2048_S24x2048_3652_0 : FVec Ideal S24x2048 .f32)⟩,
         ⟨S8x2048, (extractStridedSlice S8x2048 ![5212, 0] wt slices_S13924x2048_S8x2048_5212_0 : FVec Ideal S8x2048 .f32)⟩]
        concatenates_S4x2048_S24x2048_S8x2048_S36x2048_d0 : FVec Ideal S36x2048 .f32)⟩,
     ⟨S476x2048, (broadcastInDim S476x2048 ![] bcast_S_S476x2048 (constant S_ .f32 0x00000000#32) : FVec Ideal S476x2048 .f32)⟩]
    concatenates_S512x2048_S512x2048_S1536x2048_S36x2048_S476x2048_S3072x2048_d0) bitsLt_bf16_f32

/-- The launch finds them. -/
theorem V_prepared (c : Dev nD) : V m c main_v10 = prepared (m ((c : Thread nD τ).loc main_arg1)) := by
  unfold V
  after_results <;> rfl

/-- They at an element. -/
theorem prepared_at (w : FVec Ideal S2048x13924 .f32) (d : Fin 3072) (k : Fin 2048) :
    prepared w (ix2 d k) = col (fun d => w (ix2 k d)) d := by
  pointwise [prepared, col]
  split_ifs <;> first | rfl | (exfalso; omega) | rw [dif_pos (by omega)]

/-- The result array after the run. -/
theorem final (c : Dev nD) : (dats m 0 c).arrAt 2 cfg0.N = G (V m c main_arg0) (V m c main_v10) := by
  refine (dats m 0 c).arrAt_eq_of_covers 2 _ (by decide +kernel) fun t hf y => ?_
  obtain ⟨h0, h1, h2⟩ := idx t
  have ht : t.val < 24 := t.isLt
  blk_simp
  rw [after0_2]
  frame_out
  pointwise [k0_pay1, G]
  blk_point [iblk, h0, h1, h2]

end Kernel

section Reference

open Cert.Reference8Ideal Cert.Reference8Ideal.Gen

/-- The whole product of the reference at an element. -/
theorem dot_at (h : FVec Ideal S8192x2048 .bf16) (w : FVec Ideal S2048x13924 .f32) (r : Fin 8192) (d : Fin 13924) :
    Host.dotGeneral dot_S8192x2048_S2048x13924_S8192x13924_1_0_0_1_n_n none (extf .f32 h bitsLt_bf16_f32) w (ix2 r d)
      = ∑ k : Fin 2048, h (ix2 r k) * w (ix2 k d) := by
  pointwise

/-- Its columns put in the order of the result, as the reference does. -/
def pieces (z : FVec Ideal S8192x13924 .f32) : FVec Ideal S8192x3072 .f32 :=
  concatenate S8192x3072 1
    [⟨S8192x512, (extractStridedSlice S8192x512 ![0, 0] z slices_S8192x13924_S8192x512_0_0 : FVec Ideal S8192x512 .f32)⟩,
     ⟨S8192x512, (extractStridedSlice S8192x512 ![0, 5220] z slices_S8192x13924_S8192x512_0_5220 : FVec Ideal S8192x512 .f32)⟩,
     ⟨S8192x1536, (extractStridedSlice S8192x1536 ![0, 3676] z slices_S8192x13924_S8192x1536_0_3676 : FVec Ideal S8192x1536 .f32)⟩,
     ⟨S8192x4, (extractStridedSlice S8192x4 ![0, 2368] z slices_S8192x13924_S8192x4_0_2368 : FVec Ideal S8192x4 .f32)⟩,
     ⟨S8192x24, (extractStridedSlice S8192x24 ![0, 3652] z slices_S8192x13924_S8192x24_0_3652 : FVec Ideal S8192x24 .f32)⟩,
     ⟨S8192x8, (extractStridedSlice S8192x8 ![0, 5212] z slices_S8192x13924_S8192x8_0_5212 : FVec Ideal S8192x8 .f32)⟩,
     ⟨S8192x476, (broadcastInDim S8192x476 ![] bcast_S_S8192x476 (constant S_ .f32 0x00000000#32) : FVec Ideal S8192x476 .f32)⟩]
    concatenates_S8192x512_S8192x512_S8192x1536_S8192x4_S8192x24_S8192x8_S8192x476_S8192x3072_d1

/-- They at an element. -/
theorem pieces_at (z : FVec Ideal S8192x13924 .f32) (r : Fin 8192) (d : Fin 3072) :
    pieces z (ix2 r d) = col (fun d => z (ix2 r d)) d := by
  pointwise [pieces, col]

/-- A product with the ordered columns is the ordered columns' product. -/
theorem col_sum (h : Fin 2048 → EReal) (w : Fin 2048 → Fin 13924 → EReal) (d : Fin 3072) :
    ∑ k, h k * col (w k) d = col (fun d => ∑ k, h k * w k d) d := by
  unfold col
  split_ifs <;> first | rfl | simp only [mul_zero, Finset.sum_const_zero]

end Reference

/-- Both programs compute that function. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    rw [final, Cert.Kernel8Ideal.Gen.V_main_arg0, V_prepared]
    funext j
    idx_vars j
    refine (pieces_at _ j0 j1).trans ?_
    simp only [dot_at]
    refine Eq.trans (col_sum (fun k => m ((c : Thread Cert.Kernel8Ideal.nD Cert.Kernel8Ideal.τ).loc Cert.Kernel8Ideal.main_arg0) (ix2 j0 k))
      (fun k d => m ((c : Thread Cert.Kernel8Ideal.nD Cert.Kernel8Ideal.τ).loc Cert.Kernel8Ideal.main_arg1) (ix2 k d)) j1).symm ?_
    exact Finset.sum_congr rfl fun k _ => congrArg _ (prepared_at _ j1 k).symm

end Cert.Proof.Plain

end
-- ==== Proof.Mixed.lean ====
/-
  The residual product at the mixer's output: `x + gate · (merged @ w_out)` on row blocks of 512 against the same sum over whole
  arrays, as for the feed-forward network (Resid.lean) with another width, another row of the modulation and the factor one.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Proof.Mixed

open Idealize.ShloMosaic Idealize.ShloMosaic.TcCoe Idealize.SL.Sem
open Idealize.ShloMosaic.Pointwise

/-- The batch of a row. -/
def batch (r : Fin 8192) : Fin 2 := ⟨r.val / 4096, by omega⟩

section Kernel

open Cert.Kernel9Ideal Cert.Kernel9Ideal.Gen

variable (m : (ℓ : Loc nD τ sig) → Buf (Elt Ideal) ℓ) (ρ : Dev nD → PrngReg)

/-- The result, element by element. -/
def G (act : S8192x2048.Idx → EReal) (w : S2048x2048.Idx → EReal) (x : S8192x2048.Idx → EReal)
    (ada : S2x9x2048.Idx → EReal) (i : S8192x2048.Idx) : EReal :=
  x (ix2 (i 0) (i 1)) + ada (ix3 (batch (i 0)) 5 (i 1))
    * ∑ k : Fin 2048, act (ix2 (i 0) k) * w (ix2 k (i 1))

theorem idx : ∀ t : Fin cfg0.N, win0_0.index t = ![t.val, 0] ∧ win0_1.index t = ![0, 0] ∧ win0_2.index t = ![t.val, 0]
    ∧ win0_3.index t = ![t.val / 8, 0, 0] ∧ win0_4.index t = ![t.val, 0] :=
  (by decide +kernel : ∀ t : Fin grid0.N, win0_0.index t = ![t.val, 0] ∧ win0_1.index t = ![0, 0] ∧ win0_2.index t = ![t.val, 0]
    ∧ win0_3.index t = ![t.val / 8, 0, 0] ∧ win0_4.index t = ![t.val, 0])

/-- The result array after the run. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨h0, h1, h2, h3, h4⟩ := idx t
  have ht : t.val < 16 := t.isLt
  blk_simp
  rw [after0_4]
  frame_out
  pointwise [k0_pay1, G, batch]
  blk_point [iblk, V, h0, h1, h2, h3, h4]

end Kernel

section Reference

open Cert.Reference9Ideal Cert.Reference9Ideal.Gen

/-- The whole product of the reference at an element. -/
theorem dot_at (act : FVec Ideal S8192x2048 .bf16) (w : FVec Ideal S2048x2048 .f32) (r : Fin 8192) (d : Fin 2048) :
    Host.dotGeneral dot_S8192x2048_S2048x2048_S8192x2048_1_0_0_1_n_n none (extf .f32 act bitsLt_bf16_f32) w (ix2 r d)
      = ∑ k : Fin 2048, act (ix2 r k) * w (ix2 k d) := by
  pointwise

/-- Splitting the rows by batch keeps the elements. -/
theorem split_at (v : FVec Ideal S8192x2048 .f32) (b : Fin 2) (q : Fin 4096) (d : Fin 2048) :
    shapeCast S2x4096x2048 v shapeCasts_S8192x2048_S2x4096x2048 (ix3 b q d)
      = v (ix2 ⟨b.val * 4096 + q.val, by omega⟩ d) := by
  pointwise

/-- The rows of the batches put behind one another. -/
theorem join_at (v : FVec Ideal S2x4096x2048 .f32) (r : Fin 8192) (d : Fin 2048) :
    shapeCast S8192x2048 v shapeCasts_S2x4096x2048_S8192x2048 (ix2 r d)
      = v (ix3 (batch r) ⟨r.val % 4096, by omega⟩ d) := by
  pointwise [batch]

/-- The gate of a batch, spread over its rows. -/
theorem gate_at (ada : FVec Ideal S2x9x2048 .f32) (b : Fin 2) (q : Fin 4096) (d : Fin 2048) :
    broadcastInDim S2x4096x2048 ![0, 1, 2] bcast_S2x1x2048_S2x4096x2048_0_1_2
      (broadcastInDim S2x1x2048 ![0, 2] bcast_S2x2048_S2x1x2048_0_2
        (shapeCast S2x2048 (extractStridedSlice S2x1x2048 ![0, 5, 0] ada slices_S2x9x2048_S2x1x2048_0_5_0)
          shapeCasts_S2x1x2048_S2x2048)) (ix3 b q d)
      = ada (ix3 b 5 d) := by
  pointwise

end Reference

/-- Both programs compute that function. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    rw [final]
    funext j
    idx_vars j
    have hr : (⟨(batch j0).val * 4096 + j0.val % 4096, by simp only [batch]; omega⟩ : Fin 8192) = j0 :=
      Fin.ext (by simp only [batch]; omega)
    refine (join_at _ j0 j1).trans ?_
    rw [addf_apply, mulf_apply]
    erw [gate_at, split_at, split_at, dot_at]
    rw [hr]
    rfl

end Cert.Proof.Mixed

end
-- ==== Proof.Last.lean ====
/-
  The last norm of the prompt: each row over the root of its mean square, scaled by column, on row blocks of 512 against whole
  arrays. The result is read at one element.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Proof.Last

open Idealize.ShloMosaic Idealize.ShloMosaic.TcCoe Idealize.SL.Sem
open Idealize.ShloMosaic.Pointwise

section Kernel

open Cert.Kernel10Ideal Cert.Kernel10Ideal.Gen

variable (m : (ℓ : Loc nD τ sig) → Buf (Elt Ideal) ℓ) (ρ : Dev nD → PrngReg)

/-- The result, element by element. -/
def G (x : S8192x2048.Idx → EReal) (g : S2048.Idx → EReal) (i : S8192x2048.Idx) : EReal :=
  x (ix2 (i 0) (i 1)) * Ideal.rsqrt (Ideal.div (∑ k : Fin 2048, x (ix2 (i 0) k) * x (ix2 (i 0) k)) (Ideal.ofBits .f32 0x45000000#32)
      + Ideal.ofBits .f32 0x358637BD#32) * g (ix1 (i 1))

theorem idx : ∀ t : Fin cfg0.N, win0_0.index t = ![t.val, 0] ∧ win0_1.index t = ![0, 0] ∧ win0_3.index t = ![t.val, 0] :=
  (by decide +kernel : ∀ t : Fin grid0.N, win0_0.index t = ![t.val, 0] ∧ win0_1.index t = ![0, 0] ∧ win0_3.index t = ![t.val, 0])

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  obtain ⟨h0, h1, h3⟩ := idx t
  have ht : t.val < 16 := t.isLt
  blk_simp
  rw [after0_3]
  frame_out
  pointwise [k0_pay1, G]
  blk_point [iblk, V, h0, h1, h3]

end Kernel

section Reference

open Cert.Reference10Ideal Cert.Reference10Ideal.Gen

/-- The norm as the reference builds it. -/
def norm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- It at an element. -/
theorem norm_at (x : FVec Ideal S8192x2048 .f32) (g : FVec Ideal S2048 .f32) (r : Fin 8192) (d : Fin 2048) :
    norm x g (ix2 r d) = G x g (ix2 r d) := by
  pointwise [norm, G]

end Reference

/-- Both programs compute that function. -/
theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    rw [final]
    funext j
    idx_vars j
    exact norm_at _ _ j0 j1

end Cert.Proof.Last

end
-- ==== Proof.LastRows.lean ====
/-
  The last norm of the samples, on row blocks of 8 against whole arrays, as for the prompt (Last.lean).
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Proof.LastRows

open Idealize.ShloMosaic Idealize.ShloMosaic.TcCoe Idealize.SL.Sem
open Idealize.ShloMosaic.Pointwise

section Kernel

open Cert.Kernel11Ideal Cert.Kernel11Ideal.Gen

variable (m : (ℓ : Loc nD τ sig) → Buf (Elt Ideal) ℓ) (ρ : Dev nD → PrngReg)

/-- The result, element by element. -/
def G (x : S64x2048.Idx → EReal) (g : S2048.Idx → EReal) (i : S64x2048.Idx) : EReal :=
  x (ix2 (i 0) (i 1)) * Ideal.rsqrt (Ideal.div (∑ k : Fin 2048, x (ix2 (i 0) k) * x (ix2 (i 0) k)) (Ideal.ofBits .f32 0x45000000#32)
      + Ideal.ofBits .f32 0x358637BD#32) * g (ix1 (i 1))

theorem idx : ∀ t : Fin cfg0.N, win0_0.index t = ![t.val, 0] ∧ win0_1.index t = ![0, 0] ∧ win0_3.index t = ![t.val, 0] :=
  (by decide +kernel : ∀ t : Fin grid0.N, win0_0.index t = ![t.val, 0] ∧ win0_1.index t = ![0, 0] ∧ win0_3.index t = ![t.val, 0])

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  obtain ⟨h0, h1, h3⟩ := idx t
  have ht : t.val < 8 := t.isLt
  blk_simp
  rw [after0_3]
  frame_out
  pointwise [k0_pay1, G]
  blk_point [iblk, V, h0, h1, h3]

end Kernel

section Reference

open Cert.Reference11Ideal Cert.Reference11Ideal.Gen

/-- The norm as the reference builds it. -/
def norm (x : FVec Ideal S64x2048 .f32) (g : FVec Ideal S2048 .f32) : FVec Ideal S64x2048 .f32 :=
  mulf (mulf x (broadcastInDim S64x2048 ![0, 1] bcast_S64x1_S64x2048_0_1 (Host.rsqrt (addf (Host.divf
    (broadcastInDim S64x1 ![0] bcast_S64_S64x1_0 (Host.reduceAdd (mulf x x) (constant S_ .f32 0x00000000#32)
      reducesTo_S64x2048_S64_d1 h_S_)) (broadcastInDim S64x1 ![] bcast_S_S64x1 (constant S_ .f32 0x45000000#32)))
    (broadcastInDim S64x1 ![] bcast_S_S64x1 (constant S_ .f32 0x358637BD#32))))))
    (broadcastInDim S64x2048 ![0, 1] bcast_S1x2048_S64x2048_0_1 (broadcastInDim S1x2048 ![1] bcast_S2048_S1x2048_1 g))

/-- It at an element. -/
theorem norm_at (x : FVec Ideal S64x2048 .f32) (g : FVec Ideal S2048 .f32) (r : Fin 64) (d : Fin 2048) :
    norm x g (ix2 r d) = G x g (ix2 r d) := by
  pointwise [norm, G]

end Reference

/-- Both programs compute that function. -/
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    rw [final]
    funext j
    idx_vars j
    exact norm_at _ _ j0 j1

end Cert.Proof.LastRows

end
-- ==== Proof.lean ====
module

public import proofs.«01_k».proof.Defs
public import proofs.«01_k».proof.Proof.Final
public import proofs.«01_k».proof.Proof.Merge
public import proofs.«01_k».proof.Proof.Resid
public import proofs.«01_k».proof.Proof.Swiglu
public import proofs.«01_k».proof.Proof.Gen.Kernel5.Frame
public import proofs.«01_k».proof.Proof.Gen.Kernel5Ideal.Frame
public import proofs.«01_k».proof.Proof.Queries
public import proofs.«01_k».proof.Proof.Rows
public import proofs.«01_k».proof.Proof.Plain
public import proofs.«01_k».proof.Proof.Mixed
public import proofs.«01_k».proof.Proof.Last
public import proofs.«01_k».proof.Proof.LastRows
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import Idealize.ShloMosaic.Adequacy
public import Idealize.ShloMosaic.Init

@[expose] public section

noncomputable section

namespace Cert.Proof

open Idealize.ShloMosaic Idealize.ShloMosaic.TcCoe Idealize.SL.Sem

theorem bitexact : Cert.bitexact_Kernel_Reference (hKernel := Cert.Kernel.Gen.facts) (hReference := Cert.Reference.Gen.facts) := by
  intro m g m' g' _ h
  refine ⟨fun c => tiles (Kernel.out m c), ?_, ?_⟩
  · exact (θ_run Cert.Kernel.defs _ _).mono (fun r hr c => ⟨(hr.1 c).1.trans (Kernel.final m c), (hr.1 c).2⟩) (Kernel.run m g)
  · refine (θ_run Cert.Reference.defs _ _).mono (fun r hr c => ⟨(hr.1 c).1.trans ((Reference.final m' c).trans ?_), (hr.1 c).2⟩)
      (Reference.run m' g')
    exact congrArg tiles (funext fun t => blocks m m' c t (h c).1 (h c).2.1 (h c).2.2.1 (h c).2.2.2)

/-- The merge reference's frame: its run read at its arguments; it declares no semaphore. -/
theorem frame2 : Cert.quiescent_Reference2Ideal (hReference2Ideal := Cert.Reference2Ideal.Gen.facts) := by
  intro m g _
  exact (θ_run Cert.Reference2Ideal.defs _ _).mono (fun r h => ⟨fun c => (h c).2, Idealize.ShloMosaic.sem_eq_zero_of_no_sems (by decide) r.2⟩)
    (Cert.Reference2Ideal.Value.run m g)

/-- The residual product's reference, likewise. -/
theorem frame3 : Cert.quiescent_Reference3Ideal (hReference3Ideal := Cert.Reference3Ideal.Gen.facts) := by
  intro m g _
  exact (θ_run Cert.Reference3Ideal.defs _ _).mono (fun r h => ⟨fun c => (h c).2, Idealize.ShloMosaic.sem_eq_zero_of_no_sems (by decide) r.2⟩)
    (Cert.Reference3Ideal.Value.run m g)

/-- The gated unit's reference, likewise. -/
theorem frame4 : Cert.quiescent_Reference4Ideal (hReference4Ideal := Cert.Reference4Ideal.Gen.facts) := by
  intro m g _
  exact (θ_run Cert.Reference4Ideal.defs _ _).mono (fun r h => ⟨fun c => (h c).2, Idealize.ShloMosaic.sem_eq_zero_of_no_sems (by decide) r.2⟩)
    (Cert.Reference4Ideal.Value.run m g)

/-- The query rows, likewise. -/
theorem frame6 : Cert.quiescent_Reference6Ideal (hReference6Ideal := Cert.Reference6Ideal.Gen.facts) := by
  intro m g _
  exact (θ_run Cert.Reference6Ideal.defs _ _).mono (fun r h => ⟨fun c => (h c).2, Idealize.ShloMosaic.sem_eq_zero_of_no_sems (by decide) r.2⟩)
    (Cert.Reference6Ideal.Value.run m g)

/-- The samples' rows, likewise. -/
theorem frame7 : Cert.quiescent_Reference7Ideal (hReference7Ideal := Cert.Reference7Ideal.Gen.facts) := by
  intro m g _
  exact (θ_run Cert.Reference7Ideal.defs _ _).mono (fun r h => ⟨fun c => (h c).2, Idealize.ShloMosaic.sem_eq_zero_of_no_sems (by decide) r.2⟩)
    (Cert.Reference7Ideal.Value.run m g)

/-- The plain columns, likewise. -/
theorem frame8 : Cert.quiescent_Reference8Ideal (hReference8Ideal := Cert.Reference8Ideal.Gen.facts) := by
  intro m g _
  exact (θ_run Cert.Reference8Ideal.defs _ _).mono (fun r h => ⟨fun c => (h c).2, Idealize.ShloMosaic.sem_eq_zero_of_no_sems (by decide) r.2⟩)
    (Cert.Reference8Ideal.Value.run m g)

/-- The mixer's output, likewise. -/
theorem frame9 : Cert.quiescent_Reference9Ideal (hReference9Ideal := Cert.Reference9Ideal.Gen.facts) := by
  intro m g _
  exact (θ_run Cert.Reference9Ideal.defs _ _).mono (fun r h => ⟨fun c => (h c).2, Idealize.ShloMosaic.sem_eq_zero_of_no_sems (by decide) r.2⟩)
    (Cert.Reference9Ideal.Value.run m g)

/-- The last norm, likewise. -/
theorem frame10 : Cert.quiescent_Reference10Ideal (hReference10Ideal := Cert.Reference10Ideal.Gen.facts) := by
  intro m g _
  exact (θ_run Cert.Reference10Ideal.defs _ _).mono (fun r h => ⟨fun c => (h c).2, Idealize.ShloMosaic.sem_eq_zero_of_no_sems (by decide) r.2⟩)
    (Cert.Reference10Ideal.Value.run m g)

/-- The samples' last norm, likewise. -/
theorem frame11 : Cert.quiescent_Reference11Ideal (hReference11Ideal := Cert.Reference11Ideal.Gen.facts) := by
  intro m g _
  exact (θ_run Cert.Reference11Ideal.defs _ _).mono (fun r h => ⟨fun c => (h c).2, Idealize.ShloMosaic.sem_eq_zero_of_no_sems (by decide) r.2⟩)
    (Cert.Reference11Ideal.Value.run m g)

theorem claim : Cert.Claim :=
  ⟨Cert.Kernel.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m ρ _ => Kernel.frame (F := Bits) m ρ, fun m ρ _ => Reference.frame m ρ,
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ,
    fun m ρ _ => Cert.Kernel6.Gen.frame m ρ, fun m ρ _ => Cert.Kernel6Ideal.Gen.frame m ρ, frame6,
    fun m ρ _ => Cert.Kernel7.Gen.frame m ρ, fun m ρ _ => Cert.Kernel7Ideal.Gen.frame m ρ, frame7,
    fun m ρ _ => Cert.Kernel8.Gen.frame m ρ, fun m ρ _ => Cert.Kernel8Ideal.Gen.frame m ρ, frame8,
    fun m ρ _ => Cert.Kernel9.Gen.frame m ρ, fun m ρ _ => Cert.Kernel9Ideal.Gen.frame m ρ, frame9,
    fun m ρ _ => Cert.Kernel10.Gen.frame m ρ, fun m ρ _ => Cert.Kernel10Ideal.Gen.frame m ρ, frame10,
    fun m ρ _ => Cert.Kernel11.Gen.frame m ρ, fun m ρ _ => Cert.Kernel11Ideal.Gen.frame m ρ, frame11,
    bitexact, trivial, Merge.algebraic, trivial, Resid.algebraic, trivial, Swiglu.algebraic,
    trivial,
    trivial, Queries.algebraic,
    trivial, Rows.algebraic,
    trivial, Plain.algebraic,
    trivial, Mixed.algebraic,
    trivial, Last.algebraic,
    trivial, LastRows.algebraic⟩

end Cert.Proof
